-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelUp [hPre_experts : Cert.Pre_experts.Facts] (m : (ℓ : Loc Cert.KernelUp.nD Cert.KernelUp.τ Cert.KernelUp.sig) → Buf (Elt Bits) ℓ) : Prop :=
  ∀ c : Dev Cert.KernelUp.nD,
    (Cert.Pre_experts.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3))) = (fun _ => 1#1)

def Pre_KernelUpIdeal [hPre_experts : Cert.Pre_experts.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_experts.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))) = (fun _ => 1#1)

def Pre_ReferenceUpIdeal [hPre_experts : Cert.Pre_experts.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_experts.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3))) = (fun _ => 1#1)

def Pre_KernelDown [hPre_all_experts : Cert.Pre_all_experts.Facts] (m : (ℓ : Loc Cert.KernelDown.nD Cert.KernelDown.τ Cert.KernelDown.sig) → Buf (Elt Bits) ℓ) : Prop :=
  ∀ c : Dev Cert.KernelDown.nD,
    (Cert.Pre_all_experts.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3)) (m ((c.tc : Thread Cert.KernelDown.nD Cert.KernelDown.τ).loc Cert.KernelDown.main_arg4)) (m ((c.tc : Thread Cert.KernelDown.nD Cert.KernelDown.τ).loc Cert.KernelDown.main_arg5))) = (fun _ => 1#1)

def Pre_KernelDownIdeal [hPre_all_experts : Cert.Pre_all_experts.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_all_experts.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4)) (m ((c.tc : Thread Cert.KernelDownIdeal.nD Cert.KernelDownIdeal.τ).loc Cert.KernelDownIdeal.main_arg5))) = (fun _ => 1#1)

def Pre_ReferenceDownIdeal [hPre_all_experts : Cert.Pre_all_experts.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_all_experts.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3)) (m ((c.tc : Thread Cert.ReferenceDownIdeal.nD Cert.ReferenceDownIdeal.τ).loc Cert.ReferenceDownIdeal.main_arg4)) (m ((c.tc : Thread Cert.ReferenceDownIdeal.nD Cert.ReferenceDownIdeal.τ).loc Cert.ReferenceDownIdeal.main_arg5))) = (fun _ => 1#1)

def Pre_KernelProjA (m : (ℓ : Loc Cert.KernelProjA.nD Cert.KernelProjA.τ Cert.KernelProjA.sig) → Buf (Elt Bits) ℓ) : Prop :=
  True

def Pre_KernelProjAIdeal (m : (ℓ : Loc Cert.KernelProjAIdeal.nD Cert.KernelProjAIdeal.τ Cert.KernelProjAIdeal.sig) → Buf (Elt Ideal) ℓ) : Prop :=
  True

def Pre_ReferenceProjAIdeal (m : (ℓ : Loc Cert.ReferenceProjAIdeal.nD Cert.ReferenceProjAIdeal.τ Cert.ReferenceProjAIdeal.sig) → Buf (Elt Ideal) ℓ) : Prop :=
  True

def Pre_KernelProjB (m : (ℓ : Loc Cert.KernelProjB.nD Cert.KernelProjB.τ Cert.KernelProjB.sig) → Buf (Elt Bits) ℓ) : Prop :=
  True

def Pre_KernelProjBIdeal (m : (ℓ : Loc Cert.KernelProjBIdeal.nD Cert.KernelProjBIdeal.τ Cert.KernelProjBIdeal.sig) → Buf (Elt Ideal) ℓ) : Prop :=
  True

def Pre_ReferenceProjBIdeal (m : (ℓ : Loc Cert.ReferenceProjBIdeal.nD Cert.ReferenceProjBIdeal.τ Cert.ReferenceProjBIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelComb (m : (ℓ : Loc Cert.KernelComb.nD Cert.KernelComb.τ Cert.KernelComb.sig) → Buf (Elt Bits) ℓ) : Prop :=
  True

def Pre_KernelCombIdeal (m : (ℓ : Loc Cert.KernelCombIdeal.nD Cert.KernelCombIdeal.τ Cert.KernelCombIdeal.sig) → Buf (Elt Ideal) ℓ) : Prop :=
  True

def Pre_ReferenceCombIdeal (m : (ℓ : Loc Cert.ReferenceCombIdeal.nD Cert.ReferenceCombIdeal.τ Cert.ReferenceCombIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelUp [hKernelUp : Cert.KernelUp.Facts] [hPre_experts : Cert.Pre_experts.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] [hPre_experts : Cert.Pre_experts.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] [hPre_experts : Cert.Pre_experts.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelDown [hKernelDown : Cert.KernelDown.Facts] [hPre_all_experts : Cert.Pre_all_experts.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5))
      ∧ r.2.sem = fun _ => 0)

def quiescent_KernelDownIdeal [hKernelDownIdeal : Cert.KernelDownIdeal.Facts] [hPre_all_experts : Cert.Pre_all_experts.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ r.2.sem = fun _ => 0)

def quiescent_ReferenceDownIdeal [hReferenceDownIdeal : Cert.ReferenceDownIdeal.Facts] [hPre_all_experts : Cert.Pre_all_experts.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5))
      ∧ r.2.sem = fun _ => 0)

def quiescent_KernelProjA [hKernelProjA : Cert.KernelProjA.Facts] : Prop :=
  ∀ (m : (ℓ : Loc Cert.KernelProjA.nD Cert.KernelProjA.τ Cert.KernelProjA.sig) → Buf (Elt Bits) ℓ) (g : Dev Cert.KernelProjA.nD → PrngReg), Pre_KernelProjA m →
    θ_run (Cert.KernelProjA.defs (F := Bits)) (onTc (τ := Cert.KernelProjA.τ) (Cert.KernelProjA.main (F := Bits))) ⟨m, fun _ => 0, g⟩ (fun r => (∀ c : Dev Cert.KernelProjA.nD,
      r.2.mem ((c.tc : Thread Cert.KernelProjA.nD Cert.KernelProjA.τ).loc Cert.KernelProjA.main_arg0) = m ((c.tc : Thread Cert.KernelProjA.nD Cert.KernelProjA.τ).loc Cert.KernelProjA.main_arg0)
      ∧ r.2.mem ((c.tc : Thread Cert.KernelProjA.nD Cert.KernelProjA.τ).loc Cert.KernelProjA.main_arg1) = m ((c.tc : Thread Cert.KernelProjA.nD Cert.KernelProjA.τ).loc Cert.KernelProjA.main_arg1))
      ∧ r.2.sem = fun _ => 0)

def quiescent_KernelProjAIdeal [hKernelProjAIdeal : Cert.KernelProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg), Pre_KernelProjAIdeal m →
    θ_run (Cert.KernelProjAIdeal.defs (F := Ideal)) (onTc (τ := Cert.KernelProjAIdeal.τ) (Cert.KernelProjAIdeal.main (F := Ideal))) ⟨m, fun _ => 0, g⟩ (fun r => (∀ c : Dev Cert.KernelProjAIdeal.nD,
      r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
      ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1))
      ∧ r.2.sem = fun _ => 0)

def quiescent_ReferenceProjAIdeal [hReferenceProjAIdeal : Cert.ReferenceProjAIdeal.Facts] : Prop :=
  ∀ (m : (ℓ : Loc Cert.ReferenceProjAIdeal.nD Cert.ReferenceProjAIdeal.τ Cert.ReferenceProjAIdeal.sig) → Buf (Elt Ideal) ℓ) (g : Dev Cert.ReferenceProjAIdeal.nD → PrngReg), Pre_ReferenceProjAIdeal m →
    θ_run (Cert.ReferenceProjAIdeal.defs (F := Ideal)) (onTc (τ := Cert.ReferenceProjAIdeal.τ) (Cert.ReferenceProjAIdeal.main (F := Ideal))) ⟨m, fun _ => 0, g⟩ (fun r => (∀ c : Dev Cert.ReferenceProjAIdeal.nD,
      r.2.mem ((c.tc : Thread Cert.ReferenceProjAIdeal.nD Cert.ReferenceProjAIdeal.τ).loc Cert.ReferenceProjAIdeal.main_arg0) = m ((c.tc : Thread Cert.ReferenceProjAIdeal.nD Cert.ReferenceProjAIdeal.τ).loc Cert.ReferenceProjAIdeal.main_arg0)
      ∧ r.2.mem ((c.tc : Thread Cert.ReferenceProjAIdeal.nD Cert.ReferenceProjAIdeal.τ).loc Cert.ReferenceProjAIdeal.main_arg1) = m ((c.tc : Thread Cert.ReferenceProjAIdeal.nD Cert.ReferenceProjAIdeal.τ).loc Cert.ReferenceProjAIdeal.main_arg1))
      ∧ r.2.sem = fun _ => 0)

def quiescent_KernelProjB [hKernelProjB : Cert.KernelProjB.Facts] : Prop :=
  ∀ (m : (ℓ : Loc Cert.KernelProjB.nD Cert.KernelProjB.τ Cert.KernelProjB.sig) → Buf (Elt Bits) ℓ) (g : Dev Cert.KernelProjB.nD → PrngReg), Pre_KernelProjB m →
    θ_run (Cert.KernelProjB.defs (F := Bits)) (onTc (τ := Cert.KernelProjB.τ) (Cert.KernelProjB.main (F := Bits))) ⟨m, fun _ => 0, g⟩ (fun r => (∀ c : Dev Cert.KernelProjB.nD,
      r.2.mem ((c.tc : Thread Cert.KernelProjB.nD Cert.KernelProjB.τ).loc Cert.KernelProjB.main_arg0) = m ((c.tc : Thread Cert.KernelProjB.nD Cert.KernelProjB.τ).loc Cert.KernelProjB.main_arg0)
      ∧ r.2.mem ((c.tc : Thread Cert.KernelProjB.nD Cert.KernelProjB.τ).loc Cert.KernelProjB.main_arg1) = m ((c.tc : Thread Cert.KernelProjB.nD Cert.KernelProjB.τ).loc Cert.KernelProjB.main_arg1))
      ∧ r.2.sem = fun _ => 0)

def quiescent_KernelProjBIdeal [hKernelProjBIdeal : Cert.KernelProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg), Pre_KernelProjBIdeal m →
    θ_run (Cert.KernelProjBIdeal.defs (F := Ideal)) (onTc (τ := Cert.KernelProjBIdeal.τ) (Cert.KernelProjBIdeal.main (F := Ideal))) ⟨m, fun _ => 0, g⟩ (fun r => (∀ c : Dev Cert.KernelProjBIdeal.nD,
      r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
      ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1))
      ∧ r.2.sem = fun _ => 0)

def quiescent_ReferenceProjBIdeal [hReferenceProjBIdeal : Cert.ReferenceProjBIdeal.Facts] : Prop :=
  ∀ (m : (ℓ : Loc Cert.ReferenceProjBIdeal.nD Cert.ReferenceProjBIdeal.τ Cert.ReferenceProjBIdeal.sig) → Buf (Elt Ideal) ℓ) (g : Dev Cert.ReferenceProjBIdeal.nD → PrngReg), Pre_ReferenceProjBIdeal m →
    θ_run (Cert.ReferenceProjBIdeal.defs (F := Ideal)) (onTc (τ := Cert.ReferenceProjBIdeal.τ) (Cert.ReferenceProjBIdeal.main (F := Ideal))) ⟨m, fun _ => 0, g⟩ (fun r => (∀ c : Dev Cert.ReferenceProjBIdeal.nD,
      r.2.mem ((c.tc : Thread Cert.ReferenceProjBIdeal.nD Cert.ReferenceProjBIdeal.τ).loc Cert.ReferenceProjBIdeal.main_arg0) = m ((c.tc : Thread Cert.ReferenceProjBIdeal.nD Cert.ReferenceProjBIdeal.τ).loc Cert.ReferenceProjBIdeal.main_arg0)
      ∧ r.2.mem ((c.tc : Thread Cert.ReferenceProjBIdeal.nD Cert.ReferenceProjBIdeal.τ).loc Cert.ReferenceProjBIdeal.main_arg1) = m ((c.tc : Thread Cert.ReferenceProjBIdeal.nD Cert.ReferenceProjBIdeal.τ).loc Cert.ReferenceProjBIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelComb [hKernelComb : Cert.KernelComb.Facts] : Prop :=
  ∀ (m : (ℓ : Loc Cert.KernelComb.nD Cert.KernelComb.τ Cert.KernelComb.sig) → Buf (Elt Bits) ℓ) (g : Dev Cert.KernelComb.nD → PrngReg), Pre_KernelComb m →
    θ_run (Cert.KernelComb.defs (F := Bits)) (onTc (τ := Cert.KernelComb.τ) (Cert.KernelComb.main (F := Bits))) ⟨m, fun _ => 0, g⟩ (fun r => (∀ c : Dev Cert.KernelComb.nD,
      r.2.mem ((c.tc : Thread Cert.KernelComb.nD Cert.KernelComb.τ).loc Cert.KernelComb.main_arg0) = m ((c.tc : Thread Cert.KernelComb.nD Cert.KernelComb.τ).loc Cert.KernelComb.main_arg0)
      ∧ r.2.mem ((c.tc : Thread Cert.KernelComb.nD Cert.KernelComb.τ).loc Cert.KernelComb.main_arg1) = m ((c.tc : Thread Cert.KernelComb.nD Cert.KernelComb.τ).loc Cert.KernelComb.main_arg1)
      ∧ r.2.mem ((c.tc : Thread Cert.KernelComb.nD Cert.KernelComb.τ).loc Cert.KernelComb.main_arg2) = m ((c.tc : Thread Cert.KernelComb.nD Cert.KernelComb.τ).loc Cert.KernelComb.main_arg2)
      ∧ r.2.mem ((c.tc : Thread Cert.KernelComb.nD Cert.KernelComb.τ).loc Cert.KernelComb.main_arg3) = m ((c.tc : Thread Cert.KernelComb.nD Cert.KernelComb.τ).loc Cert.KernelComb.main_arg3)
      ∧ r.2.mem ((c.tc : Thread Cert.KernelComb.nD Cert.KernelComb.τ).loc Cert.KernelComb.main_arg4) = m ((c.tc : Thread Cert.KernelComb.nD Cert.KernelComb.τ).loc Cert.KernelComb.main_arg4))
      ∧ r.2.sem = fun _ => 0)

def quiescent_KernelCombIdeal [hKernelCombIdeal : Cert.KernelCombIdeal.Facts] : Prop :=
  ∀ (m : (ℓ : Loc Cert.KernelCombIdeal.nD Cert.KernelCombIdeal.τ Cert.KernelCombIdeal.sig) → Buf (Elt Ideal) ℓ) (g : Dev Cert.KernelCombIdeal.nD → PrngReg), Pre_KernelCombIdeal m →
    θ_run (Cert.KernelCombIdeal.defs (F := Ideal)) (onTc (τ := Cert.KernelCombIdeal.τ) (Cert.KernelCombIdeal.main (F := Ideal))) ⟨m, fun _ => 0, g⟩ (fun r => (∀ c : Dev Cert.KernelCombIdeal.nD,
      r.2.mem ((c.tc : Thread Cert.KernelCombIdeal.nD Cert.KernelCombIdeal.τ).loc Cert.KernelCombIdeal.main_arg0) = m ((c.tc : Thread Cert.KernelCombIdeal.nD Cert.KernelCombIdeal.τ).loc Cert.KernelCombIdeal.main_arg0)
      ∧ r.2.mem ((c.tc : Thread Cert.KernelCombIdeal.nD Cert.KernelCombIdeal.τ).loc Cert.KernelCombIdeal.main_arg1) = m ((c.tc : Thread Cert.KernelCombIdeal.nD Cert.KernelCombIdeal.τ).loc Cert.KernelCombIdeal.main_arg1)
      ∧ r.2.mem ((c.tc : Thread Cert.KernelCombIdeal.nD Cert.KernelCombIdeal.τ).loc Cert.KernelCombIdeal.main_arg2) = m ((c.tc : Thread Cert.KernelCombIdeal.nD Cert.KernelCombIdeal.τ).loc Cert.KernelCombIdeal.main_arg2)
      ∧ r.2.mem ((c.tc : Thread Cert.KernelCombIdeal.nD Cert.KernelCombIdeal.τ).loc Cert.KernelCombIdeal.main_arg3) = m ((c.tc : Thread Cert.KernelCombIdeal.nD Cert.KernelCombIdeal.τ).loc Cert.KernelCombIdeal.main_arg3)
      ∧ r.2.mem ((c.tc : Thread Cert.KernelCombIdeal.nD Cert.KernelCombIdeal.τ).loc Cert.KernelCombIdeal.main_arg4) = m ((c.tc : Thread Cert.KernelCombIdeal.nD Cert.KernelCombIdeal.τ).loc Cert.KernelCombIdeal.main_arg4))
      ∧ r.2.sem = fun _ => 0)

def quiescent_ReferenceCombIdeal [hReferenceCombIdeal : Cert.ReferenceCombIdeal.Facts] : Prop :=
  ∀ (m : (ℓ : Loc Cert.ReferenceCombIdeal.nD Cert.ReferenceCombIdeal.τ Cert.ReferenceCombIdeal.sig) → Buf (Elt Ideal) ℓ) (g : Dev Cert.ReferenceCombIdeal.nD → PrngReg), Pre_ReferenceCombIdeal m →
    θ_run (Cert.ReferenceCombIdeal.defs (F := Ideal)) (onTc (τ := Cert.ReferenceCombIdeal.τ) (Cert.ReferenceCombIdeal.main (F := Ideal))) ⟨m, fun _ => 0, g⟩ (fun r => (∀ c : Dev Cert.ReferenceCombIdeal.nD,
      r.2.mem ((c.tc : Thread Cert.ReferenceCombIdeal.nD Cert.ReferenceCombIdeal.τ).loc Cert.ReferenceCombIdeal.main_arg0) = m ((c.tc : Thread Cert.ReferenceCombIdeal.nD Cert.ReferenceCombIdeal.τ).loc Cert.ReferenceCombIdeal.main_arg0)
      ∧ r.2.mem ((c.tc : Thread Cert.ReferenceCombIdeal.nD Cert.ReferenceCombIdeal.τ).loc Cert.ReferenceCombIdeal.main_arg1) = m ((c.tc : Thread Cert.ReferenceCombIdeal.nD Cert.ReferenceCombIdeal.τ).loc Cert.ReferenceCombIdeal.main_arg1)
      ∧ r.2.mem ((c.tc : Thread Cert.ReferenceCombIdeal.nD Cert.ReferenceCombIdeal.τ).loc Cert.ReferenceCombIdeal.main_arg2) = m ((c.tc : Thread Cert.ReferenceCombIdeal.nD Cert.ReferenceCombIdeal.τ).loc Cert.ReferenceCombIdeal.main_arg2)
      ∧ r.2.mem ((c.tc : Thread Cert.ReferenceCombIdeal.nD Cert.ReferenceCombIdeal.τ).loc Cert.ReferenceCombIdeal.main_arg3) = m ((c.tc : Thread Cert.ReferenceCombIdeal.nD Cert.ReferenceCombIdeal.τ).loc Cert.ReferenceCombIdeal.main_arg3)
      ∧ r.2.mem ((c.tc : Thread Cert.ReferenceCombIdeal.nD Cert.ReferenceCombIdeal.τ).loc Cert.ReferenceCombIdeal.main_arg4) = m ((c.tc : Thread Cert.ReferenceCombIdeal.nD Cert.ReferenceCombIdeal.τ).loc Cert.ReferenceCombIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] [hPre_experts : Cert.Pre_experts.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v33) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] [hPre_all_experts : Cert.Pre_all_experts.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v22) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5))

def preserves_KernelProjA_KernelProjAIdeal : Prop :=
  True

def algebraic_KernelProjAIdeal_ReferenceProjAIdeal [hKernelProjAIdeal : Cert.KernelProjAIdeal.Facts] [hReferenceProjAIdeal : Cert.ReferenceProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg)
    (m' : (ℓ : Loc Cert.ReferenceProjAIdeal.nD Cert.ReferenceProjAIdeal.τ Cert.ReferenceProjAIdeal.sig) → Buf (Elt Ideal) ℓ) (g' : Dev Cert.ReferenceProjAIdeal.nD → PrngReg), Pre_KernelProjAIdeal m →
    (∀ c : Dev Cert.KernelProjAIdeal.nD,
      m' ((c.tc : Thread Cert.ReferenceProjAIdeal.nD Cert.ReferenceProjAIdeal.τ).loc Cert.ReferenceProjAIdeal.main_arg0) = m ((c.tc : Thread Cert.KernelProjAIdeal.nD Cert.KernelProjAIdeal.τ).loc Cert.KernelProjAIdeal.main_arg0)
      ∧ m' ((c.tc : Thread Cert.ReferenceProjAIdeal.nD Cert.ReferenceProjAIdeal.τ).loc Cert.ReferenceProjAIdeal.main_arg1) = m ((c.tc : Thread Cert.KernelProjAIdeal.nD Cert.KernelProjAIdeal.τ).loc Cert.KernelProjAIdeal.main_arg1)) →
    ∃ (v0 : (c : Dev Cert.KernelProjAIdeal.nD) → Buf (Elt Ideal) ((c.tc : Thread Cert.KernelProjAIdeal.nD Cert.KernelProjAIdeal.τ).loc Cert.KernelProjAIdeal.main_v2)),
      θ_run (Cert.KernelProjAIdeal.defs (F := Ideal)) (onTc (τ := Cert.KernelProjAIdeal.τ) (Cert.KernelProjAIdeal.main (F := Ideal))) ⟨m, fun _ => 0, g⟩ (fun r => ∀ c : Dev Cert.KernelProjAIdeal.nD,
          r.2.mem ((c.tc : Thread Cert.KernelProjAIdeal.nD Cert.KernelProjAIdeal.τ).loc Cert.KernelProjAIdeal.main_v2) = v0 c
          ∧ r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
          ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1))
      ∧ θ_run (Cert.ReferenceProjAIdeal.defs (F := Ideal)) (onTc (τ := Cert.ReferenceProjAIdeal.τ) (Cert.ReferenceProjAIdeal.main (F := Ideal))) ⟨m', fun _ => 0, g'⟩ (fun r => ∀ c : Dev Cert.ReferenceProjAIdeal.nD,
          r.2.mem ((c.tc : Thread Cert.ReferenceProjAIdeal.nD Cert.ReferenceProjAIdeal.τ).loc Cert.ReferenceProjAIdeal.main_v5) = v0 c
          ∧ r.2.mem ((c.tc : Thread Cert.ReferenceProjAIdeal.nD Cert.ReferenceProjAIdeal.τ).loc Cert.ReferenceProjAIdeal.main_arg0) = m' ((c.tc : Thread Cert.ReferenceProjAIdeal.nD Cert.ReferenceProjAIdeal.τ).loc Cert.ReferenceProjAIdeal.main_arg0)
          ∧ r.2.mem ((c.tc : Thread Cert.ReferenceProjAIdeal.nD Cert.ReferenceProjAIdeal.τ).loc Cert.ReferenceProjAIdeal.main_arg1) = m' ((c.tc : Thread Cert.ReferenceProjAIdeal.nD Cert.ReferenceProjAIdeal.τ).loc Cert.ReferenceProjAIdeal.main_arg1))

def preserves_KernelProjB_KernelProjBIdeal : Prop :=
  True

def algebraic_KernelProjBIdeal_ReferenceProjBIdeal [hKernelProjBIdeal : Cert.KernelProjBIdeal.Facts] [hReferenceProjBIdeal : Cert.ReferenceProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg)
    (m' : (ℓ : Loc Cert.ReferenceProjBIdeal.nD Cert.ReferenceProjBIdeal.τ Cert.ReferenceProjBIdeal.sig) → Buf (Elt Ideal) ℓ) (g' : Dev Cert.ReferenceProjBIdeal.nD → PrngReg), Pre_KernelProjBIdeal m →
    (∀ c : Dev Cert.KernelProjBIdeal.nD,
      m' ((c.tc : Thread Cert.ReferenceProjBIdeal.nD Cert.ReferenceProjBIdeal.τ).loc Cert.ReferenceProjBIdeal.main_arg0) = m ((c.tc : Thread Cert.KernelProjBIdeal.nD Cert.KernelProjBIdeal.τ).loc Cert.KernelProjBIdeal.main_arg0)
      ∧ m' ((c.tc : Thread Cert.ReferenceProjBIdeal.nD Cert.ReferenceProjBIdeal.τ).loc Cert.ReferenceProjBIdeal.main_arg1) = m ((c.tc : Thread Cert.KernelProjBIdeal.nD Cert.KernelProjBIdeal.τ).loc Cert.KernelProjBIdeal.main_arg1)) →
    ∃ (v0 : (c : Dev Cert.KernelProjBIdeal.nD) → Buf (Elt Ideal) ((c.tc : Thread Cert.KernelProjBIdeal.nD Cert.KernelProjBIdeal.τ).loc Cert.KernelProjBIdeal.main_v3)),
      θ_run (Cert.KernelProjBIdeal.defs (F := Ideal)) (onTc (τ := Cert.KernelProjBIdeal.τ) (Cert.KernelProjBIdeal.main (F := Ideal))) ⟨m, fun _ => 0, g⟩ (fun r => ∀ c : Dev Cert.KernelProjBIdeal.nD,
          r.2.mem ((c.tc : Thread Cert.KernelProjBIdeal.nD Cert.KernelProjBIdeal.τ).loc Cert.KernelProjBIdeal.main_v3) = v0 c
          ∧ r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
          ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1))
      ∧ θ_run (Cert.ReferenceProjBIdeal.defs (F := Ideal)) (onTc (τ := Cert.ReferenceProjBIdeal.τ) (Cert.ReferenceProjBIdeal.main (F := Ideal))) ⟨m', fun _ => 0, g'⟩ (fun r => ∀ c : Dev Cert.ReferenceProjBIdeal.nD,
          r.2.mem ((c.tc : Thread Cert.ReferenceProjBIdeal.nD Cert.ReferenceProjBIdeal.τ).loc Cert.ReferenceProjBIdeal.main_v7) = v0 c
          ∧ r.2.mem ((c.tc : Thread Cert.ReferenceProjBIdeal.nD Cert.ReferenceProjBIdeal.τ).loc Cert.ReferenceProjBIdeal.main_arg0) = m' ((c.tc : Thread Cert.ReferenceProjBIdeal.nD Cert.ReferenceProjBIdeal.τ).loc Cert.ReferenceProjBIdeal.main_arg0)
          ∧ r.2.mem ((c.tc : Thread Cert.ReferenceProjBIdeal.nD Cert.ReferenceProjBIdeal.τ).loc Cert.ReferenceProjBIdeal.main_arg1) = m' ((c.tc : Thread Cert.ReferenceProjBIdeal.nD Cert.ReferenceProjBIdeal.τ).loc Cert.ReferenceProjBIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v23) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)) →
    ∃ (v0 : (c : Dev Cert.KernelGatesIdeal.nD) → Buf (Elt Ideal) ((c.tc : Thread Cert.KernelGatesIdeal.nD Cert.KernelGatesIdeal.τ).loc Cert.KernelGatesIdeal.main_v0)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v5) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v1)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v20) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v4_0)) (v1 : (c : Dev Cert.KernelNormIdeal.nD) → Buf (Elt Ideal) ((c.tc : Thread Cert.KernelNormIdeal.nD Cert.KernelNormIdeal.τ).loc Cert.KernelNormIdeal.main_v4_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v4_0) = v0 c
          ∧ r.2.mem ((c.tc : Thread Cert.KernelNormIdeal.nD Cert.KernelNormIdeal.τ).loc Cert.KernelNormIdeal.main_v4_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v59) = v0 c
          ∧ r.2.mem ((c.tc : Thread Cert.ReferenceNormIdeal.nD Cert.ReferenceNormIdeal.τ).loc Cert.ReferenceNormIdeal.main_v60) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelComb_KernelCombIdeal : Prop :=
  True

def algebraic_KernelCombIdeal_ReferenceCombIdeal [hKernelCombIdeal : Cert.KernelCombIdeal.Facts] [hReferenceCombIdeal : Cert.ReferenceCombIdeal.Facts] : Prop :=
  ∀ (m : (ℓ : Loc Cert.KernelCombIdeal.nD Cert.KernelCombIdeal.τ Cert.KernelCombIdeal.sig) → Buf (Elt Ideal) ℓ) (g : Dev Cert.KernelCombIdeal.nD → PrngReg)
    (m' : (ℓ : Loc Cert.ReferenceCombIdeal.nD Cert.ReferenceCombIdeal.τ Cert.ReferenceCombIdeal.sig) → Buf (Elt Ideal) ℓ) (g' : Dev Cert.ReferenceCombIdeal.nD → PrngReg), Pre_KernelCombIdeal m →
    (∀ c : Dev Cert.KernelCombIdeal.nD,
      m' ((c.tc : Thread Cert.ReferenceCombIdeal.nD Cert.ReferenceCombIdeal.τ).loc Cert.ReferenceCombIdeal.main_arg0) = m ((c.tc : Thread Cert.KernelCombIdeal.nD Cert.KernelCombIdeal.τ).loc Cert.KernelCombIdeal.main_arg0)
      ∧ m' ((c.tc : Thread Cert.ReferenceCombIdeal.nD Cert.ReferenceCombIdeal.τ).loc Cert.ReferenceCombIdeal.main_arg1) = m ((c.tc : Thread Cert.KernelCombIdeal.nD Cert.KernelCombIdeal.τ).loc Cert.KernelCombIdeal.main_arg1)
      ∧ m' ((c.tc : Thread Cert.ReferenceCombIdeal.nD Cert.ReferenceCombIdeal.τ).loc Cert.ReferenceCombIdeal.main_arg2) = m ((c.tc : Thread Cert.KernelCombIdeal.nD Cert.KernelCombIdeal.τ).loc Cert.KernelCombIdeal.main_arg2)
      ∧ m' ((c.tc : Thread Cert.ReferenceCombIdeal.nD Cert.ReferenceCombIdeal.τ).loc Cert.ReferenceCombIdeal.main_arg3) = m ((c.tc : Thread Cert.KernelCombIdeal.nD Cert.KernelCombIdeal.τ).loc Cert.KernelCombIdeal.main_arg3)
      ∧ m' ((c.tc : Thread Cert.ReferenceCombIdeal.nD Cert.ReferenceCombIdeal.τ).loc Cert.ReferenceCombIdeal.main_arg4) = m ((c.tc : Thread Cert.KernelCombIdeal.nD Cert.KernelCombIdeal.τ).loc Cert.KernelCombIdeal.main_arg4)) →
    ∃ (v0 : (c : Dev Cert.KernelCombIdeal.nD) → Buf (Elt Ideal) ((c.tc : Thread Cert.KernelCombIdeal.nD Cert.KernelCombIdeal.τ).loc Cert.KernelCombIdeal.main_v0)),
      θ_run (Cert.KernelCombIdeal.defs (F := Ideal)) (onTc (τ := Cert.KernelCombIdeal.τ) (Cert.KernelCombIdeal.main (F := Ideal))) ⟨m, fun _ => 0, g⟩ (fun r => ∀ c : Dev Cert.KernelCombIdeal.nD,
          r.2.mem ((c.tc : Thread Cert.KernelCombIdeal.nD Cert.KernelCombIdeal.τ).loc Cert.KernelCombIdeal.main_v0) = v0 c
          ∧ r.2.mem ((c.tc : Thread Cert.KernelCombIdeal.nD Cert.KernelCombIdeal.τ).loc Cert.KernelCombIdeal.main_arg0) = m ((c.tc : Thread Cert.KernelCombIdeal.nD Cert.KernelCombIdeal.τ).loc Cert.KernelCombIdeal.main_arg0)
          ∧ r.2.mem ((c.tc : Thread Cert.KernelCombIdeal.nD Cert.KernelCombIdeal.τ).loc Cert.KernelCombIdeal.main_arg1) = m ((c.tc : Thread Cert.KernelCombIdeal.nD Cert.KernelCombIdeal.τ).loc Cert.KernelCombIdeal.main_arg1)
          ∧ r.2.mem ((c.tc : Thread Cert.KernelCombIdeal.nD Cert.KernelCombIdeal.τ).loc Cert.KernelCombIdeal.main_arg2) = m ((c.tc : Thread Cert.KernelCombIdeal.nD Cert.KernelCombIdeal.τ).loc Cert.KernelCombIdeal.main_arg2)
          ∧ r.2.mem ((c.tc : Thread Cert.KernelCombIdeal.nD Cert.KernelCombIdeal.τ).loc Cert.KernelCombIdeal.main_arg3) = m ((c.tc : Thread Cert.KernelCombIdeal.nD Cert.KernelCombIdeal.τ).loc Cert.KernelCombIdeal.main_arg3)
          ∧ r.2.mem ((c.tc : Thread Cert.KernelCombIdeal.nD Cert.KernelCombIdeal.τ).loc Cert.KernelCombIdeal.main_arg4) = m ((c.tc : Thread Cert.KernelCombIdeal.nD Cert.KernelCombIdeal.τ).loc Cert.KernelCombIdeal.main_arg4))
      ∧ θ_run (Cert.ReferenceCombIdeal.defs (F := Ideal)) (onTc (τ := Cert.ReferenceCombIdeal.τ) (Cert.ReferenceCombIdeal.main (F := Ideal))) ⟨m', fun _ => 0, g'⟩ (fun r => ∀ c : Dev Cert.ReferenceCombIdeal.nD,
          r.2.mem ((c.tc : Thread Cert.ReferenceCombIdeal.nD Cert.ReferenceCombIdeal.τ).loc Cert.ReferenceCombIdeal.main_v15) = v0 c
          ∧ r.2.mem ((c.tc : Thread Cert.ReferenceCombIdeal.nD Cert.ReferenceCombIdeal.τ).loc Cert.ReferenceCombIdeal.main_arg0) = m' ((c.tc : Thread Cert.ReferenceCombIdeal.nD Cert.ReferenceCombIdeal.τ).loc Cert.ReferenceCombIdeal.main_arg0)
          ∧ r.2.mem ((c.tc : Thread Cert.ReferenceCombIdeal.nD Cert.ReferenceCombIdeal.τ).loc Cert.ReferenceCombIdeal.main_arg1) = m' ((c.tc : Thread Cert.ReferenceCombIdeal.nD Cert.ReferenceCombIdeal.τ).loc Cert.ReferenceCombIdeal.main_arg1)
          ∧ r.2.mem ((c.tc : Thread Cert.ReferenceCombIdeal.nD Cert.ReferenceCombIdeal.τ).loc Cert.ReferenceCombIdeal.main_arg2) = m' ((c.tc : Thread Cert.ReferenceCombIdeal.nD Cert.ReferenceCombIdeal.τ).loc Cert.ReferenceCombIdeal.main_arg2)
          ∧ r.2.mem ((c.tc : Thread Cert.ReferenceCombIdeal.nD Cert.ReferenceCombIdeal.τ).loc Cert.ReferenceCombIdeal.main_arg3) = m' ((c.tc : Thread Cert.ReferenceCombIdeal.nD Cert.ReferenceCombIdeal.τ).loc Cert.ReferenceCombIdeal.main_arg3)
          ∧ r.2.mem ((c.tc : Thread Cert.ReferenceCombIdeal.nD Cert.ReferenceCombIdeal.τ).loc Cert.ReferenceCombIdeal.main_arg4) = m' ((c.tc : Thread Cert.ReferenceCombIdeal.nD Cert.ReferenceCombIdeal.τ).loc Cert.ReferenceCombIdeal.main_arg4))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelProjA : Cert.KernelProjA.Facts) (hKernelProjAIdeal : Cert.KernelProjAIdeal.Facts) (hReferenceProjAIdeal : Cert.ReferenceProjAIdeal.Facts) (hKernelProjB : Cert.KernelProjB.Facts) (hKernelProjBIdeal : Cert.KernelProjBIdeal.Facts) (hReferenceProjBIdeal : Cert.ReferenceProjBIdeal.Facts) (hKernelOut : Cert.KernelOut.Facts) (hKernelOutIdeal : Cert.KernelOutIdeal.Facts) (hReferenceOutIdeal : Cert.ReferenceOutIdeal.Facts) (hKernelGates : Cert.KernelGates.Facts) (hKernelGatesIdeal : Cert.KernelGatesIdeal.Facts) (hReferenceGatesIdeal : Cert.ReferenceGatesIdeal.Facts) (hKernelAda : Cert.KernelAda.Facts) (hKernelAdaIdeal : Cert.KernelAdaIdeal.Facts) (hReferenceAdaIdeal : Cert.ReferenceAdaIdeal.Facts) (hKernelNorm : Cert.KernelNorm.Facts) (hKernelNormIdeal : Cert.KernelNormIdeal.Facts) (hReferenceNormIdeal : Cert.ReferenceNormIdeal.Facts) (hKernelComb : Cert.KernelComb.Facts) (hKernelCombIdeal : Cert.KernelCombIdeal.Facts) (hReferenceCombIdeal : Cert.ReferenceCombIdeal.Facts) (hPre_finite : Cert.Pre_finite.Facts) (hPre_experts : Cert.Pre_experts.Facts) (hPre_all_experts : Cert.Pre_all_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp) (hPre_experts := hPre_experts)
    ∧ quiescent_KernelUpIdeal (hKernelUpIdeal := hKernelUpIdeal) (hPre_experts := hPre_experts)
    ∧ quiescent_ReferenceUpIdeal (hReferenceUpIdeal := hReferenceUpIdeal) (hPre_experts := hPre_experts)
    ∧ quiescent_KernelDown (hKernelDown := hKernelDown) (hPre_all_experts := hPre_all_experts)
    ∧ quiescent_KernelDownIdeal (hKernelDownIdeal := hKernelDownIdeal) (hPre_all_experts := hPre_all_experts)
    ∧ quiescent_ReferenceDownIdeal (hReferenceDownIdeal := hReferenceDownIdeal) (hPre_all_experts := hPre_all_experts)
    ∧ quiescent_KernelProjA (hKernelProjA := hKernelProjA)
    ∧ quiescent_KernelProjAIdeal (hKernelProjAIdeal := hKernelProjAIdeal)
    ∧ quiescent_ReferenceProjAIdeal (hReferenceProjAIdeal := hReferenceProjAIdeal)
    ∧ quiescent_KernelProjB (hKernelProjB := hKernelProjB)
    ∧ quiescent_KernelProjBIdeal (hKernelProjBIdeal := hKernelProjBIdeal)
    ∧ quiescent_ReferenceProjBIdeal (hReferenceProjBIdeal := hReferenceProjBIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelComb (hKernelComb := hKernelComb)
    ∧ quiescent_KernelCombIdeal (hKernelCombIdeal := hKernelCombIdeal)
    ∧ quiescent_ReferenceCombIdeal (hReferenceCombIdeal := hReferenceCombIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal) (hPre_experts := hPre_experts)
    ∧ preserves_KernelDown_KernelDownIdeal
    ∧ algebraic_KernelDownIdeal_ReferenceDownIdeal (hKernelDownIdeal := hKernelDownIdeal) (hReferenceDownIdeal := hReferenceDownIdeal) (hPre_all_experts := hPre_all_experts)
    ∧ preserves_KernelProjA_KernelProjAIdeal
    ∧ algebraic_KernelProjAIdeal_ReferenceProjAIdeal (hKernelProjAIdeal := hKernelProjAIdeal) (hReferenceProjAIdeal := hReferenceProjAIdeal)
    ∧ preserves_KernelProjB_KernelProjBIdeal
    ∧ algebraic_KernelProjBIdeal_ReferenceProjBIdeal (hKernelProjBIdeal := hKernelProjBIdeal) (hReferenceProjBIdeal := hReferenceProjBIdeal)
    ∧ preserves_KernelOut_KernelOutIdeal
    ∧ algebraic_KernelOutIdeal_ReferenceOutIdeal (hKernelOutIdeal := hKernelOutIdeal) (hReferenceOutIdeal := hReferenceOutIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelNorm_KernelNormIdeal
    ∧ algebraic_KernelNormIdeal_ReferenceNormIdeal (hKernelNormIdeal := hKernelNormIdeal) (hReferenceNormIdeal := hReferenceNormIdeal)
    ∧ preserves_KernelComb_KernelCombIdeal
    ∧ algebraic_KernelCombIdeal_ReferenceCombIdeal (hKernelCombIdeal := hKernelCombIdeal) (hReferenceCombIdeal := hReferenceCombIdeal)
-- ==== Pre_all_experts.lean ====
abbrev S161 : Shape := ⟨1, ![161]⟩
abbrev S10240x1024 : Shape := ⟨2, ![10240, 1024]⟩
abbrev S2x16x1024x4096 : Shape := ⟨4, ![2, 16, 1024, 4096]⟩
abbrev S160 : Shape := ⟨1, ![160]⟩
abbrev S_ : Shape := ⟨0, ![]⟩

class Facts : Prop where
  slices_S161_S160_0 : S161.Slices ![0] S160
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : IVec S161 32) (main_arg1 : FVec F S10240x1024 .bf16) (main_arg2 : FVec F S10240x1024 .bf16) (main_arg3 : FVec F S10240x1024 .bf16) (main_arg4 : FVec F S10240x1024 .bf16) (main_arg5 : FVec F S2x16x1024x4096 .f32) : IVec S_ 1 :=
  let main_v0 : IVec S160 32 := (extractStridedSlice S160 ![0] · slices_S161_S160_0) main_arg0
  let main_c : IVec S_ 32 := constantI S_ 32 0#32
  let main_v1 : IVec S160 32 := broadcastInDim S160 ![] bcast_S_S160 main_c
  let main_v2 : IVec S160 1 := cmpi .sge main_v0 main_v1
  let main_v3 : IVec S160 32 := (extractStridedSlice S160 ![0] · slices_S161_S160_0) main_arg0
  let main_c_0 : IVec S_ 32 := constantI S_ 32 16#32
  let main_v4 : IVec S160 32 := broadcastInDim S160 ![] bcast_S_S160 main_c_0
  let main_v5 : IVec S160 1 := cmpi .slt main_v3 main_v4
  let main_v6 : IVec S160 1 := andi main_v2 main_v5
  let main_c_1 : IVec S_ 1 := constantI S_ 1 1#1
  let main_v7 : IVec S_ 1 := (fun x v => Host.reduce IntOp.andi x v reducesTo_S160_S_d0 h_S_) main_v6 main_c_1
  main_v7
-- ==== Pre_experts.lean ====
abbrev S41 : Shape := ⟨1, ![41]⟩
abbrev S10240x4096 : Shape := ⟨2, ![10240, 4096]⟩
abbrev S2x16x4096x1024 : Shape := ⟨4, ![2, 16, 4096, 1024]⟩
abbrev S40 : Shape := ⟨1, ![40]⟩
abbrev S_ : Shape := ⟨0, ![]⟩

class Facts : Prop where
  slices_S41_S40_0 : S41.Slices ![0] S40
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S41 32) (main_arg1 : FVec F S10240x4096 .bf16) (main_arg2 : FVec F S2x16x4096x1024 .f32) (main_arg3 : FVec F S2x16x4096x1024 .f32) : IVec S_ 1 :=
  let main_v0 : IVec S40 32 := (extractStridedSlice S40 ![0] · slices_S41_S40_0) main_arg0
  let main_c : IVec S_ 32 := constantI S_ 32 0#32
  let main_v1 : IVec S40 32 := broadcastInDim S40 ![] bcast_S_S40 main_c
  let main_v2 : IVec S40 1 := cmpi .sge main_v0 main_v1
  let main_v3 : IVec S40 32 := (extractStridedSlice S40 ![0] · slices_S41_S40_0) main_arg0
  let main_c_0 : IVec S_ 32 := constantI S_ 32 16#32
  let main_v4 : IVec S40 32 := broadcastInDim S40 ![] bcast_S_S40 main_c_0
  let main_v5 : IVec S40 1 := cmpi .slt main_v3 main_v4
  let main_v6 : IVec S40 1 := andi main_v2 main_v5
  let main_c_1 : IVec S_ 1 := constantI S_ 1 1#1
  let main_v7 : IVec S_ 1 := (fun x v => Host.reduce IntOp.andi x v reducesTo_S40_S_d0 h_S_) main_v6 main_c_1
  main_v7
-- ==== Pre_finite.lean ====
abbrev S8x2304x6144 : Shape := ⟨3, ![8, 2304, 6144]⟩
abbrev S16x15x31 : Shape := ⟨3, ![16, 15, 31]⟩
abbrev S2x128 : Shape := ⟨2, ![2, 128]⟩
abbrev S_ : Shape := ⟨0, ![]⟩

class Facts : Prop where
  bcast_S_S16x15x31 : S_.BroadcastsInDim S16x15x31 (![] : Fin 0 → Fin S16x15x31.rank)
  reducesTo_S16x15x31_S_d0_1_2 : S16x15x31.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S8x2304x6144 .bf16) (main_arg1 : FVec F S16x15x31 .f32) (main_arg2 : FVec F S2x128 .f32) : IVec S_ 1 :=
  let main_v0 : FVec F S16x15x31 .f32 := Host.absf main_arg1
  let main_cst : FVec F S_ .f32 := constant S_ .f32 0x7F800000#32
  let main_v1 : FVec F S16x15x31 .f32 := broadcastInDim S16x15x31 ![] bcast_S_S16x15x31 main_cst
  let main_v2 : IVec S16x15x31 1 := cmpf .olt main_v0 main_v1
  let main_c : IVec S_ 1 := constantI S_ 1 1#1
  let main_v3 : IVec S_ 1 := (fun x v => Host.reduce IntOp.andi x v reducesTo_S16x15x31_S_d0_1_2 h_S_) main_v2 main_c
  let main_v4 : FVec F S2x128 .f32 := Host.absf main_arg2
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  main_v8
-- ==== Kernel.lean ====
abbrev S8x2304x6144 : Shape := ⟨3, ![8, 2304, 6144]⟩
abbrev S16x15x31 : Shape := ⟨3, ![16, 15, 31]⟩
abbrev S2x128 : Shape := ⟨2, ![2, 128]⟩
abbrev S8x8 : Shape := ⟨2, ![8, 8]⟩
abbrev S64x64 : Shape := ⟨2, ![64, 64]⟩
abbrev S1x1x1x64x64 : Shape := ⟨5, ![1, 1, 1, 64, 64]⟩
abbrev S_ : Shape := ⟨0, ![]⟩
abbrev S8x8x1 : Shape := ⟨3, ![8, 8, 1]⟩
abbrev S16x8x8x31 : Shape := ⟨4, ![16, 8, 8, 31]⟩
abbrev S64x64x1 : Shape := ⟨3, ![64, 64, 1]⟩
abbrev S16x8x8x64x64 : Shape := ⟨5, ![16, 8, 8, 64, 64]⟩
abbrev S16x8x64x8x64 : Shape := ⟨5, ![16, 8, 64, 8, 64]⟩
abbrev S16x8x64x512 : Shape := ⟨4, ![16, 8, 64, 512]⟩
abbrev S8x2304x2048 : Shape := ⟨3, ![8, 2304, 2048]⟩
abbrev S1x64x1024 : Shape := ⟨3, ![1, 64, 1024]⟩
abbrev S1x2304x1024 : Shape := ⟨3, ![1, 2304, 1024]⟩
abbrev S8x8x64x512 : Shape := ⟨4, ![8, 8, 64, 512]⟩
abbrev S2304x1024 : Shape := ⟨2, ![2304, 1024]⟩
abbrev S1x2304x128 : Shape := ⟨3, ![1, 2304, 128]⟩
abbrev S2304x128 : Shape := ⟨2, ![2304, 128]⟩
abbrev S1x128 : Shape := ⟨2, ![1, 128]⟩
abbrev S2304 : Shape := ⟨1, ![2304]⟩
abbrev S2304x1 : Shape := ⟨2, ![2304, 1]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S256x128 : Shape := ⟨2, ![256, 128]⟩
abbrev S64x256 : Shape := ⟨2, ![64, 256]⟩
abbrev S1x256x128 : Shape := ⟨3, ![1, 256, 128]⟩
abbrev S512x128 : Shape := ⟨2, ![512, 128]⟩
abbrev S64x512 : Shape := ⟨2, ![64, 512]⟩
abbrev S1x1x64x512 : Shape := ⟨4, ![1, 1, 64, 512]⟩
abbrev S1x512x128 : Shape := ⟨3, ![1, 512, 128]⟩

abbrev nBuf : Space → Nat
  | .hbm => 29
  | .vmem => 12
  | .smem => 0
  | _ => 0

abbrev bufTy : (tb : Table) → Fin (tcTables nBuf tb) → BufTy
  | .hbm, ⟨0, _⟩ => ⟨S8x2304x6144, .bf16⟩
  | .hbm, ⟨1, _⟩ => ⟨S16x15x31, .f32⟩
  | .hbm, ⟨2, _⟩ => ⟨S2x128, .f32⟩
  | .hbm, ⟨3, _⟩ => ⟨S8x8, .i32⟩
  | .hbm, ⟨4, _⟩ => ⟨S8x8, .i1⟩
  | .hbm, ⟨5, _⟩ => ⟨S64x64, .i32⟩
  | .hbm, ⟨6, _⟩ => ⟨S64x64, .i1⟩
  | .hbm, ⟨7, _⟩ => ⟨S64x64, .i1⟩
  | .hbm, ⟨8, _⟩ => ⟨S1x1x1x64x64, .i1⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i32⟩
  | .hbm, ⟨13, _⟩ => ⟨S8x8x1, .i32⟩
  | .hbm, ⟨14, _⟩ => ⟨S16x8x8x31, .f32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i32⟩
  | .hbm, ⟨19, _⟩ => ⟨S64x64x1, .i32⟩
  | .hbm, ⟨20, _⟩ => ⟨S16x8x8x64x64, .f32⟩
  | .hbm, ⟨21, _⟩ => ⟨S_, .f32⟩
  | .hbm, ⟨22, _⟩ => ⟨S_, .f32⟩
  | .hbm, ⟨23, _⟩ => ⟨S16x8x8x64x64, .i1⟩
  | .hbm, ⟨24, _⟩ => ⟨S16x8x8x64x64, .f32⟩
  | .hbm, ⟨25, _⟩ => ⟨S16x8x8x64x64, .f32⟩
  | .hbm, ⟨26, _⟩ => ⟨S16x8x64x8x64, .f32⟩
  | .hbm, ⟨27, _⟩ => ⟨S16x8x64x512, .f32⟩
  | .hbm, ⟨28, _⟩ => ⟨S8x2304x2048, .bf16⟩
  | .local _ .vmem, ⟨0, _⟩ => ⟨S1x64x1024, .bf16⟩
  | .local _ .vmem, ⟨1, _⟩ => ⟨S1x64x1024, .bf16⟩
  | .local _ .vmem, ⟨2, _⟩ => ⟨S1x2304x1024, .bf16⟩
  | .local _ .vmem, ⟨3, _⟩ => ⟨S1x2304x1024, .bf16⟩
  | .local _ .vmem, ⟨4, _⟩ => ⟨S1x2304x1024, .bf16⟩
  | .local _ .vmem, ⟨5, _⟩ => ⟨S1x2304x1024, .bf16⟩
  | .local _ .vmem, ⟨6, _⟩ => ⟨S8x8x64x512, .f32⟩
  | .local _ .vmem, ⟨7, _⟩ => ⟨S8x8x64x512, .f32⟩
  | .local _ .vmem, ⟨8, _⟩ => ⟨S2x128, .f32⟩
  | .local _ .vmem, ⟨9, _⟩ => ⟨S1x64x1024, .bf16⟩
  | .local _ .vmem, ⟨10, _⟩ => ⟨S1x64x1024, .bf16⟩
  | .local _ .vmem, ⟨11, _⟩ => ⟨S2304x1024, .bf16⟩
  | _, _ => ⟨S8x2304x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 36], ![false, false, false]⟩

def k0_mult1 (i : grid0.Coords) : BitVec 32 :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  v8
def k0_cond3 (i : grid0.Coords) : BitVec 1 :=
  let arg2 : BitVec 32 := BitVec.ofNat 32 (i 2).val
  let c4_i32_6 : BitVec 32 := 4#32
  let v18 : BitVec 1 := Scalar.cmpi .sge arg2 c4_i32_6
  let v19 : BitVec 32 := Scalar.extui v18
  let c0_i32_7 : BitVec 32 := 0#32
  let v20 : BitVec 1 := Scalar.cmpi .ne v19 c0_i32_7
  v20

def k0_off1 (i : grid0.Coords) : Fin 2 → Nat :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v173 : Index := Scalar.indexCast v9
  let c0_71 : Index := 0#32
  ![v173.toNat, 0]
def k0_off2 (i : grid0.Coords) : Fin 4 → Nat :=
  let c0_73 : Index := 0#32
  let c7_i32 : BitVec 32 := 7#32
  let c0_i32_3 : BitVec 32 := 0#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let v10 : BitVec 32 := Scalar.subi v6 v3
  let c8_i32 : BitVec 32 := 8#32
  let v11 : BitVec 32 := Scalar.addi v10 c8_i32
  let c1_i32 : BitVec 32 := 1#32
  let v12 : BitVec 32 := Scalar.subi v11 c1_i32
  let v13 : BitVec 32 := Scalar.maxsi c0_i32_3 v12
  let v14 : BitVec 32 := Scalar.minsi c7_i32 v13
  let v176 : Index := Scalar.indexCast v14
  let c0_74 : Index := 0#32
  let c0_75 : Index := 0#32
  ![0, v176.toNat, 0, 0]
def k0_off3 (i : grid0.Coords) : Fin 2 → Nat :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v182 : Index := Scalar.indexCast v9
  let c128_79 : Index := 128#32
  ![v182.toNat, 128]
def k0_off4 (i : grid0.Coords) : Fin 4 → Nat :=
  let c1 : Index := 1#32
  let c7_i32 : BitVec 32 := 7#32
  let c0_i32_3 : BitVec 32 := 0#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let v10 : BitVec 32 := Scalar.subi v6 v3
  let c8_i32 : BitVec 32 := 8#32
  let v11 : BitVec 32 := Scalar.addi v10 c8_i32
  let c1_i32 : BitVec 32 := 1#32
  let v12 : BitVec 32 := Scalar.subi v11 c1_i32
  let v13 : BitVec 32 := Scalar.maxsi c0_i32_3 v12
  let v14 : BitVec 32 := Scalar.minsi c7_i32 v13
  let v185 : Index := Scalar.indexCast v14
  let c0_81 : Index := 0#32
  let c0_82 : Index := 0#32
  ![1, v185.toNat, 0, 0]
def k0_off5 (i : grid0.Coords) : Fin 2 → Nat :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v191 : Index := Scalar.indexCast v9
  let c256_86 : Index := 256#32
  ![v191.toNat, 256]
def k0_off6 (i : grid0.Coords) : Fin 4 → Nat :=
  let c2 : Index := 2#32
  let c7_i32 : BitVec 32 := 7#32
  let c0_i32_3 : BitVec 32 := 0#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let v10 : BitVec 32 := Scalar.subi v6 v3
  let c8_i32 : BitVec 32 := 8#32
  let v11 : BitVec 32 := Scalar.addi v10 c8_i32
  let c1_i32 : BitVec 32 := 1#32
  let v12 : BitVec 32 := Scalar.subi v11 c1_i32
  let v13 : BitVec 32 := Scalar.maxsi c0_i32_3 v12
  let v14 : BitVec 32 := Scalar.minsi c7_i32 v13
  let v194 : Index := Scalar.indexCast v14
  let c0_88 : Index := 0#32
  let c0_89 : Index := 0#32
  ![2, v194.toNat, 0, 0]
def k0_off7 (i : grid0.Coords) : Fin 2 → Nat :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v200 : Index := Scalar.indexCast v9
  let c384_93 : Index := 384#32
  ![v200.toNat, 384]
def k0_off8 (i : grid0.Coords) : Fin 4 → Nat :=
  let c3 : Index := 3#32
  let c7_i32 : BitVec 32 := 7#32
  let c0_i32_3 : BitVec 32 := 0#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let v10 : BitVec 32 := Scalar.subi v6 v3
  let c8_i32 : BitVec 32 := 8#32
  let v11 : BitVec 32 := Scalar.addi v10 c8_i32
  let c1_i32 : BitVec 32 := 1#32
  let v12 : BitVec 32 := Scalar.subi v11 c1_i32
  let v13 : BitVec 32 := Scalar.maxsi c0_i32_3 v12
  let v14 : BitVec 32 := Scalar.minsi c7_i32 v13
  let v203 : Index := Scalar.indexCast v14
  let c0_95 : Index := 0#32
  let c0_96 : Index := 0#32
  ![3, v203.toNat, 0, 0]
def k0_off9 (i : grid0.Coords) : Fin 3 → Nat :=
  let c0_102 : Index := 0#32
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v242 : Index := Scalar.indexCast v9
  let c0_103 : Index := 0#32
  ![0, v242.toNat, 0]
def k0_off10 (i : grid0.Coords) : Fin 2 → Nat :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v253 : Index := Scalar.indexCast v9
  let c512_109 : Index := 512#32
  ![v253.toNat, 512]
def k0_off11 (i : grid0.Coords) : Fin 4 → Nat :=
  let c4 : Index := 4#32
  let c7_i32 : BitVec 32 := 7#32
  let c0_i32_3 : BitVec 32 := 0#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let v10 : BitVec 32 := Scalar.subi v6 v3
  let c8_i32 : BitVec 32 := 8#32
  let v11 : BitVec 32 := Scalar.addi v10 c8_i32
  let c1_i32 : BitVec 32 := 1#32
  let v12 : BitVec 32 := Scalar.subi v11 c1_i32
  let v13 : BitVec 32 := Scalar.maxsi c0_i32_3 v12
  let v14 : BitVec 32 := Scalar.minsi c7_i32 v13
  let v256 : Index := Scalar.indexCast v14
  let c0_111 : Index := 0#32
  let c0_112 : Index := 0#32
  ![4, v256.toNat, 0, 0]
def k0_off12 (i : grid0.Coords) : Fin 3 → Nat :=
  let c0_118 : Index := 0#32
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v295 : Index := Scalar.indexCast v9
  let c128_119 : Index := 128#32
  ![0, v295.toNat, 128]
def k0_off13 (i : grid0.Coords) : Fin 2 → Nat :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v306 : Index := Scalar.indexCast v9
  let c640_125 : Index := 640#32
  ![v306.toNat, 640]
def k0_off14 (i : grid0.Coords) : Fin 4 → Nat :=
  let c5 : Index := 5#32
  let c7_i32 : BitVec 32 := 7#32
  let c0_i32_3 : BitVec 32 := 0#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let v10 : BitVec 32 := Scalar.subi v6 v3
  let c8_i32 : BitVec 32 := 8#32
  let v11 : BitVec 32 := Scalar.addi v10 c8_i32
  let c1_i32 : BitVec 32 := 1#32
  let v12 : BitVec 32 := Scalar.subi v11 c1_i32
  let v13 : BitVec 32 := Scalar.maxsi c0_i32_3 v12
  let v14 : BitVec 32 := Scalar.minsi c7_i32 v13
  let v309 : Index := Scalar.indexCast v14
  let c0_127 : Index := 0#32
  let c0_128 : Index := 0#32
  ![5, v309.toNat, 0, 0]
def k0_off15 (i : grid0.Coords) : Fin 3 → Nat :=
  let c0_134 : Index := 0#32
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v348 : Index := Scalar.indexCast v9
  let c256_135 : Index := 256#32
  ![0, v348.toNat, 256]
def k0_off16 (i : grid0.Coords) : Fin 2 → Nat :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v359 : Index := Scalar.indexCast v9
  let c768_141 : Index := 768#32
  ![v359.toNat, 768]
def k0_off17 (i : grid0.Coords) : Fin 4 → Nat :=
  let c6 : Index := 6#32
  let c7_i32 : BitVec 32 := 7#32
  let c0_i32_3 : BitVec 32 := 0#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let v10 : BitVec 32 := Scalar.subi v6 v3
  let c8_i32 : BitVec 32 := 8#32
  let v11 : BitVec 32 := Scalar.addi v10 c8_i32
  let c1_i32 : BitVec 32 := 1#32
  let v12 : BitVec 32 := Scalar.subi v11 c1_i32
  let v13 : BitVec 32 := Scalar.maxsi c0_i32_3 v12
  let v14 : BitVec 32 := Scalar.minsi c7_i32 v13
  let v362 : Index := Scalar.indexCast v14
  let c0_143 : Index := 0#32
  let c0_144 : Index := 0#32
  ![6, v362.toNat, 0, 0]
def k0_off18 (i : grid0.Coords) : Fin 3 → Nat :=
  let c0_150 : Index := 0#32
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v401 : Index := Scalar.indexCast v9
  let c384_151 : Index := 384#32
  ![0, v401.toNat, 384]
def k0_off19 (i : grid0.Coords) : Fin 2 → Nat :=
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v412 : Index := Scalar.indexCast v9
  let c896_157 : Index := 896#32
  ![v412.toNat, 896]
def k0_off20 (i : grid0.Coords) : Fin 4 → Nat :=
  let c7 : Index := 7#32
  let c7_i32 : BitVec 32 := 7#32
  let c0_i32_3 : BitVec 32 := 0#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let v10 : BitVec 32 := Scalar.subi v6 v3
  let c8_i32 : BitVec 32 := 8#32
  let v11 : BitVec 32 := Scalar.addi v10 c8_i32
  let c1_i32 : BitVec 32 := 1#32
  let v12 : BitVec 32 := Scalar.subi v11 c1_i32
  let v13 : BitVec 32 := Scalar.maxsi c0_i32_3 v12
  let v14 : BitVec 32 := Scalar.minsi c7_i32 v13
  let v415 : Index := Scalar.indexCast v14
  let c0_159 : Index := 0#32
  let c0_160 : Index := 0#32
  ![7, v415.toNat, 0, 0]
def k0_off21 (i : grid0.Coords) : Fin 3 → Nat :=
  let c0_166 : Index := 0#32
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v454 : Index := Scalar.indexCast v9
  let c512_167 : Index := 512#32
  ![0, v454.toNat, 512]
def k0_off22 (i : grid0.Coords) : Fin 3 → Nat :=
  let c0_175 : Index := 0#32
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v498 : Index := Scalar.indexCast v9
  let c640_176 : Index := 640#32
  ![0, v498.toNat, 640]
def k0_off23 (i : grid0.Coords) : Fin 3 → Nat :=
  let c0_184 : Index := 0#32
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v542 : Index := Scalar.indexCast v9
  let c768_185 : Index := 768#32
  ![0, v542.toNat, 768]
def k0_off24 (i : grid0.Coords) : Fin 3 → Nat :=
  let c0_193 : Index := 0#32
  let c256_i32 : BitVec 32 := 256#32
  let c24_i32 : BitVec 32 := 24#32
  let c0_i32_2 : BitVec 32 := 0#32
  let arg2 : BitVec 32 := BitVec.ofNat 32 (i 2).val
  let c4_i32 : BitVec 32 := 4#32
  let v3 : BitVec 32 := Scalar.subi arg2 c4_i32
  let c4_i32_1 : BitVec 32 := 4#32
  let v4 : BitVec 32 := Scalar.subi v3 c4_i32_1
  let v5 : BitVec 32 := Scalar.maxsi c0_i32_2 v4
  let v6 : BitVec 32 := Scalar.minsi c24_i32 v5
  let c64_i32 : BitVec 32 := 64#32
  let v7 : BitVec 32 := Scalar.muli v6 c64_i32
  let v8 : BitVec 32 := Scalar.addi c256_i32 v7
  let v9 : BitVec 32 := v8
  let v586 : Index := Scalar.indexCast v9
  let c896_194 : Index := 896#32
  ![0, v586.toNat, 896]
def k0_cond2 (i : grid0.Coords) : BitVec 1 :=
  let arg2 : BitVec 32 := BitVec.ofNat 32 (i 2).val
  let c4_i32_4 : BitVec 32 := 4#32
  let v15 : BitVec 1 := Scalar.cmpi .slt arg2 c4_i32_4
  let v16 : BitVec 32 := Scalar.extui v15
  let c0_i32_5 : BitVec 32 := 0#32
  let v17 : BitVec 1 := Scalar.cmpi .ne v16 c0_i32_5
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x2304x6144 : Shape := ⟨3, ![8, 2304, 6144]⟩
abbrev S16x15x31 : Shape := ⟨3, ![16, 15, 31]⟩
abbrev S2x128 : Shape := ⟨2, ![2, 128]⟩
abbrev S32x8 : Shape := ⟨2, ![32, 8]⟩
abbrev S64x16 : Shape := ⟨2, ![64, 16]⟩
abbrev S8x2304x2048 : Shape := ⟨3, ![8, 2304, 2048]⟩
abbrev S8x2304x16x128 : Shape := ⟨4, ![8, 2304, 16, 128]⟩
abbrev S1x128 : Shape := ⟨2, ![1, 128]⟩
abbrev S128 : Shape := ⟨1, ![128]⟩
abbrev S_ : Shape := ⟨0, ![]⟩
abbrev S8x2304x16 : Shape := ⟨3, ![8, 2304, 16]⟩
abbrev S8x2304x16x1 : Shape := ⟨4, ![8, 2304, 16, 1]⟩
abbrev S1x1x1x128 : Shape := ⟨4, ![1, 1, 1, 128]⟩
abbrev S8x2048x16x128 : Shape := ⟨4, ![8, 2048, 16, 128]⟩
abbrev S8x256x16x128 : Shape := ⟨4, ![8, 256, 16, 128]⟩
abbrev S8x32x64x16x128 : Shape := ⟨5, ![8, 32, 64, 16, 128]⟩
abbrev S32x8x1 : Shape := ⟨3, ![32, 8, 1]⟩
abbrev S8x32x8x64x16x128 : Shape := ⟨6, ![8, 32, 8, 64, 16, 128]⟩
abbrev S64x16x1 : Shape := ⟨3, ![64, 16, 1]⟩
abbrev S8x32x8x64x16x16x128 : Shape := ⟨7, ![8, 32, 8, 64, 16, 16, 128]⟩
abbrev S16x32x8x31 : Shape := ⟨4, ![16, 32, 8, 31]⟩
abbrev S16x32x8x64x16 : Shape := ⟨5, ![16, 32, 8, 64, 16]⟩
abbrev S16x32x64x8x16 : Shape := ⟨5, ![16, 32, 64, 8, 16]⟩
abbrev S8x16x32x64x8x16 : Shape := ⟨6, ![8, 16, 32, 64, 8, 16]⟩
abbrev S1x16x32x64x8x16 : Shape := ⟨6, ![1, 16, 32, 64, 8, 16]⟩
abbrev S8x16x32x64x256 : Shape := ⟨5, ![8, 16, 32, 64, 256]⟩
abbrev S8x16x32x64x128 : Shape := ⟨5, ![8, 16, 32, 64, 128]⟩
abbrev S8x16x32x64x384 : Shape := ⟨5, ![8, 16, 32, 64, 384]⟩
abbrev S8x16x32x64 : Shape := ⟨4, ![8, 16, 32, 64]⟩
abbrev S8x16x32x64x1 : Shape := ⟨5, ![8, 16, 32, 64, 1]⟩
abbrev S8x16x128x32x64 : Shape := ⟨5, ![8, 16, 128, 32, 64]⟩
abbrev S8x2048x2048 : Shape := ⟨3, ![8, 2048, 2048]⟩
abbrev S8x16x256x256 : Shape := ⟨4, ![8, 16, 256, 256]⟩
abbrev S8x16x256 : Shape := ⟨3, ![8, 16, 256]⟩
abbrev S8x16x256x1 : Shape := ⟨4, ![8, 16, 256, 1]⟩
abbrev S8x16x128x256 : Shape := ⟨4, ![8, 16, 128, 256]⟩
abbrev S8x256x2048 : Shape := ⟨3, ![8, 256, 2048]⟩

abbrev nBuf : Space → Nat
  | .hbm => 168
  | .vmem => 0
  | .smem => 0
  | _ => 0

abbrev hbmTy0_0 (i : Nat) : BufTy := match i % 128 with
  | 0 => ⟨S8x2304x6144, .bf16⟩
  | 1 => ⟨S16x15x31, .f32⟩
  | 2 => ⟨S2x128, .f32⟩
  | 3 => ⟨S32x8, .i32⟩
  | 4 => ⟨S32x8, .i1⟩
  | 5 => ⟨S64x16, .i32⟩
  | 6 => ⟨S64x16, .i1⟩
  | 7 => ⟨S32x8, .i1⟩
  | 8 => ⟨S64x16, .i1⟩
  | 9 => ⟨S32x8, .i32⟩
  | 10 => ⟨S32x8, .i1⟩
  | 11 => ⟨S64x16, .i32⟩
  | 12 => ⟨S64x16, .i1⟩
  | 13 => ⟨S8x2304x6144, .f32⟩
  | 14 => ⟨S8x2304x2048, .f32⟩
  | 15 => ⟨S8x2304x2048, .f32⟩
  | 16 => ⟨S8x2304x2048, .f32⟩
  | 17 => ⟨S8x2304x16x128, .f32⟩
  | 18 => ⟨S8x2304x16x128, .f32⟩
  | 19 => ⟨S8x2304x16x128, .f32⟩
  | 20 => ⟨S1x128, .f32⟩
  | 21 => ⟨S128, .f32⟩
  | 22 => ⟨S8x2304x16x128, .f32⟩
  | 23 => ⟨S_, .f32⟩
  | 24 => ⟨S8x2304x16, .f32⟩
  | 25 => ⟨S8x2304x16x1, .f32⟩
  | 26 => ⟨S_, .f32⟩
  | 27 => ⟨S8x2304x16x1, .f32⟩
  | 28 => ⟨S8x2304x16x1, .f32⟩
  | 29 => ⟨S_, .f32⟩
  | 30 => ⟨S8x2304x16x1, .f32⟩
  | 31 => ⟨S8x2304x16x1, .f32⟩
  | 32 => ⟨S8x2304x16x1, .f32⟩
  | 33 => ⟨S8x2304x16x128, .f32⟩
  | 34 => ⟨S8x2304x16x128, .f32⟩
  | 35 => ⟨S1x1x1x128, .f32⟩
  | 36 => ⟨S8x2304x16x128, .f32⟩
  | 37 => ⟨S8x2304x16x128, .f32⟩
  | 38 => ⟨S8x2304x16x128, .bf16⟩
  | 39 => ⟨S8x2304x16x128, .f32⟩
  | 40 => ⟨S_, .f32⟩
  | 41 => ⟨S8x2304x16x128, .f32⟩
  | 42 => ⟨S8x2304x16x128, .f32⟩
  | 43 => ⟨S8x2304x16x128, .bf16⟩
  | 44 => ⟨S8x2304x16x128, .f32⟩
  | 45 => ⟨S1x128, .f32⟩
  | 46 => ⟨S128, .f32⟩
  | 47 => ⟨S8x2304x16x128, .f32⟩
  | 48 => ⟨S_, .f32⟩
  | 49 => ⟨S8x2304x16, .f32⟩
  | 50 => ⟨S8x2304x16x1, .f32⟩
  | 51 => ⟨S_, .f32⟩
  | 52 => ⟨S8x2304x16x1, .f32⟩
  | 53 => ⟨S8x2304x16x1, .f32⟩
  | 54 => ⟨S_, .f32⟩
  | 55 => ⟨S8x2304x16x1, .f32⟩
  | 56 => ⟨S8x2304x16x1, .f32⟩
  | 57 => ⟨S8x2304x16x1, .f32⟩
  | 58 => ⟨S8x2304x16x128, .f32⟩
  | 59 => ⟨S8x2304x16x128, .f32⟩
  | 60 => ⟨S1x1x1x128, .f32⟩
  | 61 => ⟨S8x2304x16x128, .f32⟩
  | 62 => ⟨S8x2304x16x128, .f32⟩
  | 63 => ⟨S8x2304x16x128, .bf16⟩
  | 64 => ⟨S8x2304x16x128, .f32⟩
  | 65 => ⟨S8x2048x16x128, .f32⟩
  | 66 => ⟨S8x2048x16x128, .f32⟩
  | 67 => ⟨S8x2048x16x128, .f32⟩
  | 68 => ⟨S8x256x16x128, .f32⟩
  | 69 => ⟨S8x256x16x128, .f32⟩
  | 70 => ⟨S8x32x64x16x128, .f32⟩
  | 71 => ⟨S8x32x64x16x128, .f32⟩
  | 72 => ⟨S8x32x64x16x128, .f32⟩
  | 73 => ⟨S_, .i32⟩
  | 74 => ⟨S32x8, .i32⟩
  | 75 => ⟨S32x8, .i32⟩
  | 76 => ⟨S32x8, .i32⟩
  | 77 => ⟨S32x8x1, .i32⟩
  | 78 => ⟨S8x32x8x64x16x128, .f32⟩
  | 79 => ⟨S_, .i32⟩
  | 80 => ⟨S64x16, .i32⟩
  | 81 => ⟨S64x16, .i32⟩
  | 82 => ⟨S64x16, .i32⟩
  | 83 => ⟨S64x16x1, .i32⟩
  | 84 => ⟨S8x32x8x64x16x16x128, .f32⟩
  | 85 => ⟨S_, .i32⟩
  | 86 => ⟨S32x8, .i32⟩
  | 87 => ⟨S32x8, .i32⟩
  | 88 => ⟨S32x8, .i32⟩
  | 89 => ⟨S32x8x1, .i32⟩
  | 90 => ⟨S8x32x8x64x16x128, .f32⟩
  | 91 => ⟨S_, .i32⟩
  | 92 => ⟨S64x16, .i32⟩
  | 93 => ⟨S64x16, .i32⟩
  | 94 => ⟨S64x16, .i32⟩
  | 95 => ⟨S64x16x1, .i32⟩
  | 96 => ⟨S8x32x8x64x16x16x128, .f32⟩
  | 97 => ⟨S_, .i32⟩
  | 98 => ⟨S32x8, .i32⟩
  | 99 => ⟨S32x8, .i32⟩
  | 100 => ⟨S32x8, .i32⟩
  | 101 => ⟨S32x8x1, .i32⟩
  | 102 => ⟨S16x32x8x31, .f32⟩
  | 103 => ⟨S_, .i32⟩
  | 104 => ⟨S64x16, .i32⟩
  | 105 => ⟨S64x16, .i32⟩
  | 106 => ⟨S64x16, .i32⟩
  | 107 => ⟨S64x16x1, .i32⟩
  | 108 => ⟨S16x32x8x64x16, .f32⟩
  | 109 => ⟨S16x32x64x8x16, .f32⟩
  | 110 => ⟨S8x16x32x64x8x16, .f32⟩
  | 111 => ⟨S1x16x32x64x8x16, .f32⟩
  | 112 => ⟨S8x16x32x64x8x16, .f32⟩
  | 113 => ⟨S8x16x32x64x8x16, .f32⟩
  | 114 => ⟨S8x16x32x64x256, .f32⟩
  | 115 => ⟨S8x16x32x64x128, .f32⟩
  | 116 => ⟨S8x16x32x64x384, .f32⟩
  | 117 => ⟨S_, .f32⟩
  | 118 => ⟨S8x16x32x64, .f32⟩
  | 119 => ⟨S_, .f32⟩
  | 120 => ⟨S8x16x32x64, .f32⟩
  | 121 => ⟨S8x16x32x64, .f32⟩
  | 122 => ⟨S8x16x32x64x1, .f32⟩
  | 123 => ⟨S8x16x32x64x384, .f32⟩
  | 124 => ⟨S8x16x32x64x384, .f32⟩
  | 125 => ⟨S8x16x32x64x384, .f32⟩
  | 126 => ⟨S_, .f32⟩
  | 127 => ⟨S8x16x32x64, .f32⟩
  | _ => ⟨S8x2304x6144, .bf16⟩

abbrev hbmTy0_1 (i : Nat) : BufTy := match i % 128 with
  | 0 => ⟨S8x16x32x64x1, .f32⟩
  | 1 => ⟨S8x16x32x64x384, .f32⟩
  | 2 => ⟨S8x16x32x64x384, .f32⟩
  | 3 => ⟨S8x16x32x64x384, .bf16⟩
  | 4 => ⟨S8x16x32x64x384, .f32⟩
  | 5 => ⟨S8x16x32x64x128, .f32⟩
  | 6 => ⟨S8x16x32x64x8x16, .f32⟩
  | 7 => ⟨S8x32x64x16x128, .f32⟩
  | 8 => ⟨S8x32x64x16x128, .bf16⟩
  | 9 => ⟨S8x16x32x64x256, .f32⟩
  | 10 => ⟨S8x16x128x32x64, .f32⟩
  | 11 => ⟨S8x32x64x16x128, .f32⟩
  | 12 => ⟨S8x32x64x16x128, .bf16⟩
  | 13 => ⟨S8x32x64x16x128, .bf16⟩
  | 14 => ⟨S8x2048x2048, .bf16⟩
  | 15 => ⟨S8x256x16x128, .f32⟩
  | 16 => ⟨S8x256x16x128, .f32⟩
  | 17 => ⟨S8x256x16x128, .f32⟩
  | 18 => ⟨S8x16x256x256, .f32⟩
  | 19 => ⟨S_, .f32⟩
  | 20 => ⟨S8x16x256, .f32⟩
  | 21 => ⟨S_, .f32⟩
  | 22 => ⟨S8x16x256, .f32⟩
  | 23 => ⟨S8x16x256, .f32⟩
  | 24 => ⟨S8x16x256x1, .f32⟩
  | 25 => ⟨S8x16x256x256, .f32⟩
  | 26 => ⟨S8x16x256x256, .f32⟩
  | 27 => ⟨S8x16x256x256, .f32⟩
  | 28 => ⟨S_, .f32⟩
  | 29 => ⟨S8x16x256, .f32⟩
  | 30 => ⟨S8x16x256x1, .f32⟩
  | 31 => ⟨S8x16x256x256, .f32⟩
  | 32 => ⟨S8x16x256x256, .f32⟩
  | 33 => ⟨S8x16x256x256, .bf16⟩
  | 34 => ⟨S8x16x256x256, .f32⟩
  | 35 => ⟨S8x16x128x256, .f32⟩
  | 36 => ⟨S8x256x16x128, .f32⟩
  | 37 => ⟨S8x256x16x128, .bf16⟩
  | 38 => ⟨S8x256x2048, .bf16⟩
  | 39 => ⟨S8x2304x2048, .bf16⟩
  | _ => ⟨S8x2304x6144, .bf16⟩

abbrev hbmTy (i : Nat) : BufTy := match i / 128 with
  | 0 => hbmTy0_0 i
  | 1 => hbmTy0_1 i
  | _ => ⟨S8x2304x6144, .bf16⟩

abbrev bufTy : (tb : Table) → Fin (tcTables nBuf tb) → BufTy
  | .hbm, ⟨i, _⟩ => hbmTy i
  | _, _ => ⟨S8x2304x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_9 : Ref sig .tc := ⟨.hbm, 26, rfl⟩
abbrev main_v12 : Ref sig .tc := ⟨.hbm, 27, rfl⟩
abbrev main_v13 : Ref sig .tc := ⟨.hbm, 28, rfl⟩
abbrev main_cst_10 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_11 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_12 : Ref sig .tc := ⟨.hbm, 48, rfl⟩
abbrev main_v31 : Ref sig .tc := ⟨.hbm, 49, rfl⟩
abbrev main_v32 : Ref sig .tc := ⟨.hbm, 50, rfl⟩
abbrev main_cst_13 : Ref sig .tc := ⟨.hbm, 51, rfl⟩
abbrev main_v33 : Ref sig .tc := ⟨.hbm, 52, rfl⟩
abbrev main_v34 : Ref sig .tc := ⟨.hbm, 53, rfl⟩
abbrev main_cst_14 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_17 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_19 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_20 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_21 : Ref sig .tc := ⟨.hbm, 117, rfl⟩
abbrev main_v91 : Ref sig .tc := ⟨.hbm, 118, rfl⟩
abbrev main_cst_22 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_23 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_24 : Ref sig .tc := ⟨.hbm, 147, rfl⟩
abbrev main_v118 : Ref sig .tc := ⟨.hbm, 148, rfl⟩
abbrev main_cst_25 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_26 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩

abbrev nD : Nat := 1
abbrev τ : Topo := Topo.v7x

variable {F : FTy → Type} [FloatOps F]
-- ==== KernelUp.lean ====
abbrev S41 : Shape := ⟨1, ![41]⟩
abbrev S10240x4096 : Shape := ⟨2, ![10240, 4096]⟩
abbrev S2x16x4096x1024 : Shape := ⟨4, ![2, 16, 4096, 1024]⟩
abbrev S10240x1024 : Shape := ⟨2, ![10240, 1024]⟩
abbrev S256x4096 : Shape := ⟨2, ![256, 4096]⟩
abbrev S1x1x4096x512 : Shape := ⟨4, ![1, 1, 4096, 512]⟩
abbrev S1 : Shape := ⟨1, ![1]⟩
abbrev S256x512 : Shape := ⟨2, ![256, 512]⟩
abbrev S4096x512 : Shape := ⟨2, ![4096, 512]⟩

abbrev nBuf : Space → Nat
  | .hbm => 4
  | .vmem => 10
  | .smem => 1
  | _ => 0

abbrev bufTy : (tb : Table) → Fin (tcTables nBuf tb) → BufTy
  | .hbm, ⟨0, _⟩ => ⟨S10240x4096, .bf16⟩
  | .hbm, ⟨1, _⟩ => ⟨S2x16x4096x1024, .f32⟩
  | .hbm, ⟨2, _⟩ => ⟨S2x16x4096x1024, .f32⟩
  | .hbm, ⟨3, _⟩ => ⟨S10240x1024, .bf16⟩
  | .local _ .vmem, ⟨0, _⟩ => ⟨S256x4096, .bf16⟩
  | .local _ .vmem, ⟨1, _⟩ => ⟨S256x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S41, .i32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 40], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v4 : BitVec 32 := Scalar.subi arg1 c1_i32
  let c0_i32_0 : BitVec 32 := 0#32
  let v5 : BitVec 32 := Scalar.maxsi v4 c0_i32_0
  let v6 : Index := Scalar.indexCast v5
  ![v6.toNat]
def k0_cond2 (i : grid0.Coords) (v0 : BitVec 32) : BitVec 1 :=
  let arg1 : BitVec 32 := BitVec.ofNat 32 (i 1).val
  let v12 : BitVec 1 := Scalar.cmpi .slt arg1 v0
  let v13 : BitVec 32 := Scalar.extui v12
  let c0_i32_2 : BitVec 32 := 0#32
  let v14 : BitVec 1 := Scalar.cmpi .ne v13 c0_i32_2
  v14

def k0_cond3 (i : grid0.Coords) (v0 : BitVec 32) : BitVec 1 :=
  let arg1 : BitVec 32 := BitVec.ofNat 32 (i 1).val
  let v15 : BitVec 1 := Scalar.cmpi .sge arg1 v0
  let v16 : BitVec 32 := Scalar.extui v15
  let c0_i32_3 : BitVec 32 := 0#32
  let v17 : BitVec 1 := Scalar.cmpi .ne v16 c0_i32_3
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S41.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S41 : Shape := ⟨1, ![41]⟩
abbrev S10240x4096 : Shape := ⟨2, ![10240, 4096]⟩
abbrev S2x16x4096x1024 : Shape := ⟨4, ![2, 16, 4096, 1024]⟩
abbrev S40 : Shape := ⟨1, ![40]⟩
abbrev S1 : Shape := ⟨1, ![1]⟩
abbrev S_ : Shape := ⟨0, ![]⟩
abbrev S40x256x4096 : Shape := ⟨3, ![40, 256, 4096]⟩
abbrev S1x16x4096x1024 : Shape := ⟨4, ![1, 16, 4096, 1024]⟩
abbrev S16x4096x1024 : Shape := ⟨3, ![16, 4096, 1024]⟩
abbrev S40x1 : Shape := ⟨2, ![40, 1]⟩
abbrev S40x4096x1024 : Shape := ⟨3, ![40, 4096, 1024]⟩
abbrev S40x256x1024 : Shape := ⟨3, ![40, 256, 1024]⟩
abbrev S40x1x1 : Shape := ⟨3, ![40, 1, 1]⟩
abbrev S10240x1024 : Shape := ⟨2, ![10240, 1024]⟩

abbrev nBuf : Space → Nat
  | .hbm => 54
  | .vmem => 0
  | .smem => 0
  | _ => 0

abbrev bufTy : (tb : Table) → Fin (tcTables nBuf tb) → BufTy
  | .hbm, ⟨0, _⟩ => ⟨S41, .i32⟩
  | .hbm, ⟨1, _⟩ => ⟨S10240x4096, .bf16⟩
  | .hbm, ⟨2, _⟩ => ⟨S2x16x4096x1024, .f32⟩
  | .hbm, ⟨3, _⟩ => ⟨S2x16x4096x1024, .f32⟩
  | .hbm, ⟨4, _⟩ => ⟨S40, .i32⟩
  | .hbm, ⟨5, _⟩ => ⟨S1, .i32⟩
  | .hbm, ⟨6, _⟩ => ⟨S_, .i32⟩
  | .hbm, ⟨7, _⟩ => ⟨S10240x4096, .f32⟩
  | .hbm, ⟨8, _⟩ => ⟨S40x256x4096, .f32⟩
  | .hbm, ⟨9, _⟩ => ⟨S1x16x4096x1024, .f32⟩
  | .hbm, ⟨10, _⟩ => ⟨S16x4096x1024, .f32⟩
  | .hbm, ⟨11, _⟩ => ⟨S_, .i32⟩
  | .hbm, ⟨12, _⟩ => ⟨S40, .i32⟩
  | .hbm, ⟨13, _⟩ => ⟨S40, .i1⟩
  | .hbm, ⟨14, _⟩ => ⟨S_, .i32⟩
  | .hbm, ⟨15, _⟩ => ⟨S40, .i32⟩
  | .hbm, ⟨16, _⟩ => ⟨S40, .i32⟩
  | .hbm, ⟨17, _⟩ => ⟨S40, .i32⟩
  | .hbm, ⟨18, _⟩ => ⟨S40x1, .i32⟩
  | .hbm, ⟨19, _⟩ => ⟨S40x4096x1024, .f32⟩
  | .hbm, ⟨20, _⟩ => ⟨S40x256x1024, .f32⟩
  | .hbm, ⟨21, _⟩ => ⟨S1x16x4096x1024, .f32⟩
  | .hbm, ⟨22, _⟩ => ⟨S16x4096x1024, .f32⟩
  | .hbm, ⟨23, _⟩ => ⟨S_, .i32⟩
  | .hbm, ⟨24, _⟩ => ⟨S40, .i32⟩
  | .hbm, ⟨25, _⟩ => ⟨S40, .i1⟩
  | .hbm, ⟨26, _⟩ => ⟨S_, .i32⟩
  | .hbm, ⟨27, _⟩ => ⟨S40, .i32⟩
  | .hbm, ⟨28, _⟩ => ⟨S40, .i32⟩
  | .hbm, ⟨29, _⟩ => ⟨S40, .i32⟩
  | .hbm, ⟨30, _⟩ => ⟨S40x1, .i32⟩
  | .hbm, ⟨31, _⟩ => ⟨S40x4096x1024, .f32⟩
  | .hbm, ⟨32, _⟩ => ⟨S40x256x1024, .f32⟩
  | .hbm, ⟨33, _⟩ => ⟨S40x256x1024, .f32⟩
  | .hbm, ⟨34, _⟩ => ⟨S40x256x1024, .f32⟩
  | .hbm, ⟨35, _⟩ => ⟨S_, .f32⟩
  | .hbm, ⟨36, _⟩ => ⟨S40x256x1024, .f32⟩
  | .hbm, ⟨37, _⟩ => ⟨S40x256x1024, .f32⟩
  | .hbm, ⟨38, _⟩ => ⟨S_, .f32⟩
  | .hbm, ⟨39, _⟩ => ⟨S40x256x1024, .f32⟩
  | .hbm, ⟨40, _⟩ => ⟨S40x256x1024, .f32⟩
  | .hbm, ⟨41, _⟩ => ⟨S40x256x1024, .f32⟩
  | .hbm, ⟨42, _⟩ => ⟨S40x256x1024, .f32⟩
  | .hbm, ⟨43, _⟩ => ⟨S40, .i32⟩
  | .hbm, ⟨44, _⟩ => ⟨S40, .i32⟩
  | .hbm, ⟨45, _⟩ => ⟨S40, .i1⟩
  | .hbm, ⟨46, _⟩ => ⟨S40x1x1, .i1⟩
  | .hbm, ⟨47, _⟩ => ⟨S_, .f32⟩
  | .hbm, ⟨48, _⟩ => ⟨S_, .f32⟩
  | .hbm, ⟨49, _⟩ => ⟨S40x256x1024, .i1⟩
  | .hbm, ⟨50, _⟩ => ⟨S40x256x1024, .f32⟩
  | .hbm, ⟨51, _⟩ => ⟨S40x256x1024, .f32⟩
  | .hbm, ⟨52, _⟩ => ⟨S40x256x1024, .bf16⟩
  | .hbm, ⟨53, _⟩ => ⟨S10240x1024, .bf16⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== KernelDown.lean ====
abbrev S161 : Shape := ⟨1, ![161]⟩
abbrev S10240x1024 : Shape := ⟨2, ![10240, 1024]⟩
abbrev S2x16x1024x4096 : Shape := ⟨4, ![2, 16, 1024, 4096]⟩
abbrev S40960x4096 : Shape := ⟨2, ![40960, 4096]⟩
abbrev S256x1024 : Shape := ⟨2, ![256, 1024]⟩
abbrev S1x1x1024x4096 : Shape := ⟨4, ![1, 1, 1024, 4096]⟩
abbrev S1 : Shape := ⟨1, ![1]⟩
abbrev S256x4096 : Shape := ⟨2, ![256, 4096]⟩
abbrev S1024x4096 : Shape := ⟨2, ![1024, 4096]⟩

abbrev nBuf : Space → Nat
  | .hbm => 6
  | .vmem => 13
  | .smem => 1
  | _ => 0

abbrev bufTy : (tb : Table) → Fin (tcTables nBuf tb) → BufTy
  | .hbm, ⟨0, _⟩ => ⟨S10240x1024, .bf16⟩
  | .hbm, ⟨1, _⟩ => ⟨S10240x1024, .bf16⟩
  | .hbm, ⟨2, _⟩ => ⟨S10240x1024, .bf16⟩
  | .hbm, ⟨3, _⟩ => ⟨S10240x1024, .bf16⟩
  | .hbm, ⟨4, _⟩ => ⟨S2x16x1024x4096, .f32⟩
  | .hbm, ⟨5, _⟩ => ⟨S40960x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1x1024x4096, .f32⟩
  | .local _ .vmem, ⟨9, _⟩ => ⟨S1x1x1024x4096, .f32⟩
  | .local _ .vmem, ⟨10, _⟩ => ⟨S256x4096, .bf16⟩
  | .local _ .vmem, ⟨11, _⟩ => ⟨S256x4096, .bf16⟩
  | .local _ .vmem, ⟨12, _⟩ => ⟨S1024x4096, .bf16⟩
  | .local _ .smem, ⟨0, _⟩ => ⟨S161, .i32⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 160], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v4 : BitVec 32 := Scalar.subi arg1 c1_i32
  let c0_i32_0 : BitVec 32 := 0#32
  let v5 : BitVec 32 := Scalar.maxsi v4 c0_i32_0
  let v6 : Index := Scalar.indexCast v5
  ![v6.toNat]
def k0_cond2 (i : grid0.Coords) (v0 : BitVec 32) : BitVec 1 :=
  let arg1 : BitVec 32 := BitVec.ofNat 32 (i 1).val
  let c0_i32_2 : BitVec 32 := 0#32
  let v12 : BitVec 1 := Scalar.cmpi .sge arg1 c0_i32_2
  let c40_i32 : BitVec 32 := 40#32
  let v13 : BitVec 32 := Scalar.minsi v0 c40_i32
  let v14 : BitVec 1 := Scalar.cmpi .slt arg1 v13
  let v15 : BitVec 1 := Scalar.andi v12 v14
  let v16 : BitVec 32 := Scalar.extui v15
  let c0_i32_3 : BitVec 32 := 0#32
  let v17 : BitVec 1 := Scalar.cmpi .ne v16 c0_i32_3
  v17

def k0_cond3 (i : grid0.Coords) (v0 : BitVec 32) : BitVec 1 :=
  let arg1 : BitVec 32 := BitVec.ofNat 32 (i 1).val
  let c40_i32_4 : BitVec 32 := 40#32
  let v18 : BitVec 1 := Scalar.cmpi .sge arg1 c40_i32_4
  let c80_i32 : BitVec 32 := 80#32
  let v19 : BitVec 32 := Scalar.minsi v0 c80_i32
  let v20 : BitVec 1 := Scalar.cmpi .slt arg1 v19
  let v21 : BitVec 1 := Scalar.andi v18 v20
  let v22 : BitVec 32 := Scalar.extui v21
  let c0_i32_5 : BitVec 32 := 0#32
  let v23 : BitVec 1 := Scalar.cmpi .ne v22 c0_i32_5
  v23

def k0_cond4 (i : grid0.Coords) (v0 : BitVec 32) : BitVec 1 :=
  let arg1 : BitVec 32 := BitVec.ofNat 32 (i 1).val
  let c80_i32_6 : BitVec 32 := 80#32
  let v24 : BitVec 1 := Scalar.cmpi .sge arg1 c80_i32_6
  let c120_i32 : BitVec 32 := 120#32
  let v25 : BitVec 32 := Scalar.minsi v0 c120_i32
  let v26 : BitVec 1 := Scalar.cmpi .slt arg1 v25
  let v27 : BitVec 1 := Scalar.andi v24 v26
  let v28 : BitVec 32 := Scalar.extui v27
  let c0_i32_7 : BitVec 32 := 0#32
  let v29 : BitVec 1 := Scalar.cmpi .ne v28 c0_i32_7
  v29

def k0_cond5 (i : grid0.Coords) (v0 : BitVec 32) : BitVec 1 :=
  let arg1 : BitVec 32 := BitVec.ofNat 32 (i 1).val
  let c120_i32_8 : BitVec 32 := 120#32
  let v30 : BitVec 1 := Scalar.cmpi .sge arg1 c120_i32_8
  let c160_i32 : BitVec 32 := 160#32
  let v31 : BitVec 32 := Scalar.minsi v0 c160_i32
  let v32 : BitVec 1 := Scalar.cmpi .slt arg1 v31
  let v33 : BitVec 1 := Scalar.andi v30 v32
  let v34 : BitVec 32 := Scalar.extui v33
  let c0_i32_9 : BitVec 32 := 0#32
  let v35 : BitVec 1 := Scalar.cmpi .ne v34 c0_i32_9
  v35

def k0_cond6 (i : grid0.Coords) (v0 : BitVec 32) : BitVec 1 :=
  let arg1 : BitVec 32 := BitVec.ofNat 32 (i 1).val
  let v36 : BitVec 1 := Scalar.cmpi .sge arg1 v0
  let v37 : BitVec 32 := Scalar.extui v36
  let c0_i32_10 : BitVec 32 := 0#32
  let v38 : BitVec 1 := Scalar.cmpi .ne v37 c0_i32_10
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c39_i32 : BitVec 32 := 39#32
  let v1 : BitVec 32 := Scalar.maxsi c0_i32_0 v0
  let v2 : BitVec 32 := Scalar.minsi c39_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.subi arg1 c40_i32
  let c0_i32 : BitVec 32 := 0#32
  let c39_i32 : BitVec 32 := 39#32
  let v1 : BitVec 32 := Scalar.maxsi c0_i32 v0
  let v2 : BitVec 32 := Scalar.minsi c39_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.subi arg1 c80_i32
  let c0_i32 : BitVec 32 := 0#32
  let c39_i32 : BitVec 32 := 39#32
  let v1 : BitVec 32 := Scalar.maxsi c0_i32 v0
  let v2 : BitVec 32 := Scalar.minsi c39_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c120_i32 : BitVec 32 := 120#32
  let v0 : BitVec 32 := Scalar.subi arg1 c120_i32
  let c0_i32 : BitVec 32 := 0#32
  let c39_i32 : BitVec 32 := 39#32
  let v1 : BitVec 32 := Scalar.maxsi c0_i32 v0
  let v2 : BitVec 32 := Scalar.minsi c39_i32 v1
  let c0_i32_0 : BitVec 32 := 0#32
  let c0_i32_1 : BitVec 32 := 0#32
  ![v2.toNat, c0_i32_0.toNat]

def cc0_transform_4 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceDownIdeal.lean ====
abbrev S161 : Shape := ⟨1, ![161]⟩
abbrev S10240x1024 : Shape := ⟨2, ![10240, 1024]⟩
abbrev S2x16x1024x4096 : Shape := ⟨4, ![2, 16, 1024, 4096]⟩
abbrev S160 : Shape := ⟨1, ![160]⟩
abbrev S1 : Shape := ⟨1, ![1]⟩
abbrev S_ : Shape := ⟨0, ![]⟩
abbrev S40960x1024 : Shape := ⟨2, ![40960, 1024]⟩
abbrev S160x256x1024 : Shape := ⟨3, ![160, 256, 1024]⟩
abbrev S1x16x1024x4096 : Shape := ⟨4, ![1, 16, 1024, 4096]⟩
abbrev S16x1024x4096 : Shape := ⟨3, ![16, 1024, 4096]⟩
abbrev S160x1 : Shape := ⟨2, ![160, 1]⟩
abbrev S160x1024x4096 : Shape := ⟨3, ![160, 1024, 4096]⟩
abbrev S160x256x4096 : Shape := ⟨3, ![160, 256, 4096]⟩
abbrev S160x1x1 : Shape := ⟨3, ![160, 1, 1]⟩
abbrev S40960x4096 : Shape := ⟨2, ![40960, 4096]⟩

abbrev nBuf : Space → Nat
  | .hbm => 35
  | .vmem => 0
  | .smem => 0
  | _ => 0

abbrev bufTy : (tb : Table) → Fin (tcTables nBuf tb) → BufTy
  | .hbm, ⟨0, _⟩ => ⟨S161, .i32⟩
  | .hbm, ⟨1, _⟩ => ⟨S10240x1024, .bf16⟩
  | .hbm, ⟨2, _⟩ => ⟨S10240x1024, .bf16⟩
  | .hbm, ⟨3, _⟩ => ⟨S10240x1024, .bf16⟩
  | .hbm, ⟨4, _⟩ => ⟨S10240x1024, .bf16⟩
  | .hbm, ⟨5, _⟩ => ⟨S2x16x1024x4096, .f32⟩
  | .hbm, ⟨6, _⟩ => ⟨S160, .i32⟩
  | .hbm, ⟨7, _⟩ => ⟨S1, .i32⟩
  | .hbm, ⟨8, _⟩ => ⟨S_, .i32⟩
  | .hbm, ⟨9, _⟩ => ⟨S40960x1024, .bf16⟩
  | .hbm, ⟨10, _⟩ => ⟨S40960x1024, .f32⟩
  | .hbm, ⟨11, _⟩ => ⟨S160x256x1024, .f32⟩
  | .hbm, ⟨12, _⟩ => ⟨S1x16x1024x4096, .f32⟩
  | .hbm, ⟨13, _⟩ => ⟨S16x1024x4096, .f32⟩
  | .hbm, ⟨14, _⟩ => ⟨S_, .i32⟩
  | .hbm, ⟨15, _⟩ => ⟨S160, .i32⟩
  | .hbm, ⟨16, _⟩ => ⟨S160, .i1⟩
  | .hbm, ⟨17, _⟩ => ⟨S_, .i32⟩
  | .hbm, ⟨18, _⟩ => ⟨S160, .i32⟩
  | .hbm, ⟨19, _⟩ => ⟨S160, .i32⟩
  | .hbm, ⟨20, _⟩ => ⟨S160, .i32⟩
  | .hbm, ⟨21, _⟩ => ⟨S160x1, .i32⟩
  | .hbm, ⟨22, _⟩ => ⟨S160x1024x4096, .f32⟩
  | .hbm, ⟨23, _⟩ => ⟨S160x256x4096, .f32⟩
  | .hbm, ⟨24, _⟩ => ⟨S160, .i32⟩
  | .hbm, ⟨25, _⟩ => ⟨S160, .i32⟩
  | .hbm, ⟨26, _⟩ => ⟨S160, .i1⟩
  | .hbm, ⟨27, _⟩ => ⟨S160x1x1, .i1⟩
  | .hbm, ⟨28, _⟩ => ⟨S_, .f32⟩
  | .hbm, ⟨29, _⟩ => ⟨S_, .f32⟩
  | .hbm, ⟨30, _⟩ => ⟨S160x256x4096, .i1⟩
  | .hbm, ⟨31, _⟩ => ⟨S160x256x4096, .f32⟩
  | .hbm, ⟨32, _⟩ => ⟨S160x256x4096, .f32⟩
  | .hbm, ⟨33, _⟩ => ⟨S160x256x4096, .bf16⟩
  | .hbm, ⟨34, _⟩ => ⟨S40960x4096, .bf16⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== KernelProjA.lean ====
abbrev S18432x4096 : Shape := ⟨2, ![18432, 4096]⟩
abbrev S2x4096x14400 : Shape := ⟨3, ![2, 4096, 14400]⟩
abbrev S2x14400x4096 : Shape := ⟨3, ![2, 14400, 4096]⟩
abbrev S18432x8192 : Shape := ⟨2, ![18432, 8192]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S18432x4096, .bf16⟩
  | .hbm, ⟨1, _⟩ => ⟨S2x4096x14400, .f32⟩
  | .hbm, ⟨2, _⟩ => ⟨S2x14400x4096, .f32⟩
  | .hbm, ⟨3, _⟩ => ⟨S2x14400x4096, .bf16⟩
  | .hbm, ⟨4, _⟩ => ⟨S18432x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .bf16⟩
  | .local _ .vmem, ⟨5, _⟩ => ⟨S1024x1024, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjAIdeal.lean ====
abbrev S18432x4096 : Shape := ⟨2, ![18432, 4096]⟩
abbrev S2x4096x14400 : Shape := ⟨3, ![2, 4096, 14400]⟩
abbrev S1x4096x14400 : Shape := ⟨3, ![1, 4096, 14400]⟩
abbrev S4096x14400 : Shape := ⟨2, ![4096, 14400]⟩
abbrev S18432x14400 : Shape := ⟨2, ![18432, 14400]⟩
abbrev S18432x8192 : Shape := ⟨2, ![18432, 8192]⟩
abbrev S18432x64 : Shape := ⟨2, ![18432, 64]⟩
abbrev S18432x6144 : Shape := ⟨2, ![18432, 6144]⟩

abbrev nBuf : Space → Nat
  | .hbm => 10
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S2x4096x14400, .f32⟩
  | .hbm, ⟨2, _⟩ => ⟨S18432x4096, .f32⟩
  | .hbm, ⟨3, _⟩ => ⟨S1x4096x14400, .f32⟩
  | .hbm, ⟨4, _⟩ => ⟨S4096x14400, .f32⟩
  | .hbm, ⟨5, _⟩ => ⟨S18432x14400, .f32⟩
  | .hbm, ⟨6, _⟩ => ⟨S18432x14400, .bf16⟩
  | .hbm, ⟨7, _⟩ => ⟨S18432x8192, .bf16⟩
  | .hbm, ⟨8, _⟩ => ⟨S18432x64, .bf16⟩
  | .hbm, ⟨9, _⟩ => ⟨S18432x6144, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelProjB.lean ====
abbrev S18432x4096 : Shape := ⟨2, ![18432, 4096]⟩
abbrev S2x4096x14400 : Shape := ⟨3, ![2, 4096, 14400]⟩
abbrev S2x14400x4096 : Shape := ⟨3, ![2, 14400, 4096]⟩
abbrev S2x6144x4096 : Shape := ⟨3, ![2, 6144, 4096]⟩
abbrev S18432x6144 : Shape := ⟨2, ![18432, 6144]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S18432x4096, .bf16⟩
  | .hbm, ⟨1, _⟩ => ⟨S2x4096x14400, .f32⟩
  | .hbm, ⟨2, _⟩ => ⟨S2x14400x4096, .f32⟩
  | .hbm, ⟨3, _⟩ => ⟨S2x14400x4096, .bf16⟩
  | .hbm, ⟨4, _⟩ => ⟨S2x6144x4096, .bf16⟩
  | .hbm, ⟨5, _⟩ => ⟨S18432x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .bf16⟩
  | .local _ .vmem, ⟨5, _⟩ => ⟨S1024x1024, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjBIdeal.lean ====
abbrev S18432x4096 : Shape := ⟨2, ![18432, 4096]⟩
abbrev S2x4096x14400 : Shape := ⟨3, ![2, 4096, 14400]⟩
abbrev S1x4096x14400 : Shape := ⟨3, ![1, 4096, 14400]⟩
abbrev S4096x14400 : Shape := ⟨2, ![4096, 14400]⟩
abbrev S18432x14400 : Shape := ⟨2, ![18432, 14400]⟩
abbrev S18432x8192 : Shape := ⟨2, ![18432, 8192]⟩
abbrev S18432x64 : Shape := ⟨2, ![18432, 64]⟩
abbrev S18432x6144 : Shape := ⟨2, ![18432, 6144]⟩

abbrev nBuf : Space → Nat
  | .hbm => 10
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S2x4096x14400, .f32⟩
  | .hbm, ⟨2, _⟩ => ⟨S18432x4096, .f32⟩
  | .hbm, ⟨3, _⟩ => ⟨S1x4096x14400, .f32⟩
  | .hbm, ⟨4, _⟩ => ⟨S4096x14400, .f32⟩
  | .hbm, ⟨5, _⟩ => ⟨S18432x14400, .f32⟩
  | .hbm, ⟨6, _⟩ => ⟨S18432x14400, .bf16⟩
  | .hbm, ⟨7, _⟩ => ⟨S18432x8192, .bf16⟩
  | .hbm, ⟨8, _⟩ => ⟨S18432x64, .bf16⟩
  | .hbm, ⟨9, _⟩ => ⟨S18432x6144, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelOut.lean ====
abbrev S8x2304x2048 : Shape := ⟨3, ![8, 2304, 2048]⟩
abbrev S2x4096x4096 : Shape := ⟨3, ![2, 4096, 4096]⟩
abbrev S8x2304x4096 : Shape := ⟨3, ![8, 2304, 4096]⟩
abbrev S16x6x4096 : Shape := ⟨3, ![16, 6, 4096]⟩
abbrev S18432x2048 : Shape := ⟨2, ![18432, 2048]⟩
abbrev S18432x4096 : Shape := ⟨2, ![18432, 4096]⟩
abbrev S1152x2048 : Shape := ⟨2, ![1152, 2048]⟩
abbrev S1x2048x512 : Shape := ⟨3, ![1, 2048, 512]⟩
abbrev S1152x512 : Shape := ⟨2, ![1152, 512]⟩
abbrev S1x6x512 : Shape := ⟨3, ![1, 6, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S8x2304x2048, .bf16⟩
  | .hbm, ⟨1, _⟩ => ⟨S8x2304x2048, .bf16⟩
  | .hbm, ⟨2, _⟩ => ⟨S2x4096x4096, .f32⟩
  | .hbm, ⟨3, _⟩ => ⟨S8x2304x4096, .f32⟩
  | .hbm, ⟨4, _⟩ => ⟨S16x6x4096, .f32⟩
  | .hbm, ⟨5, _⟩ => ⟨S2x4096x4096, .bf16⟩
  | .hbm, ⟨6, _⟩ => ⟨S18432x2048, .bf16⟩
  | .hbm, ⟨7, _⟩ => ⟨S18432x2048, .bf16⟩
  | .hbm, ⟨8, _⟩ => ⟨S18432x4096, .f32⟩
  | .hbm, ⟨9, _⟩ => ⟨S18432x4096, .f32⟩
  | .local _ .vmem, ⟨0, _⟩ => ⟨S1152x2048, .bf16⟩
  | .local _ .vmem, ⟨1, _⟩ => ⟨S1152x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1152x512, .f32⟩
  | .local _ .vmem, ⟨9, _⟩ => ⟨S1152x512, .f32⟩
  | .local _ .vmem, ⟨10, _⟩ => ⟨S1x6x512, .f32⟩
  | .local _ .vmem, ⟨11, _⟩ => ⟨S1x6x512, .f32⟩
  | .local _ .vmem, ⟨12, _⟩ => ⟨S1x6x512, .f32⟩
  | .local _ .vmem, ⟨13, _⟩ => ⟨S1x6x512, .f32⟩
  | .local _ .vmem, ⟨14, _⟩ => ⟨S1152x512, .f32⟩
  | .local _ .vmem, ⟨15, _⟩ => ⟨S1152x512, .f32⟩
  | _, _ => ⟨S8x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![c8_i32.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1152x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceOutIdeal.lean ====
abbrev S8x2304x2048 : Shape := ⟨3, ![8, 2304, 2048]⟩
abbrev S2x4096x4096 : Shape := ⟨3, ![2, 4096, 4096]⟩
abbrev S8x2304x4096 : Shape := ⟨3, ![8, 2304, 4096]⟩
abbrev S16x6x4096 : Shape := ⟨3, ![16, 6, 4096]⟩
abbrev S8x256x4096 : Shape := ⟨3, ![8, 256, 4096]⟩
abbrev S8x2048x4096 : Shape := ⟨3, ![8, 2048, 4096]⟩
abbrev S1x4096x4096 : Shape := ⟨3, ![1, 4096, 4096]⟩
abbrev S4096x4096 : Shape := ⟨2, ![4096, 4096]⟩
abbrev S8x1x4096 : Shape := ⟨3, ![8, 1, 4096]⟩
abbrev S8x4096 : Shape := ⟨2, ![8, 4096]⟩
abbrev S1x1x4096 : Shape := ⟨3, ![1, 1, 4096]⟩
abbrev S4096 : Shape := ⟨1, ![4096]⟩
abbrev S18432x4096 : Shape := ⟨2, ![18432, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x2304x2048, .bf16⟩
  | .hbm, ⟨1, _⟩ => ⟨S8x2304x2048, .bf16⟩
  | .hbm, ⟨2, _⟩ => ⟨S2x4096x4096, .f32⟩
  | .hbm, ⟨3, _⟩ => ⟨S8x2304x4096, .f32⟩
  | .hbm, ⟨4, _⟩ => ⟨S16x6x4096, .f32⟩
  | .hbm, ⟨5, _⟩ => ⟨S8x256x4096, .f32⟩
  | .hbm, ⟨6, _⟩ => ⟨S8x2048x4096, .f32⟩
  | .hbm, ⟨7, _⟩ => ⟨S8x2304x4096, .bf16⟩
  | .hbm, ⟨8, _⟩ => ⟨S8x2304x4096, .f32⟩
  | .hbm, ⟨9, _⟩ => ⟨S1x4096x4096, .f32⟩
  | .hbm, ⟨10, _⟩ => ⟨S4096x4096, .f32⟩
  | .hbm, ⟨11, _⟩ => ⟨S8x1x4096, .f32⟩
  | .hbm, ⟨12, _⟩ => ⟨S8x4096, .f32⟩
  | .hbm, ⟨13, _⟩ => ⟨S8x1x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S1x1x4096, .f32⟩
  | .hbm, ⟨20, _⟩ => ⟨S4096, .f32⟩
  | .hbm, ⟨21, _⟩ => ⟨S8x256x4096, .f32⟩
  | .hbm, ⟨22, _⟩ => ⟨S8x256x4096, .f32⟩
  | .hbm, ⟨23, _⟩ => ⟨S1x1x4096, .f32⟩
  | .hbm, ⟨24, _⟩ => ⟨S8x256x4096, .f32⟩
  | .hbm, ⟨25, _⟩ => ⟨S8x256x4096, .f32⟩
  | .hbm, ⟨26, _⟩ => ⟨S8x256x4096, .f32⟩
  | .hbm, ⟨27, _⟩ => ⟨S8x2304x4096, .f32⟩
  | .hbm, ⟨28, _⟩ => ⟨S18432x4096, .f32⟩
  | _, _ => ⟨S8x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== KernelGates.lean ====
abbrev S18432x4096 : Shape := ⟨2, ![18432, 4096]⟩
abbrev S2x128x4096 : Shape := ⟨3, ![2, 128, 4096]⟩
abbrev S18432x128 : Shape := ⟨2, ![18432, 128]⟩
abbrev S1024x4096 : Shape := ⟨2, ![1024, 4096]⟩
abbrev S1x128x4096 : Shape := ⟨3, ![1, 128, 4096]⟩
abbrev S1024x128 : Shape := ⟨2, ![1024, 128]⟩
abbrev S128x4096 : Shape := ⟨2, ![128, 4096]⟩

abbrev nBuf : Space → Nat
  | .hbm => 3
  | .vmem => 5
  | .smem => 0
  | _ => 0

abbrev bufTy : (tb : Table) → Fin (tcTables nBuf tb) → BufTy
  | .hbm, ⟨0, _⟩ => ⟨S18432x4096, .bf16⟩
  | .hbm, ⟨1, _⟩ => ⟨S2x128x4096, .bf16⟩
  | .hbm, ⟨2, _⟩ => ⟨S18432x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .bf16⟩
  | .local _ .vmem, ⟨3, _⟩ => ⟨S1024x128, .f32⟩
  | .local _ .vmem, ⟨4, _⟩ => ⟨S1024x128, .f32⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGatesIdeal.lean ====
abbrev S18432x4096 : Shape := ⟨2, ![18432, 4096]⟩
abbrev S2x128x4096 : Shape := ⟨3, ![2, 128, 4096]⟩
abbrev S1x128x4096 : Shape := ⟨3, ![1, 128, 4096]⟩
abbrev S128x4096 : Shape := ⟨2, ![128, 4096]⟩
abbrev S4096x128 : Shape := ⟨2, ![4096, 128]⟩
abbrev S18432x128 : Shape := ⟨2, ![18432, 128]⟩

abbrev nBuf : Space → Nat
  | .hbm => 8
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S2x128x4096, .bf16⟩
  | .hbm, ⟨2, _⟩ => ⟨S18432x4096, .f32⟩
  | .hbm, ⟨3, _⟩ => ⟨S1x128x4096, .bf16⟩
  | .hbm, ⟨4, _⟩ => ⟨S128x4096, .bf16⟩
  | .hbm, ⟨5, _⟩ => ⟨S4096x128, .bf16⟩
  | .hbm, ⟨6, _⟩ => ⟨S4096x128, .f32⟩
  | .hbm, ⟨7, _⟩ => ⟨S18432x128, .f32⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelAda.lean ====
abbrev S16x4096 : Shape := ⟨2, ![16, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x16x24576 : Shape := ⟨3, ![2, 16, 24576]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x16x24576, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAdaIdeal.lean ====
abbrev S16x4096 : Shape := ⟨2, ![16, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S16x24576 : Shape := ⟨2, ![16, 24576]⟩
abbrev S1x24576 : Shape := ⟨2, ![1, 24576]⟩
abbrev S24576 : Shape := ⟨1, ![24576]⟩
abbrev S1x16x24576 : Shape := ⟨3, ![1, 16, 24576]⟩
abbrev S2x16x24576 : Shape := ⟨3, ![2, 16, 24576]⟩

abbrev nBuf : Space → Nat
  | .hbm => 40
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S1x4096x24576, .f32⟩
  | .hbm, ⟨13, _⟩ => ⟨S4096x24576, .f32⟩
  | .hbm, ⟨14, _⟩ => ⟨S16x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S16x24576, .f32⟩
  | .hbm, ⟨19, _⟩ => ⟨S16x24576, .f32⟩
  | .hbm, ⟨20, _⟩ => ⟨S16x4096, .f32⟩
  | .hbm, ⟨21, _⟩ => ⟨S16x4096, .f32⟩
  | .hbm, ⟨22, _⟩ => ⟨S_, .f32⟩
  | .hbm, ⟨23, _⟩ => ⟨S16x4096, .f32⟩
  | .hbm, ⟨24, _⟩ => ⟨S16x4096, .f32⟩
  | .hbm, ⟨25, _⟩ => ⟨S_, .f32⟩
  | .hbm, ⟨26, _⟩ => ⟨S16x4096, .f32⟩
  | .hbm, ⟨27, _⟩ => ⟨S16x4096, .f32⟩
  | .hbm, ⟨28, _⟩ => ⟨S16x4096, .f32⟩
  | .hbm, ⟨29, _⟩ => ⟨S1x4096x24576, .f32⟩
  | .hbm, ⟨30, _⟩ => ⟨S4096x24576, .f32⟩
  | .hbm, ⟨31, _⟩ => ⟨S16x24576, .f32⟩
  | .hbm, ⟨32, _⟩ => ⟨S1x24576, .f32⟩
  | .hbm, ⟨33, _⟩ => ⟨S24576, .f32⟩
  | .hbm, ⟨34, _⟩ => ⟨S1x24576, .f32⟩
  | .hbm, ⟨35, _⟩ => ⟨S16x24576, .f32⟩
  | .hbm, ⟨36, _⟩ => ⟨S16x24576, .f32⟩
  | .hbm, ⟨37, _⟩ => ⟨S1x16x24576, .f32⟩
  | .hbm, ⟨38, _⟩ => ⟨S1x16x24576, .f32⟩
  | .hbm, ⟨39, _⟩ => ⟨S2x16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== KernelNorm.lean ====
abbrev S8x2304x4096 : Shape := ⟨3, ![8, 2304, 4096]⟩
abbrev S2x4096 : Shape := ⟨2, ![2, 4096]⟩
abbrev S16x6x4096 : Shape := ⟨3, ![16, 6, 4096]⟩
abbrev S4096x16 : Shape := ⟨2, ![4096, 16]⟩
abbrev S1x4096 : Shape := ⟨2, ![1, 4096]⟩
abbrev S4096 : Shape := ⟨1, ![4096]⟩
abbrev S16x4096 : Shape := ⟨2, ![16, 4096]⟩
abbrev S16x18432 : Shape := ⟨2, ![16, 18432]⟩
abbrev S1x256x4096 : Shape := ⟨3, ![1, 256, 4096]⟩
abbrev S1x6x4096 : Shape := ⟨3, ![1, 6, 4096]⟩
abbrev S16x256 : Shape := ⟨2, ![16, 256]⟩
abbrev S256x4096 : Shape := ⟨2, ![256, 4096]⟩
abbrev S6x4096 : Shape := ⟨2, ![6, 4096]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x2304x4096, .f32⟩
  | .hbm, ⟨1, _⟩ => ⟨S2x4096, .f32⟩
  | .hbm, ⟨2, _⟩ => ⟨S16x6x4096, .f32⟩
  | .hbm, ⟨3, _⟩ => ⟨S4096x16, .f32⟩
  | .hbm, ⟨4, _⟩ => ⟨S1x4096, .f32⟩
  | .hbm, ⟨5, _⟩ => ⟨S4096, .f32⟩
  | .hbm, ⟨6, _⟩ => ⟨S16x4096, .f32⟩
  | .hbm, ⟨7, _⟩ => ⟨S1x4096, .f32⟩
  | .hbm, ⟨8, _⟩ => ⟨S8x2304x4096, .bf16⟩
  | .hbm, ⟨9, _⟩ => ⟨S16x18432, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S16x4096, .f32⟩
  | .local _ .vmem, ⟨6, _⟩ => ⟨S1x256x4096, .bf16⟩
  | .local _ .vmem, ⟨7, _⟩ => ⟨S1x256x4096, .bf16⟩
  | .local _ .vmem, ⟨8, _⟩ => ⟨S16x256, .f32⟩
  | .local _ .vmem, ⟨9, _⟩ => ⟨S16x256, .f32⟩
  | _, _ => ⟨S8x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c8_i32 : BitVec 32 := 8#32
  let v2 : BitVec 32 := Scalar.select v1 c8_i32 arg0
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceNormIdeal.lean ====
abbrev S8x2304x4096 : Shape := ⟨3, ![8, 2304, 4096]⟩
abbrev S2x4096 : Shape := ⟨2, ![2, 4096]⟩
abbrev S16x6x4096 : Shape := ⟨3, ![16, 6, 4096]⟩
abbrev S4096x16 : Shape := ⟨2, ![4096, 16]⟩
abbrev S8x256x4096 : Shape := ⟨3, ![8, 256, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩
abbrev S8x256 : Shape := ⟨2, ![8, 256]⟩
abbrev S8x256x1 : Shape := ⟨3, ![8, 256, 1]⟩
abbrev S8x2048x4096 : Shape := ⟨3, ![8, 2048, 4096]⟩
abbrev S8x1x4096 : Shape := ⟨3, ![8, 1, 4096]⟩
abbrev S8x4096 : Shape := ⟨2, ![8, 4096]⟩
abbrev S8x2048 : Shape := ⟨2, ![8, 2048]⟩
abbrev S8x2048x1 : Shape := ⟨3, ![8, 2048, 1]⟩
abbrev S18432x4096 : Shape := ⟨2, ![18432, 4096]⟩
abbrev S18432x16 : Shape := ⟨2, ![18432, 16]⟩
abbrev S16x18432 : Shape := ⟨2, ![16, 18432]⟩

abbrev nBuf : Space → Nat
  | .hbm => 73
  | .vmem => 0
  | .smem => 0
  | _ => 0

abbrev bufTy : (tb : Table) → Fin (tcTables nBuf tb) → BufTy
  | .hbm, ⟨0, _⟩ => ⟨S8x2304x4096, .f32⟩
  | .hbm, ⟨1, _⟩ => ⟨S2x4096, .f32⟩
  | .hbm, ⟨2, _⟩ => ⟨S16x6x4096, .f32⟩
  | .hbm, ⟨3, _⟩ => ⟨S4096x16, .f32⟩
  | .hbm, ⟨4, _⟩ => ⟨S8x256x4096, .f32⟩
  | .hbm, ⟨5, _⟩ => ⟨S1x4096, .f32⟩
  | .hbm, ⟨6, _⟩ => ⟨S4096, .f32⟩
  | .hbm, ⟨7, _⟩ => ⟨S1x1x4096, .f32⟩
  | .hbm, ⟨8, _⟩ => ⟨S4096, .f32⟩
  | .hbm, ⟨9, _⟩ => ⟨S1x1x4096, .f32⟩
  | .hbm, ⟨10, _⟩ => ⟨S4096, .f32⟩
  | .hbm, ⟨11, _⟩ => ⟨S8x256x4096, .f32⟩
  | .hbm, ⟨12, _⟩ => ⟨S_, .f32⟩
  | .hbm, ⟨13, _⟩ => ⟨S8x256, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S_, .f32⟩
  | .hbm, ⟨19, _⟩ => ⟨S8x256x1, .f32⟩
  | .hbm, ⟨20, _⟩ => ⟨S8x256x1, .f32⟩
  | .hbm, ⟨21, _⟩ => ⟨S8x256x1, .f32⟩
  | .hbm, ⟨22, _⟩ => ⟨S8x256x4096, .f32⟩
  | .hbm, ⟨23, _⟩ => ⟨S8x256x4096, .f32⟩
  | .hbm, ⟨24, _⟩ => ⟨S1x1x4096, .f32⟩
  | .hbm, ⟨25, _⟩ => ⟨S8x256x4096, .f32⟩
  | .hbm, ⟨26, _⟩ => ⟨S8x256x4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S1x1x4096, .f32⟩
  | .hbm, ⟨31, _⟩ => ⟨S8x256x4096, .f32⟩
  | .hbm, ⟨32, _⟩ => ⟨S8x256x4096, .f32⟩
  | .hbm, ⟨33, _⟩ => ⟨S1x1x4096, .f32⟩
  | .hbm, ⟨34, _⟩ => ⟨S8x256x4096, .f32⟩
  | .hbm, ⟨35, _⟩ => ⟨S8x256x4096, .f32⟩
  | .hbm, ⟨36, _⟩ => ⟨S8x2048x4096, .f32⟩
  | .hbm, ⟨37, _⟩ => ⟨S1x4096, .f32⟩
  | .hbm, ⟨38, _⟩ => ⟨S4096, .f32⟩
  | .hbm, ⟨39, _⟩ => ⟨S8x1x4096, .f32⟩
  | .hbm, ⟨40, _⟩ => ⟨S8x4096, .f32⟩
  | .hbm, ⟨41, _⟩ => ⟨S8x1x4096, .f32⟩
  | .hbm, ⟨42, _⟩ => ⟨S8x1x4096, .f32⟩
  | .hbm, ⟨43, _⟩ => ⟨S8x4096, .f32⟩
  | .hbm, ⟨44, _⟩ => ⟨S8x1x4096, .f32⟩
  | .hbm, ⟨45, _⟩ => ⟨S8x2048x4096, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x4096, .f32⟩
  | .hbm, ⟨57, _⟩ => ⟨S8x2048x4096, .f32⟩
  | .hbm, ⟨58, _⟩ => ⟨S1x1x4096, .f32⟩
  | .hbm, ⟨59, _⟩ => ⟨S8x2048x4096, .f32⟩
  | .hbm, ⟨60, _⟩ => ⟨S8x2048x4096, .f32⟩
  | .hbm, ⟨61, _⟩ => ⟨S_, .f32⟩
  | .hbm, ⟨62, _⟩ => ⟨S8x1x4096, .f32⟩
  | .hbm, ⟨63, _⟩ => ⟨S8x1x4096, .f32⟩
  | .hbm, ⟨64, _⟩ => ⟨S8x2048x4096, .f32⟩
  | .hbm, ⟨65, _⟩ => ⟨S8x2048x4096, .f32⟩
  | .hbm, ⟨66, _⟩ => ⟨S8x2048x4096, .f32⟩
  | .hbm, ⟨67, _⟩ => ⟨S8x2048x4096, .f32⟩
  | .hbm, ⟨68, _⟩ => ⟨S8x2304x4096, .f32⟩
  | .hbm, ⟨69, _⟩ => ⟨S18432x4096, .f32⟩
  | .hbm, ⟨70, _⟩ => ⟨S18432x16, .f32⟩
  | .hbm, ⟨71, _⟩ => ⟨S8x2304x4096, .bf16⟩
  | .hbm, ⟨72, _⟩ => ⟨S16x18432, .f32⟩
  | _, _ => ⟨S8x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== KernelComb.lean ====
abbrev S8x2304x4096 : Shape := ⟨3, ![8, 2304, 4096]⟩
abbrev S8x2048x4096 : Shape := ⟨3, ![8, 2048, 4096]⟩
abbrev S8x2048x2 : Shape := ⟨3, ![8, 2048, 2]⟩
abbrev S16x6x4096 : Shape := ⟨3, ![16, 6, 4096]⟩
abbrev S1x256x4096 : Shape := ⟨3, ![1, 256, 4096]⟩
abbrev S1x256x2 : Shape := ⟨3, ![1, 256, 2]⟩
abbrev S1x6x4096 : Shape := ⟨3, ![1, 6, 4096]⟩
abbrev S256x4096 : Shape := ⟨2, ![256, 4096]⟩
abbrev S1x256x1 : Shape := ⟨3, ![1, 256, 1]⟩
abbrev S256x1 : Shape := ⟨2, ![256, 1]⟩
abbrev S1x1x4096 : Shape := ⟨3, ![1, 1, 4096]⟩
abbrev S1x4096 : Shape := ⟨2, ![1, 4096]⟩

abbrev nBuf : Space → Nat
  | .hbm => 6
  | .vmem => 12
  | .smem => 0
  | _ => 0

abbrev bufTy : (tb : Table) → Fin (tcTables nBuf tb) → BufTy
  | .hbm, ⟨0, _⟩ => ⟨S8x2304x4096, .f32⟩
  | .hbm, ⟨1, _⟩ => ⟨S8x2048x4096, .bf16⟩
  | .hbm, ⟨2, _⟩ => ⟨S8x2048x4096, .bf16⟩
  | .hbm, ⟨3, _⟩ => ⟨S8x2048x2, .f32⟩
  | .hbm, ⟨4, _⟩ => ⟨S16x6x4096, .f32⟩
  | .hbm, ⟨5, _⟩ => ⟨S8x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x256x4096, .bf16⟩
  | .local _ .vmem, ⟨6, _⟩ => ⟨S1x256x2, .f32⟩
  | .local _ .vmem, ⟨7, _⟩ => ⟨S1x256x2, .f32⟩
  | .local _ .vmem, ⟨8, _⟩ => ⟨S1x6x4096, .f32⟩
  | .local _ .vmem, ⟨9, _⟩ => ⟨S1x6x4096, .f32⟩
  | .local _ .vmem, ⟨10, _⟩ => ⟨S1x256x4096, .f32⟩
  | .local _ .vmem, ⟨11, _⟩ => ⟨S1x256x4096, .f32⟩
  | _, _ => ⟨S8x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .slt v0 c1_i32_0
  let c8_i32 : BitVec 32 := 8#32
  let v2 : BitVec 32 := Scalar.select v1 c8_i32 arg0
  let c0_i32 : BitVec 32 := 0#32
  let c0_i32_1 : BitVec 32 := 0#32
  let c0_i32_2 : BitVec 32 := 0#32
  ![v2.toNat, c0_i32.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceCombIdeal.lean ====
abbrev S8x2304x4096 : Shape := ⟨3, ![8, 2304, 4096]⟩
abbrev S8x2048x4096 : Shape := ⟨3, ![8, 2048, 4096]⟩
abbrev S8x2048x2 : Shape := ⟨3, ![8, 2048, 2]⟩
abbrev S16x6x4096 : Shape := ⟨3, ![16, 6, 4096]⟩
abbrev S8x2048x1 : Shape := ⟨3, ![8, 2048, 1]⟩
abbrev S8x1x4096 : Shape := ⟨3, ![8, 1, 4096]⟩
abbrev S8x4096 : Shape := ⟨2, ![8, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x2304x4096, .f32⟩
  | .hbm, ⟨1, _⟩ => ⟨S8x2048x4096, .bf16⟩
  | .hbm, ⟨2, _⟩ => ⟨S8x2048x4096, .bf16⟩
  | .hbm, ⟨3, _⟩ => ⟨S8x2048x2, .f32⟩
  | .hbm, ⟨4, _⟩ => ⟨S16x6x4096, .f32⟩
  | .hbm, ⟨5, _⟩ => ⟨S8x2048x4096, .f32⟩
  | .hbm, ⟨6, _⟩ => ⟨S8x2048x1, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S8x2048x1, .f32⟩
  | .hbm, ⟨11, _⟩ => ⟨S8x2048x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x1x4096, .f32⟩
  | .hbm, ⟨16, _⟩ => ⟨S8x4096, .f32⟩
  | .hbm, ⟨17, _⟩ => ⟨S8x1x4096, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | _, _ => ⟨S8x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Attend.lean ====
/-
  The attention of one query, in extended reals, with nothing of a program in it.

  A query has a score for each key of its window and one for each context key. `attended` is the softmax-weighted sum of
  the values with the division done last; `attended_eq_normalised` is the same with every weight divided first. The
  values are arbitrary extended reals: only the scores have to be real numbers.
-/
module

public import Idealize.ShloMosaic.Lib.Pointwise

@[expose] public section

noncomputable section

namespace Natten

open Idealize.ShloMosaic

/-- The greatest of the scores of both kinds of key. -/
def peak {ι κ : Type} [Fintype ι] [Fintype κ] (s : ι → EReal) (z : κ → EReal) : EReal :=
  max (Finset.univ.sup s) (Finset.univ.sup z)

/-- The sum of the exponentials of the scores less the greatest. -/
def mass {ι κ : Type} [Fintype ι] [Fintype κ] (s : ι → EReal) (z : κ → EReal) (m : EReal) : EReal :=
  (∑ i, Ideal.exp (s i - m)) + ∑ k, Ideal.exp (z k - m)

/-- The attended value: the sums of the weighted values over both kinds of key, divided by the sum of the weights. -/
def attended {ι κ : Type} [Fintype ι] [Fintype κ] (s : ι → EReal) (z : κ → EReal) (v : ι → EReal) (u : κ → EReal) : EReal :=
  Ideal.div ((∑ i, Ideal.exp (s i - peak s z) * v i) + ∑ k, Ideal.exp (z k - peak s z) * u k) (mass s z (peak s z))

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem isReal_sum {ι : Type} (t : Finset ι) (f : ι → EReal) (h : ∀ i, IsReal (f i)) : IsReal (∑ i ∈ t, f i) := by
  classical
  induction t using Finset.induction_on with
  | empty => exact ⟨0, by simp⟩
  | insert a t ha ih => rw [Finset.sum_insert ha]; exact (h a).add ih

/-- The greatest of finitely many real numbers, of which there is one, is real. -/
theorem isReal_sup {ι : Type} [Fintype ι] [Nonempty ι] (f : ι → EReal) (h : ∀ i, IsReal (f i)) :
    IsReal (Finset.univ.sup f) := by
  obtain ⟨i, -, hi⟩ := Finset.exists_mem_eq_sup (Finset.univ : Finset ι) Finset.univ_nonempty f
  rw [hi]; exact h i

theorem exp_real_pos {x : EReal} (h : IsReal x) : ∃ r : ℝ, 0 < r ∧ Ideal.exp x = (r : EReal) := by
  obtain ⟨a, rfl⟩ := h
  exact ⟨Real.exp a, Real.exp_pos a, rfl⟩

theorem sum_pos_real {ι : Type} [Fintype ι] (f : ι → EReal) (h : ∀ i, ∃ r : ℝ, 0 < r ∧ f i = (r : EReal)) :
    ∃ r : ℝ, 0 ≤ r ∧ (Nonempty ι → 0 < r) ∧ ∑ i, f i = (r : EReal) := by
  choose g hg hf using h
  refine ⟨∑ i, g i, Finset.sum_nonneg fun i _ => (hg i).le, fun _ => Finset.sum_pos (fun i _ => hg i) Finset.univ_nonempty, ?_⟩
  simp only [hf]
  exact (map_sum (⟨⟨Real.toEReal, EReal.coe_zero⟩, EReal.coe_add⟩ : ℝ →+ EReal) g Finset.univ).symm

/-- Multiplication by a positive real number goes through a finite sum of arbitrary extended reals. -/
theorem sum_mul_pos {ι : Type} (t : Finset ι) (f : ι → EReal) {r : ℝ} (hr : 0 < r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr.le) (EReal.coe_ne_top r) _ _

/-- THE TWO WAYS TO NORMALISE AGREE: with real scores, dividing the weighted sums once is dividing every weight. -/
theorem attended_eq_normalised {ι κ : Type} [Fintype ι] [Fintype κ] [Nonempty κ] (s : ι → EReal) (z : κ → EReal)
    (v : ι → EReal) (u : κ → EReal) (hs : ∀ i, IsReal (s i)) (hz : ∀ k, IsReal (z k)) :
    attended s z v u
      = (∑ i, Ideal.div (Ideal.exp (s i - peak s z)) (mass s z (peak s z)) * v i)
        + ∑ k, Ideal.div (Ideal.exp (z k - peak s z)) (mass s z (peak s z)) * u k := by
  have hm : IsReal (peak s z) := by
    unfold peak
    rcases isEmpty_or_nonempty ι with h | h
    · rw [Finset.univ_eq_empty, Finset.sup_empty, max_eq_right bot_le]; exact isReal_sup z hz
    · exact (isReal_sup s hs).max (isReal_sup z hz)
  have hd : ∃ r : ℝ, 0 < r ∧ mass s z (peak s z) = (r : EReal) := by
    obtain ⟨a, ha, -, ea⟩ := sum_pos_real (fun i => Ideal.exp (s i - peak s z)) fun i => exp_real_pos ((hs i).sub hm)
    obtain ⟨b, -, hb, eb⟩ := sum_pos_real (fun k => Ideal.exp (z k - peak s z)) fun k => exp_real_pos ((hz k).sub hm)
    refine ⟨a + b, by have := hb inferInstance; linarith, ?_⟩
    unfold mass; rw [ea, eb, EReal.coe_add]
  obtain ⟨r, hr, er⟩ := hd
  unfold attended
  rw [er]
  have hr' : (0 : ℝ) < 1 / r := by positivity
  simp only [Ideal.div_coe hr.ne']
  rw [EReal.right_distrib_of_nonneg_of_ne_top (EReal.coe_nonneg.mpr hr'.le) (EReal.coe_ne_top _), sum_mul_pos _ _ hr',
    sum_mul_pos _ _ hr']
  congr 1 <;> refine Finset.sum_congr rfl fun i _ => ?_ <;> exact mul_right_comm _ _ _

/-! ## A window inside a row -/

/-- A key outside the window has score `⊥`, whatever its score would be, and adds nothing: a row of keys, of which all but
    the window `e` are masked, attends to the window. -/
theorem attended_of_masked {ι ι' κ : Type} [Fintype ι] [Fintype ι'] [Fintype κ] (e : ι ↪ ι') (s : ι' → EReal) (z : κ → EReal)
    (v : ι' → EReal) (u : κ → EReal) (h : ∀ i, i ∉ Set.range e → s i = ⊥) :
    attended s z v u = attended (s ∘ e) z (v ∘ e) u := by
  classical
  have hp : peak s z = peak (s ∘ e) z := by
    unfold peak
    congr 1
    apply le_antisymm
    · refine Finset.sup_le fun i _ => ?_
      by_cases hi : i ∈ Set.range e
      · obtain ⟨j, rfl⟩ := hi; exact Finset.le_sup (f := s ∘ e) (Finset.mem_univ j)
      · rw [h i hi]; exact bot_le
    · exact Finset.sup_le fun j _ => Finset.le_sup (f := s) (Finset.mem_univ (e j))
  have hsum : ∀ f : ι' → EReal, (∀ i, i ∉ Set.range e → f i = 0) → ∑ i, f i = ∑ j, f (e j) := by
    intro f hf
    rw [← Finset.sum_map Finset.univ e f]
    refine (Finset.sum_subset (Finset.subset_univ _) fun i _ hi => hf i fun ⟨j, hj⟩ => hi ?_).symm
    exact Finset.mem_map.mpr ⟨j, Finset.mem_univ j, hj⟩
  have he : ∀ m : EReal, ∀ i, i ∉ Set.range e → Ideal.exp (s i - m) = 0 := by
    intro m i hi
    rw [h i hi, EReal.bot_sub]; rfl
  unfold attended mass
  rw [hp, hsum _ (he _), hsum _ fun i hi => by rw [he _ i hi, zero_mul]]
  rfl

/-! ## The normalised queries and keys -/

/-- The root-mean-square norm of a vector of 128 numbers, times a weight. -/
def nrm (t w : Fin 128 → EReal) (d : Fin 128) : EReal :=
  t d * Ideal.rsqrt (Ideal.div (∑ k, t k * t k) (Ideal.ofBits .f32 0x43000000#32) + Ideal.ofBits .f32 0x358637BD#32) * w d

theorem bits_128 : Ideal.ofBits .f32 0x43000000#32 = ((128 : ℝ) : EReal) := by
  simp [Ideal.ofBits, Ideal.ieee]
  rw [← EReal.coe_mul]; norm_num

theorem bits_eps : ∃ r : ℝ, 0 < r ∧ Ideal.ofBits .f32 0x358637BD#32 = (r : EReal) := by
  simp only [Ideal.ofBits, Ideal.ieee]
  refine ⟨_, ?_, by simp; rfl⟩
  norm_num

theorem isReal_scale : IsReal (Ideal.ofBits .f32 0x3DB504F3#32) := by
  simp only [Ideal.ofBits, Ideal.ieee]
  exact ⟨_, by simp; rfl⟩

/-- The root of a positive real number, or of `⊤`, has a real reciprocal. -/
theorem isReal_rsqrt {x : EReal} (h : 0 < x) : IsReal (Ideal.rsqrt x) := by
  induction x with
  | bot => exact absurd h (by simp)
  | top => exact ⟨0, rfl⟩
  | coe r =>
    have hr : 0 < r := by exact_mod_cast h
    refine ⟨(Real.sqrt r)⁻¹, ?_⟩
    show (if r < 0 then _ else _) = _
    rw [if_neg hr.not_gt, if_neg hr.ne']

theorem mul_self_nonneg' (x : EReal) : 0 ≤ x * x := by
  induction x with
  | bot => simp
  | top => simp
  | coe r => rw [← EReal.coe_mul]; exact_mod_cast mul_self_nonneg r

/-- THE NORM IS REAL, of any vector at all: when an entry is infinite the root is too, and its reciprocal is zero. -/
theorem isReal_nrm (t w : Fin 128 → EReal) (d : Fin 128) (hw : IsReal (w d)) : IsReal (nrm t w d) := by
  unfold nrm
  refine IsReal.mul ?_ hw
  obtain ⟨e, he, ee⟩ := bits_eps
  rw [bits_128, ee, Ideal.div_coe (by norm_num)]
  have hS : 0 ≤ ∑ k, t k * t k := Finset.sum_nonneg fun k _ => mul_self_nonneg' _
  have hle : t d * t d ≤ ∑ k, t k * t k :=
    Finset.single_le_sum (f := fun k => t k * t k) (fun k _ => mul_self_nonneg' _) (Finset.mem_univ d)
  have hc : (0 : EReal) < ((1 / 128 : ℝ) : EReal) := by exact_mod_cast (by norm_num : (0 : ℝ) < 1 / 128)
  have hpos : 0 < (∑ k, t k * t k) * ((1 / 128 : ℝ) : EReal) + (e : EReal) :=
    lt_of_lt_of_le (by exact_mod_cast he : (0 : EReal) < e) (le_add_of_nonneg_left (mul_nonneg hS hc.le))
  have top : t d * t d = ⊤ → Ideal.rsqrt ((∑ k, t k * t k) * ((1 / 128 : ℝ) : EReal) + (e : EReal)) = 0 := by
    intro h
    have hT : ∑ k, t k * t k = ⊤ := top_le_iff.mp (h ▸ hle)
    rw [hT, EReal.top_mul_of_pos hc, EReal.top_add_coe]; rfl
  induction h : t d with
  | bot => rw [top (by rw [h]; rfl), mul_zero]; exact ⟨0, rfl⟩
  | top => rw [top (by rw [h]; rfl), mul_zero]; exact ⟨0, rfl⟩
  | coe r => exact IsReal.mul ⟨r, rfl⟩ (isReal_rsqrt hpos)

/-- The score of a query and a key. -/
def dot (a b : Fin 128 → EReal) : EReal := ∑ d, a d * b d

theorem isReal_dot (a b : Fin 128 → EReal) (ha : ∀ d, IsReal (a d)) (hb : ∀ d, IsReal (b d)) : IsReal (dot a b) :=
  isReal_sum _ _ fun d => (ha d).mul (hb d)

/-- A query as it enters a score: normalised and scaled. -/
def qry (t w : Fin 128 → EReal) (d : Fin 128) : EReal := nrm t w d * Ideal.ofBits .f32 0x3DB504F3#32

theorem isReal_qry (t w : Fin 128 → EReal) (d : Fin 128) (hw : IsReal (w d)) : IsReal (qry t w d) :=
  (isReal_nrm t w d hw).mul isReal_scale

end Natten
-- ==== Proof.Take.lean ====
module
/- A `stablehlo.gather` read at one index of its result, where the operand's index is known axis by axis. -/
public import Idealize.ShloMosaic.Lib.ValueIdxCore
@[expose] public section
namespace Natten.Take
open Idealize.ShloMosaic

variable {α : Type} {s si t : Shape} {n : Nat}

/-- A gather's result entry is the operand's entry at the index whose coordinates are the three parts' sums. -/
theorem gather_at (d : GatherDims s si t) (x : s.Idx → α) (idx : IVec si n) (j : t.Idx) (k : s.Idx)
    (h : ∀ a, d.start j idx a + d.batchCoord j a + d.offCoord j a = (k a).val) : Host.gather d x idx j = x k :=
  congrArg x (funext fun a => Fin.ext (h a))

/-- On an axis the start indices address, the slice starts at the entry they hold, clamped. -/
theorem start_at (d : GatherDims s si t) (idx : IVec si n) (j : t.Idx) (a : Fin s.rank) (ha : a ∈ d.startIndexMap)
    (k : si.Idx) (h : ∀ b, d.siIdx j ⟨d.startIndexMap.idxOf a, List.idxOf_lt_length_iff.2 ha⟩ b = k b) :
    d.start j idx a = min (idx k).toInt.toNat (s.size a - d.sliceSizes a) := by
  unfold GatherDims.start
  rw [dif_pos ha, show d.siIdx j ⟨d.startIndexMap.idxOf a, List.idxOf_lt_length_iff.2 ha⟩ = k from funext h]

end Natten.Take
-- ==== Proof.Stages.lean ====
module
/- The reference, one stage at a time: heads, norms, windows, biases, scores, softmax and weighted sums, each as an
   array, and the reference's result as their composition. -/
public import proofs.«01_k».proof.Proof.Gen.ReferenceIdeal.Run
public import proofs.«01_k».proof.Proof.Attend
public import proofs.«01_k».proof.Proof.Take
public import Idealize.ShloMosaic.Lib.Pointwise
@[expose] public section
set_option maxRecDepth 16384
noncomputable section
namespace Natten.Ref
open Cert.ReferenceIdeal Cert.ReferenceIdeal.Gen Cert.ReferenceIdeal.Value
open Idealize.ShloMosaic Idealize.ShloMosaic.TcCoe Idealize.SL.Sem

/-- Queries, keys or values of every head: a third of the projection's columns, split by head. -/
def heads (o : Fin 3 → Nat) (hs : S8x2304x6144.Slices o S8x2304x2048) (x : Vec Ideal S8x2304x6144 .bf16) :
    FVec Ideal S8x2304x16x128 .f32 :=
  shapeCast S8x2304x16x128 (extractStridedSlice S8x2304x2048 o (extf (F := Ideal) .f32 x bitsLt_bf16_f32) hs)
    shapeCasts_S8x2304x2048_S8x2304x16x128

/-- The norm of each head's row, scaled by a weight. -/
def normed (t : FVec Ideal S8x2304x16x128 .f32) (w : FVec Ideal S128 .f32) : FVec Ideal S8x2304x16x128 .f32 :=
  extf .f32 (truncf .bf16 (mulf (mulf t
    (broadcastInDim S8x2304x16x128 ![0, 1, 2, 3] bcast_S8x2304x16x1_S8x2304x16x128_0_1_2_3
      (Host.rsqrt (addf (Host.divf
        (broadcastInDim S8x2304x16x1 ![0, 1, 2] bcast_S8x2304x16_S8x2304x16x1_0_1_2
          (Host.reduceAdd (mulf t t) (constant S_ .f32 0x00000000#32) reducesTo_S8x2304x16x128_S8x2304x16_d3 h_S_))
        (broadcastInDim S8x2304x16x1 ![] bcast_S_S8x2304x16x1 (constant S_ .f32 0x43000000#32)))
        (broadcastInDim S8x2304x16x1 ![] bcast_S_S8x2304x16x1 (constant S_ .f32 0x358637BD#32))))))
    (broadcastInDim S8x2304x16x128 ![0, 1, 2, 3] bcast_S1x1x1x128_S8x2304x16x128_0_1_2_3
      (broadcastInDim S1x1x1x128 ![3] bcast_S128_S1x1x1x128_3 w))) bitsLt_bf16_f32) bitsLt_bf16_f32

/-- One of the two norm weights. -/
def weight (o : Fin 2 → Nat) (hs : S2x128.Slices o S1x128) (w : FVec Ideal S2x128 .f32) : FVec Ideal S128 .f32 :=
  shapeCast S128 (extractStridedSlice S1x128 o w hs) shapeCasts_S1x128_S128

/-- The queries: normed, weighted and scaled. -/
def queries (x : Vec Ideal S8x2304x6144 .bf16) (w : FVec Ideal S2x128 .f32) : FVec Ideal S8x2304x16x128 .f32 :=
  extf .f32 (truncf .bf16 (mulf
    (normed (heads ![0, 0, 0] slices_S8x2304x6144_S8x2304x2048_0_0_0 x) (weight ![0, 0] slices_S2x128_S1x128_0_0 w))
    (broadcastInDim S8x2304x16x128 ![] bcast_S_S8x2304x16x128 (constant S_ .f32 0x3DB504F3#32))) bitsLt_bf16_f32)
    bitsLt_bf16_f32

/-- The keys: normed and weighted. -/
def keys (x : Vec Ideal S8x2304x6144 .bf16) (w : FVec Ideal S2x128 .f32) : FVec Ideal S8x2304x16x128 .f32 :=
  normed (heads ![0, 0, 2048] slices_S8x2304x6144_S8x2304x2048_0_0_2048 x) (weight ![1, 0] slices_S2x128_S1x128_1_0 w)

/-- The values. -/
def values (x : Vec Ideal S8x2304x6144 .bf16) : FVec Ideal S8x2304x16x128 .f32 :=
  heads ![0, 0, 4096] slices_S8x2304x6144_S8x2304x2048_0_0_4096 x

/-- The rows of the grid. -/
def gridPart (t : FVec Ideal S8x2304x16x128 .f32) : FVec Ideal S8x32x64x16x128 .f32 :=
  shapeCast S8x32x64x16x128
    (extractStridedSlice S8x2048x16x128 ![0, 256, 0, 0] t slices_S8x2304x16x128_S8x2048x16x128_0_256_0_0)
    shapeCasts_S8x2048x16x128_S8x32x64x16x128

/-- The rows of the context. -/
def contextPart (t : FVec Ideal S8x2304x16x128 .f32) : FVec Ideal S8x256x16x128 .f32 :=
  extractStridedSlice S8x256x16x128 ![0, 0, 0, 0] t slices_S8x2304x16x128_S8x256x16x128_0_0_0_0

/-- A literal table of rows, as a gather's start indices (`n` is the extent a negative entry would be taken from). -/
def rowTable (n : BitVec 32) (l : Fin 256 → BitVec 32) : IVec S32x8x1 32 :=
  broadcastInDim S32x8x1 ![0, 1] bcast_S32x8_S32x8x1_0_1 (select (constantI S32x8 1 0#1)
    (addi (fun i => l (S32x8.rowMajor i)) (broadcastInDim S32x8 ![] bcast_S_S32x8 (constantI S_ 32 n)))
    (fun i => l (S32x8.rowMajor i)))

/-- A literal table of columns, as a gather's start indices. -/
def colTable (n : BitVec 32) (l : Fin 1024 → BitVec 32) : IVec S64x16x1 32 :=
  broadcastInDim S64x16x1 ![0, 1] bcast_S64x16_S64x16x1_0_1 (select (constantI S64x16 1 0#1)
    (addi (fun i => l (S64x16.rowMajor i)) (broadcastInDim S64x16 ![] bcast_S_S64x16 (constantI S_ 32 n)))
    (fun i => l (S64x16.rowMajor i)))

/-- The window of each query of the grid: eight rows of sixteen columns. -/
def windows (t : FVec Ideal S8x32x64x16x128 .f32) : FVec Ideal S8x32x8x64x16x16x128 .f32 :=
  Host.gather gather_S8x32x8x64x16x128_S64x16x1_S8x32x8x64x16x16x128_01256_3_n_n_3_2_8328116128
    (Host.gather gather_S8x32x64x16x128_S32x8x1_S8x32x8x64x16x128_0345_1_n_n_1_2_816416128 t (rowTable 32#32 lit0))
    (colTable 64#32 lit1)

/-- The bias of each place of each window. -/
def biases (r : FVec Ideal S16x15x31 .f32) : FVec Ideal S16x32x64x8x16 .f32 :=
  transpose S16x32x64x8x16 [0, 1, 3, 2, 4]
    (Host.gather gather_S16x32x8x31_S64x16x1_S16x32x8x64x16_012_3_n_n_3_2_163281
      (Host.gather gather_S16x15x31_S32x8x1_S16x32x8x31_03_1_n_n_1_2_16131 r (rowTable 15#32 lit2)) (colTable 31#32 lit3))
    transposes_S16x32x8x64x16_S16x32x64x8x16_0_1_3_2_4

/-- The scores of the window's keys. -/
def nearScores (q : FVec Ideal S8x32x64x16x128 .f32) (k : FVec Ideal S8x32x8x64x16x16x128 .f32)
    (u : FVec Ideal S16x32x64x8x16 .f32) : FVec Ideal S8x16x32x64x8x16 .f32 :=
  addf (Host.dotGeneral dot_S8x32x64x16x128_S8x32x8x64x16x16x128_S8x16x32x64x8x16_4_6_n_24_0312_0513 none q k)
    (broadcastInDim S8x16x32x64x8x16 ![0, 1, 2, 3, 4, 5] bcast_S1x16x32x64x8x16_S8x16x32x64x8x16_0_1_2_3_4_5
      (broadcastInDim S1x16x32x64x8x16 ![1, 2, 3, 4, 5] bcast_S16x32x64x8x16_S1x16x32x64x8x16_1_2_3_4_5 u))

/-- The scores of the context's keys. -/
def farScores (q : FVec Ideal S8x32x64x16x128 .f32) (k : FVec Ideal S8x256x16x128 .f32) :
    FVec Ideal S8x16x32x64x256 .f32 :=
  Host.dotGeneral dot_S8x32x64x16x128_S8x256x16x128_S8x16x32x64x256_4_3_12_1_03_02 none q k

/-- Both kinds of scores in one row. -/
def scores (s : FVec Ideal S8x16x32x64x8x16 .f32) (z : FVec Ideal S8x16x32x64x256 .f32) :
    FVec Ideal S8x16x32x64x384 .f32 :=
  fn_main_v90 (F := Ideal) (shapeCast S8x16x32x64x128 s shapeCasts_S8x16x32x64x8x16_S8x16x32x64x128) z

/-- The greatest score of each row. -/
def top (s : FVec Ideal S8x16x32x64x384 .f32) : FVec Ideal S8x16x32x64 .f32 :=
  maximumf (broadcastInDim S8x16x32x64 ![] bcast_S_S8x16x32x64 (constant S_ .f32 0xFF800000#32))
    (Host.reduce FloatOps.maximumf s (constant S_ .f32 0xFF800000#32) reducesTo_S8x16x32x64x384_S8x16x32x64_d4 h_S_)

/-- The exponentials of a row's scores below its greatest. -/
def exps (s : FVec Ideal S8x16x32x64x384 .f32) : FVec Ideal S8x16x32x64x384 .f32 :=
  Host.exp (subf s (broadcastInDim S8x16x32x64x384 ![0, 1, 2, 3, 4] bcast_S8x16x32x64x1_S8x16x32x64x384_0_1_2_3_4
    (broadcastInDim S8x16x32x64x1 ![0, 1, 2, 3] bcast_S8x16x32x64_S8x16x32x64x1_0_1_2_3 (top s))))

/-- The softmax of each row. -/
def probs (s : FVec Ideal S8x16x32x64x384 .f32) : FVec Ideal S8x16x32x64x384 .f32 :=
  extf .f32 (truncf .bf16 (Host.divf (exps s)
    (broadcastInDim S8x16x32x64x384 ![0, 1, 2, 3, 4] bcast_S8x16x32x64x1_S8x16x32x64x384_0_1_2_3_4
      (broadcastInDim S8x16x32x64x1 ![0, 1, 2, 3] bcast_S8x16x32x64_S8x16x32x64x1_0_1_2_3
        (Host.reduceAdd (exps s) (constant S_ .f32 0x00000000#32) reducesTo_S8x16x32x64x384_S8x16x32x64_d4 h_S_))))
    bitsLt_bf16_f32) bitsLt_bf16_f32

/-- The window's weighted values. -/
def nearOut (p : FVec Ideal S8x16x32x64x384 .f32) (v : FVec Ideal S8x32x8x64x16x16x128 .f32) :
    FVec Ideal S8x32x64x16x128 .bf16 :=
  truncf .bf16 (Host.dotGeneral (F := Ideal)
    dot_S8x16x32x64x8x16_S8x32x8x64x16x16x128_S8x32x64x16x128_54_42_n_6_0231_0135 none
    (shapeCast S8x16x32x64x8x16 (extractStridedSlice S8x16x32x64x128 ![0, 0, 0, 0, 0] p
      slices_S8x16x32x64x384_S8x16x32x64x128_0_0_0_0_0) shapeCasts_S8x16x32x64x128_S8x16x32x64x8x16) v) bitsLt_bf16_f32

/-- The context's weighted values, of a query of the grid. -/
def farOut (p : FVec Ideal S8x16x32x64x384 .f32) (v : FVec Ideal S8x256x16x128 .f32) : FVec Ideal S8x32x64x16x128 .bf16 :=
  truncf .bf16 (transpose S8x32x64x16x128 [0, 3, 4, 1, 2]
    (Host.dotGeneral (F := Ideal) dot_S8x256x16x128_S8x16x32x64x256_S8x16x128x32x64_1_4_3_23_02_01 none v
      (extractStridedSlice S8x16x32x64x256 ![0, 0, 0, 0, 128] p slices_S8x16x32x64x384_S8x16x32x64x256_0_0_0_0_128))
    transposes_S8x16x128x32x64_S8x32x64x16x128_0_3_4_1_2) bitsLt_bf16_f32

/-- The scores of the grid's queries. -/
def gridScores (x : Vec Ideal S8x2304x6144 .bf16) (r : FVec Ideal S16x15x31 .f32) (w : FVec Ideal S2x128 .f32) :
    FVec Ideal S8x16x32x64x384 .f32 :=
  scores (nearScores (gridPart (queries x w)) (windows (gridPart (keys x w))) (biases r))
    (farScores (gridPart (queries x w)) (contextPart (keys x w)))

/-- The result's rows of the grid. -/
def gridOut (x : Vec Ideal S8x2304x6144 .bf16) (r : FVec Ideal S16x15x31 .f32) (w : FVec Ideal S2x128 .f32) :
    FVec Ideal S8x32x64x16x128 .bf16 :=
  addf (nearOut (probs (gridScores x r w)) (windows (gridPart (values x))))
    (farOut (probs (gridScores x r w)) (contextPart (values x)))

/-- The context's scores of its own queries. -/
def ownScores (x : Vec Ideal S8x2304x6144 .bf16) (w : FVec Ideal S2x128 .f32) : FVec Ideal S8x16x256x256 .f32 :=
  Host.dotGeneral dot_S8x256x16x128_S8x256x16x128_S8x16x256x256_3_3_1_1_02_02 none (contextPart (queries x w))
    (contextPart (keys x w))

/-- The greatest score of each context row. -/
def ownTop (s : FVec Ideal S8x16x256x256 .f32) : FVec Ideal S8x16x256 .f32 :=
  maximumf (broadcastInDim S8x16x256 ![] bcast_S_S8x16x256 (constant S_ .f32 0xFF800000#32))
    (Host.reduce FloatOps.maximumf s (constant S_ .f32 0xFF800000#32) reducesTo_S8x16x256x256_S8x16x256_d3 h_S_)

/-- The exponentials of a context row's scores below its greatest. -/
def ownExps (s : FVec Ideal S8x16x256x256 .f32) : FVec Ideal S8x16x256x256 .f32 :=
  Host.exp (subf s (broadcastInDim S8x16x256x256 ![0, 1, 2, 3] bcast_S8x16x256x1_S8x16x256x256_0_1_2_3
    (broadcastInDim S8x16x256x1 ![0, 1, 2] bcast_S8x16x256_S8x16x256x1_0_1_2 (ownTop s))))

/-- The softmax of each context row. -/
def ownProbs (s : FVec Ideal S8x16x256x256 .f32) : FVec Ideal S8x16x256x256 .f32 :=
  extf .f32 (truncf .bf16 (Host.divf (ownExps s)
    (broadcastInDim S8x16x256x256 ![0, 1, 2, 3] bcast_S8x16x256x1_S8x16x256x256_0_1_2_3
      (broadcastInDim S8x16x256x1 ![0, 1, 2] bcast_S8x16x256_S8x16x256x1_0_1_2
        (Host.reduceAdd (ownExps s) (constant S_ .f32 0x00000000#32) reducesTo_S8x16x256x256_S8x16x256_d3 h_S_))))
    bitsLt_bf16_f32) bitsLt_bf16_f32

/-- The result's rows of the context. -/
def ownOut (x : Vec Ideal S8x2304x6144 .bf16) (w : FVec Ideal S2x128 .f32) : FVec Ideal S8x256x16x128 .bf16 :=
  truncf .bf16 (transpose S8x256x16x128 [0, 3, 1, 2]
    (Host.dotGeneral (F := Ideal) dot_S8x256x16x128_S8x16x256x256_S8x16x128x256_1_3_3_2_02_01 none
      (contextPart (values x)) (ownProbs (ownScores x w)))
    transposes_S8x16x128x256_S8x256x16x128_0_3_1_2) bitsLt_bf16_f32

/-- The reference's result: the context's rows, then the grid's. -/
def result (x : Vec Ideal S8x2304x6144 .bf16) (r : FVec Ideal S16x15x31 .f32) (w : FVec Ideal S2x128 .f32) :
    Vec Ideal S8x2304x2048 .bf16 :=
  fn_main_v135 (F := Ideal) (shapeCast S8x256x2048 (ownOut x w) shapeCasts_S8x256x16x128_S8x256x2048)
    (shapeCast S8x2048x2048 (gridOut x r w) shapeCasts_S8x32x64x16x128_S8x2048x2048)

/-- The reference computes the stages' composition. -/
theorem result_eq (m : (ℓ : Loc nD τ sig) → Buf (Elt Ideal) ℓ) (c : Dev nD) : res_main_v135 m c =
    result (m ((c.tc : Thread nD τ).loc main_arg0)) (m ((c.tc : Thread nD τ).loc main_arg1))
      (m ((c.tc : Thread nD τ).loc main_arg2)) := rfl

end Natten.Ref
-- ==== Proof.Body.lean ====
module
/- What one grid point of the kernel computes, head by head: the eight heads' stores are one function of the head. -/
public import proofs.«01_k».proof.Proof.Gen.KernelIdeal.Value
public import Idealize.ShloMosaic.Lib.Pointwise
public import Idealize.ShloMosaic.Lib.WholeRead
public import Idealize.ShloMosaic.Lib.Pipeline.ValueKit.Tiles
@[expose] public section
set_option maxRecDepth 16384
noncomputable section
namespace Natten.Body
open Cert.KernelIdeal Cert.KernelIdeal.Gen Idealize.ShloMosaic Idealize.ShloMosaic.TcCoe Idealize.SL.Sem
variable {F : FTy → Type} [FloatOps F]

/-- The head's rows of keys normalised. -/
def keyHead (k : Vec F S1x2304x128 .bf16) (w : Vec F S1x128 .f32) : Vec F S2304x128 .bf16 := k0_pay3 k w

/-- One head of a row of context queries. -/
def contextHead (q : Vec F S1x64x128 .bf16) (w : Vec F S1x128 .f32) (kc : Vec F S256x128 .bf16)
    (vc : Vec F S1x256x128 .bf16) : Vec F S1x64x128 .bf16 :=
  k0_pay56 (k0_pay46 (k0_pay32 (k0_pay27 (k0_pay16 q w) kc)) vc)

/-- One head of a row of grid queries. -/
def latentHead (q : Vec F S1x64x128 .bf16) (w : Vec F S1x128 .f32) (k : Vec F S512x128 .bf16)
    (t : Vec F S1x1x64x512 .f32) (kc : Vec F S256x128 .bf16) (v : Vec F S1x512x128 .bf16)
    (vc : Vec F S1x256x128 .bf16) : Vec F S1x64x128 .bf16 :=
  k0_pay140 (k0_pay89 (k0_pay76 (k0_pay64 q w) k t) (k0_pay77 (k0_pay64 q w) kc) v vc)

/-- The first key row of the window's eight grid rows, at a point. -/
def startAt (i : grid0.Coords) : Nat := k0_off1 i 0
/-- The bias table's row for a point. -/
def biasAt (i : grid0.Coords) : Nat := k0_off2 i 1

theorem startAt_le : ∀ i : grid0.Coords, startAt i + 512 ≤ 2304 := by
  have h : ∀ r : Fin 36, k0_off1 (fun a => if h : a = 2 then h ▸ r else ⟨0, by revert a; decide⟩) 0 + 512 ≤ 2304 := by decide +kernel
  intro i
  exact h (i 2)
theorem biasAt_lt : ∀ i : grid0.Coords, biasAt i + 1 ≤ 8 := by
  have h : ∀ r : Fin 36, k0_off2 (fun a => if h : a = 2 then h ▸ r else ⟨0, by revert a; decide⟩) 1 + 1 ≤ 8 := by decide +kernel
  intro i
  exact h (i 2)

/-- The columns of one head of a row of queries (or of results). -/
abbrev rowR (j : Fin 8) : Rect S1x64x1024 :=
  Rect.unit ![0, 0, 128 * j.val] ![1, 64, 128] (by intro a; fin_cases a <;> simp [Shape.size] <;> omega)
/-- One row of the norm weights. -/
abbrev nwR (s : Fin 2) : Rect S2x128 :=
  Rect.unit ![s.val, 0] ![1, 128] (by intro a; fin_cases a <;> simp [Shape.size] <;> omega)
/-- One head's columns of the keys or values of a whole batch element. -/
abbrev allR (j : Fin 8) : Rect S1x2304x1024 :=
  Rect.unit ![0, 0, 128 * j.val] ![1, 2304, 128] (by intro a; fin_cases a <;> simp [Shape.size] <;> omega)
/-- One head's columns of the normalised keys. -/
abbrev keyR (j : Fin 8) : Rect S2304x1024 :=
  Rect.unit ![0, 128 * j.val] ![2304, 128] (by intro a; fin_cases a <;> simp [Shape.size] <;> omega)
/-- One head's normalised context keys. -/
abbrev ctxKeyR (j : Fin 8) : Rect S2304x1024 :=
  Rect.unit ![0, 128 * j.val] ![256, 128] (by intro a; fin_cases a <;> simp [Shape.size] <;> omega)
/-- One head's context values. -/
abbrev ctxValR (j : Fin 8) : Rect S1x2304x1024 :=
  Rect.unit ![0, 0, 128 * j.val] ![1, 256, 128] (by intro a; fin_cases a <;> simp [Shape.size] <;> omega)
/-- One head's normalised keys of the window's grid rows. -/
abbrev winKeyR (i : grid0.Coords) (j : Fin 8) : Rect S2304x1024 :=
  Rect.unit ![startAt i, 128 * j.val] ![512, 128]
    (by have := startAt_le i; intro a; fin_cases a <;> simp [Shape.size] <;> omega)
/-- One head's values of the window's grid rows. -/
abbrev winValR (i : grid0.Coords) (j : Fin 8) : Rect S1x2304x1024 :=
  Rect.unit ![0, startAt i, 128 * j.val] ![1, 512, 128]
    (by have := startAt_le i; intro a; fin_cases a <;> simp [Shape.size] <;> omega)
/-- One head's bias table row. -/
abbrev biasR (i : grid0.Coords) (j : Fin 8) : Rect S8x8x64x512 :=
  Rect.unit ![j.val, biasAt i, 0, 0] ![1, 1, 64, 512]
    (by have := biasAt_lt i; intro a; fin_cases a <;> simp [Shape.size] <;> omega)

/-- A head's keys normalised, from the point's blocks. -/
def keyBlock (x1 : Vec F S1x2304x1024 .bf16) (x4 : Vec F S2x128 .f32) (j : Fin 8) : Vec F S2304x128 .bf16 :=
  keyHead (View.ld x1 (allR j)) (View.ld x4 (nwR 1))
/-- A head of a row of context queries, from the point's blocks and the normalised keys. -/
def contextBlock (x0 : Vec F S1x64x1024 .bf16) (x2 : Vec F S1x2304x1024 .bf16) (x4 : Vec F S2x128 .f32)
    (xs0 : Vec F S2304x1024 .bf16) (j : Fin 8) : Vec F S1x64x128 .bf16 :=
  contextHead (View.ld x0 (rowR j)) (View.ld x4 (nwR 0)) (View.ld xs0 (ctxKeyR j)) (View.ld x2 (ctxValR j))
/-- A head of a row of grid queries, from the point's blocks and the normalised keys. -/
def latentBlock (i : grid0.Coords) (x0 : Vec F S1x64x1024 .bf16) (x2 : Vec F S1x2304x1024 .bf16)
    (x3 : Vec F S8x8x64x512 .f32) (x4 : Vec F S2x128 .f32)
    (xs0 : Vec F S2304x1024 .bf16) (j : Fin 8) : Vec F S1x64x128 .bf16 :=
  latentHead (View.ld x0 (rowR j)) (View.ld x4 (nwR 0)) (View.ld xs0 (winKeyR i j)) (View.ld x3 (biasR i j))
    (View.ld xs0 (ctxKeyR j)) (View.ld x2 (winValR i j)) (View.ld x2 (ctxValR j))

/-- A load through a whole buffer is the load of its contents. -/
theorem load_eq {s : Shape} {e : EltTy} {sp : Space} {m : Memref sig .tc sp s e} (h : m.IsWhole)
    (X : s.Idx → Elt F e) (r : Rect s) :
    View.readAt (Elt F) m.view r.toLoadRect (h.unread X) = View.ld X r :=
  funext fun x => h.readAt_unread X r.toLoadRect x

/-- The column of a head's coordinate. -/
abbrev col (j : Fin 8) (d : Fin 128) : Fin 1024 := ⟨128 * j.val + d.val, by omega⟩

/-- A store of one head into a row of results agrees with the family of heads. -/
theorem row_tile (blk : Fin 8 → Vec F S1x64x128 .bf16) (j : Fin 8) (q : Fin 64) (d : Fin 128)
    (jj : Fin 8) {w : Vec F S1x64x128 .bf16} (hw : w = blk jj) :
    View.TileAt (S := S1x64x1024) (ix3 0 q (col j d)) ![0, 0, 128 * jj.val] ![1, 64, 128] w (blk j (ix3 0 q d)) := by
  intro x hx
  have h1 := hx 1
  have h2 := hx 2
  have hb : (x 2 : Nat) < 128 := (x 2).isLt
  have hd := d.isLt
  simp at h1 h2
  obtain rfl : j = jj := Fin.ext (by omega)
  rw [hw]
  congr 1
  funext a
  fin_cases a
  · exact Subsingleton.elim (α := Fin 1) _ _
  · exact Fin.ext h1.symm
  · exact Fin.ext (by show (x 2 : Nat) = d.val; omega)

/-- A store of one head's keys agrees with the family of heads. -/
theorem key_tile (blk : Fin 8 → Vec F S2304x128 .bf16) (j : Fin 8) (l : Fin 2304) (d : Fin 128)
    (jj : Fin 8) {w : Vec F S2304x128 .bf16} (hw : w = blk jj) :
    View.TileAt (S := S2304x1024) (ix2 l (col j d)) ![0, 128 * jj.val] ![2304, 128] w (blk j (ix2 l d)) := by
  intro x hx
  have h1 := hx 0
  have h2 := hx 1
  have hb : (x 1 : Nat) < 128 := (x 1).isLt
  have hd := d.isLt
  simp at h1 h2
  obtain rfl : j = jj := Fin.ext (by omega)
  rw [hw]
  congr 1
  funext a
  fin_cases a
  · exact Fin.ext h1.symm
  · exact Fin.ext (by show (x 1 : Nat) = d.val; omega)

section
variable (c : Dev nD) (i : grid0.Coords) (arg3 : Memref sig .tc .vmem S1x64x1024 .bf16) (harg3 : arg3.IsWhole) (arg4 : Memref sig .tc .vmem S1x2304x1024 .bf16) (harg4 : arg4.IsWhole) (arg5 : Memref sig .tc .vmem S1x2304x1024 .bf16) (harg5 : arg5.IsWhole) (arg6 : Memref sig .tc .vmem S8x8x64x512 .f32) (harg6 : arg6.IsWhole) (arg7 : Memref sig .tc .vmem S2x128 .f32) (harg7 : arg7.IsWhole) (arg8 : Memref sig .tc .vmem S1x64x1024 .bf16) (harg8 : arg8.IsWhole) (arg9 : Memref sig .tc .vmem S2304x1024 .bf16) (harg9 : arg9.IsWhole)

/-- The normalised keys that the first point of a head group stores. -/
theorem keys_at (hc0 : cond0_0 i) (hc1 : cond0_1 i) (hc2 : ¬ cond0_2 i) (x0 : Vec F S1x64x1024 .bf16) (x1 : Vec F S1x2304x1024 .bf16) (x2 : Vec F S1x2304x1024 .bf16) (x3 : Vec F S8x8x64x512 .f32) (x4 : Vec F S2x128 .f32) (j : Fin 8) (l : Fin 2304) (d : Fin 128) :
    sout0_A_0 c i arg3 harg3 arg4 harg4 arg5 harg5 arg6 harg6 arg7 harg7 arg8 harg8 arg9 harg9 hc0 hc1 hc2 x0 x1 x2 x3 x4 (ix2 l (col j d)) = keyBlock x1 x4 j (ix2 l d) := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4)]
  refine View.canon_eq_of_allAt _ _ _ (scover0_A_0 c i arg3 harg3 arg4 harg4 arg5 harg5 arg6 harg6 arg7 harg7 arg8 harg8 arg9 harg9 hc0 hc1 hc2 x0 x1 x2 x3 x4 _) ?_
  unfold kernelRun0_A; dsimp only
  unfold kernelRun0_A.sl.HS0_8
  have key : ∀ j, keyBlock x1 x4 j = keyHead (View.readAt (Elt F) arg4.view (allR j).toLoadRect (harg4.unread x1))
      (View.readAt (Elt F) arg7.view (nwR 1).toLoadRect (harg7.unread x4)) := by
    intro j; rw [load_eq, load_eq]; rfl
  refine View.allAt_cons_unit _ _ _ _ _ (key_tile (keyBlock x1 x4) j l d 7 (by rw [key]; rfl)) ?_
  refine View.allAt_cons_unit _ _ _ _ _ (key_tile (keyBlock x1 x4) j l d 6 (by rw [key]; rfl)) ?_
  refine View.allAt_cons_unit _ _ _ _ _ (key_tile (keyBlock x1 x4) j l d 5 (by rw [key]; rfl)) ?_
  refine View.allAt_cons_unit _ _ _ _ _ (key_tile (keyBlock x1 x4) j l d 4 (by rw [key]; rfl)) ?_
  refine View.allAt_cons_unit _ _ _ _ _ (key_tile (keyBlock x1 x4) j l d 3 (by rw [key]; rfl)) ?_
  refine View.allAt_cons_unit _ _ _ _ _ (key_tile (keyBlock x1 x4) j l d 2 (by rw [key]; rfl)) ?_
  refine View.allAt_cons_unit _ _ _ _ _ (key_tile (keyBlock x1 x4) j l d 1 (by rw [key]; rfl)) ?_
  refine View.allAt_cons_unit _ _ _ _ _ (key_tile (keyBlock x1 x4) j l d 0 (by rw [key]; rfl)) ?_
  exact View.allAt_nil _ _

/-- The results of a row of context queries, when the keys were normalised before. -/
theorem context_at (hc0 : ¬cond0_0 i) (hc1 : cond0_1 i) (hc2 : ¬ cond0_2 i) (x0 : Vec F S1x64x1024 .bf16) (x1 : Vec F S1x2304x1024 .bf16) (x2 : Vec F S1x2304x1024 .bf16) (x3 : Vec F S8x8x64x512 .f32) (x4 : Vec F S2x128 .f32) (xs0 : Vec F S2304x1024 .bf16) (j : Fin 8) (q : Fin 64) (d : Fin 128) :
    out0_B_5 c i arg3 harg3 arg4 harg4 arg5 harg5 arg6 harg6 arg7 harg7 arg8 harg8 arg9 harg9 hc0 hc1 hc2 x0 x1 x2 x3 x4 xs0 (ix3 0 q (col j d)) = contextBlock x0 x2 x4 xs0 j (ix3 0 q d) := by
  unfold out0_B_5
  rw [View.read_writes_eq_canon _ _ _ (cover0_B_5 c i arg3 harg3 arg4 harg4 arg5 harg5 arg6 harg6 arg7 harg7 arg8 harg8 arg9 harg9 hc0 hc1 hc2 x0 x1 x2 x3 x4 xs0)]
  refine View.canon_eq_of_allAt _ _ _ (cover0_B_5 c i arg3 harg3 arg4 harg4 arg5 harg5 arg6 harg6 arg7 harg7 arg8 harg8 arg9 harg9 hc0 hc1 hc2 x0 x1 x2 x3 x4 xs0 _) ?_
  unfold kernelRun0_B; dsimp only
  have key : ∀ j, contextBlock x0 x2 x4 xs0 j = contextHead (View.readAt (Elt F) arg3.view (rowR j).toLoadRect (harg3.unread x0))
      (View.readAt (Elt F) arg7.view (nwR 0).toLoadRect (harg7.unread x4))
      (View.readAt (Elt F) arg9.view (ctxKeyR j).toLoadRect (harg9.unread xs0))
      (View.readAt (Elt F) arg5.view (ctxValR j).toLoadRect (harg5.unread x2)) := by
    intro j; simp only [load_eq]; rfl
  refine View.allAt_cons_unit _ _ _ _ _ (row_tile (contextBlock x0 x2 x4 xs0) j q d 7 (by rw [key]; rfl)) ?_
  refine View.allAt_cons_unit _ _ _ _ _ (row_tile (contextBlock x0 x2 x4 xs0) j q d 6 (by rw [key]; rfl)) ?_
  refine View.allAt_cons_unit _ _ _ _ _ (row_tile (contextBlock x0 x2 x4 xs0) j q d 5 (by rw [key]; rfl)) ?_
  refine View.allAt_cons_unit _ _ _ _ _ (row_tile (contextBlock x0 x2 x4 xs0) j q d 4 (by rw [key]; rfl)) ?_
  refine View.allAt_cons_unit _ _ _ _ _ (row_tile (contextBlock x0 x2 x4 xs0) j q d 3 (by rw [key]; rfl)) ?_
  refine View.allAt_cons_unit _ _ _ _ _ (row_tile (contextBlock x0 x2 x4 xs0) j q d 2 (by rw [key]; rfl)) ?_
  refine View.allAt_cons_unit _ _ _ _ _ (row_tile (contextBlock x0 x2 x4 xs0) j q d 1 (by rw [key]; rfl)) ?_
  refine View.allAt_cons_unit _ _ _ _ _ (row_tile (contextBlock x0 x2 x4 xs0) j q d 0 (by rw [key]; rfl)) ?_
  exact View.allAt_nil _ _

/-- The results of a row of grid queries. -/
theorem latent_at (hc0 : ¬cond0_0 i) (hc1 : ¬cond0_1 i) (hc2 : cond0_2 i) (x0 : Vec F S1x64x1024 .bf16) (x1 : Vec F S1x2304x1024 .bf16) (x2 : Vec F S1x2304x1024 .bf16) (x3 : Vec F S8x8x64x512 .f32) (x4 : Vec F S2x128 .f32) (xs0 : Vec F S2304x1024 .bf16) (j : Fin 8) (q : Fin 64) (d : Fin 128) :
    out0_C_5 c i arg3 harg3 arg4 harg4 arg5 harg5 arg6 harg6 arg7 harg7 arg8 harg8 arg9 harg9 hc0 hc1 hc2 x0 x1 x2 x3 x4 xs0 (ix3 0 q (col j d)) = latentBlock i x0 x2 x3 x4 xs0 j (ix3 0 q d) := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 x4 xs0)]
  refine View.canon_eq_of_allAt _ _ _ (cover0_C_5 c i arg3 harg3 arg4 harg4 arg5 harg5 arg6 harg6 arg7 harg7 arg8 harg8 arg9 harg9 hc0 hc1 hc2 x0 x1 x2 x3 x4 xs0 _) ?_
  unfold kernelRun0_C; dsimp only
  have key : ∀ j, latentBlock i x0 x2 x3 x4 xs0 j = latentHead (View.readAt (Elt F) arg3.view (rowR j).toLoadRect (harg3.unread x0))
      (View.readAt (Elt F) arg7.view (nwR 0).toLoadRect (harg7.unread x4))
      (View.readAt (Elt F) arg9.view (winKeyR i j).toLoadRect (harg9.unread xs0))
      (View.readAt (Elt F) arg6.view (biasR i j).toLoadRect (harg6.unread x3))
      (View.readAt (Elt F) arg9.view (ctxKeyR j).toLoadRect (harg9.unread xs0))
      (View.readAt (Elt F) arg5.view (winValR i j).toLoadRect (harg5.unread x2))
      (View.readAt (Elt F) arg5.view (ctxValR j).toLoadRect (harg5.unread x2)) := by
    intro j; simp only [load_eq]; rfl
  refine View.allAt_cons_unit _ _ _ _ _ (row_tile (latentBlock i x0 x2 x3 x4 xs0) j q d 7 (by rw [key]; rfl)) ?_
  refine View.allAt_cons_unit _ _ _ _ _ (row_tile (latentBlock i x0 x2 x3 x4 xs0) j q d 6 (by rw [key]; rfl)) ?_
  refine View.allAt_cons_unit _ _ _ _ _ (row_tile (latentBlock i x0 x2 x3 x4 xs0) j q d 5 (by rw [key]; rfl)) ?_
  refine View.allAt_cons_unit _ _ _ _ _ (row_tile (latentBlock i x0 x2 x3 x4 xs0) j q d 4 (by rw [key]; rfl)) ?_
  refine View.allAt_cons_unit _ _ _ _ _ (row_tile (latentBlock i x0 x2 x3 x4 xs0) j q d 3 (by rw [key]; rfl)) ?_
  refine View.allAt_cons_unit _ _ _ _ _ (row_tile (latentBlock i x0 x2 x3 x4 xs0) j q d 2 (by rw [key]; rfl)) ?_
  refine View.allAt_cons_unit _ _ _ _ _ (row_tile (latentBlock i x0 x2 x3 x4 xs0) j q d 1 (by rw [key]; rfl)) ?_
  refine View.allAt_cons_unit _ _ _ _ _ (row_tile (latentBlock i x0 x2 x3 x4 xs0) j q d 0 (by rw [key]; rfl)) ?_
  exact View.allAt_nil _ _

/-- The results of the first row of context queries of a head group, which reads the keys it has just normalised. -/
theorem first_at (hc0 : cond0_0 i) (hc1 : cond0_1 i) (hc2 : ¬ cond0_2 i) (x0 : Vec F S1x64x1024 .bf16) (x1 : Vec F S1x2304x1024 .bf16) (x2 : Vec F S1x2304x1024 .bf16) (x3 : Vec F S8x8x64x512 .f32) (x4 : Vec F S2x128 .f32) (j : Fin 8) (q : Fin 64) (d : Fin 128) :
    out0_A_5 c i arg3 harg3 arg4 harg4 arg5 harg5 arg6 harg6 arg7 harg7 arg8 harg8 arg9 harg9 hc0 hc1 hc2 x0 x1 x2 x3 x4 (ix3 0 q (col j d))
      = contextBlock x0 x2 x4 (sout0_A_0 c i arg3 harg3 arg4 harg4 arg5 harg5 arg6 harg6 arg7 harg7 arg8 harg8 arg9 harg9 hc0 hc1 hc2 x0 x1 x2 x3 x4) j (ix3 0 q d) := by
  unfold out0_A_5
  rw [View.read_writes_eq_canon _ _ _ (cover0_A_5 c i arg3 harg3 arg4 harg4 arg5 harg5 arg6 harg6 arg7 harg7 arg8 harg8 arg9 harg9 hc0 hc1 hc2 x0 x1 x2 x3 x4)]
  refine View.canon_eq_of_allAt _ _ _ (cover0_A_5 c i arg3 harg3 arg4 harg4 arg5 harg5 arg6 harg6 arg7 harg7 arg8 harg8 arg9 harg9 hc0 hc1 hc2 x0 x1 x2 x3 x4 _) ?_
  have hs : sout0_A_0 c i arg3 harg3 arg4 harg4 arg5 harg5 arg6 harg6 arg7 harg7 arg8 harg8 arg9 harg9 hc0 hc1 hc2 x0 x1 x2 x3 x4
      = View.canon (kernelRun0_A.sl.HS0_8 c arg4 harg4 arg7 harg7 x1 x4) := by
    unfold sout0_A_0
    rw [View.read_writes_eq_canon _ _ _ (scover0_A_0 c i arg3 harg3 arg4 harg4 arg5 harg5 arg6 harg6 arg7 harg7 arg8 harg8 arg9 harg9 hc0 hc1 hc2 x0 x1 x2 x3 x4)]
    rfl
  have key : ∀ j, contextBlock x0 x2 x4 (sout0_A_0 c i arg3 harg3 arg4 harg4 arg5 harg5 arg6 harg6 arg7 harg7 arg8 harg8 arg9 harg9 hc0 hc1 hc2 x0 x1 x2 x3 x4) j
      = contextHead (View.readAt (Elt F) arg3.view (rowR j).toLoadRect (harg3.unread x0))
      (View.readAt (Elt F) arg7.view (nwR 0).toLoadRect (harg7.unread x4))
      (View.readCov arg9.view (kernelRun0_A.sl.HS0_8 c arg4 harg4 arg7 harg7 x1 x4) (ctxKeyR j).toLoadRect)
      (View.readAt (Elt F) arg5.view (ctxValR j).toLoadRect (harg5.unread x2)) := by
    intro j; rw [hs, View.readCov_eq_canon']; simp only [load_eq]; rfl
  unfold kernelRun0_A; dsimp only
  refine View.allAt_cons_unit _ _ _ _ _ (row_tile (contextBlock x0 x2 x4 (sout0_A_0 c i arg3 harg3 arg4 harg4 arg5 harg5 arg6 harg6 arg7 harg7 arg8 harg8 arg9 harg9 hc0 hc1 hc2 x0 x1 x2 x3 x4)) j q d 7 (by rw [key]; rfl)) ?_
  refine View.allAt_cons_unit _ _ _ _ _ (row_tile (contextBlock x0 x2 x4 (sout0_A_0 c i arg3 harg3 arg4 harg4 arg5 harg5 arg6 harg6 arg7 harg7 arg8 harg8 arg9 harg9 hc0 hc1 hc2 x0 x1 x2 x3 x4)) j q d 6 (by rw [key]; rfl)) ?_
  refine View.allAt_cons_unit _ _ _ _ _ (row_tile (contextBlock x0 x2 x4 (sout0_A_0 c i arg3 harg3 arg4 harg4 arg5 harg5 arg6 harg6 arg7 harg7 arg8 harg8 arg9 harg9 hc0 hc1 hc2 x0 x1 x2 x3 x4)) j q d 5 (by rw [key]; rfl)) ?_
  refine View.allAt_cons_unit _ _ _ _ _ (row_tile (contextBlock x0 x2 x4 (sout0_A_0 c i arg3 harg3 arg4 harg4 arg5 harg5 arg6 harg6 arg7 harg7 arg8 harg8 arg9 harg9 hc0 hc1 hc2 x0 x1 x2 x3 x4)) j q d 4 (by rw [key]; rfl)) ?_
  refine View.allAt_cons_unit _ _ _ _ _ (row_tile (contextBlock x0 x2 x4 (sout0_A_0 c i arg3 harg3 arg4 harg4 arg5 harg5 arg6 harg6 arg7 harg7 arg8 harg8 arg9 harg9 hc0 hc1 hc2 x0 x1 x2 x3 x4)) j q d 3 (by rw [key]; rfl)) ?_
  refine View.allAt_cons_unit _ _ _ _ _ (row_tile (contextBlock x0 x2 x4 (sout0_A_0 c i arg3 harg3 arg4 harg4 arg5 harg5 arg6 harg6 arg7 harg7 arg8 harg8 arg9 harg9 hc0 hc1 hc2 x0 x1 x2 x3 x4)) j q d 2 (by rw [key]; rfl)) ?_
  refine View.allAt_cons_unit _ _ _ _ _ (row_tile (contextBlock x0 x2 x4 (sout0_A_0 c i arg3 harg3 arg4 harg4 arg5 harg5 arg6 harg6 arg7 harg7 arg8 harg8 arg9 harg9 hc0 hc1 hc2 x0 x1 x2 x3 x4)) j q d 1 (by rw [key]; rfl)) ?_
  refine View.allAt_cons_unit _ _ _ _ _ (row_tile (contextBlock x0 x2 x4 (sout0_A_0 c i arg3 harg3 arg4 harg4 arg5 harg5 arg6 harg6 arg7 harg7 arg8 harg8 arg9 harg9 hc0 hc1 hc2 x0 x1 x2 x3 x4)) j q d 0 (by rw [key]; rfl)) ?_
  exact View.allAt_nil _ _
end

end Natten.Body
-- ==== Proof.Head.lean ====
module
/- One head of the kernel, read at an index over the extended reals. -/
public import proofs.«01_k».proof.Proof.Body
public import proofs.«01_k».proof.Proof.Attend
@[expose] public section
set_option maxRecDepth 16384
noncomputable section
namespace Natten.Body
open Cert.KernelIdeal Cert.KernelIdeal.Gen Idealize.ShloMosaic Idealize.ShloMosaic.TcCoe Idealize.SL.Sem

/-- A head's normalised key. -/
theorem keyHead_at (k : Vec Ideal S1x2304x128 .bf16) (w : Vec Ideal S1x128 .f32) (l : Fin 2304) (d : Fin 128) :
    keyHead k w (ix2 l d) = nrm (fun e => k (ix3 0 l e)) (fun e => w (ix2 0 e)) d := by
  unfold keyHead nrm
  pointwise [k0_pay3]

/-- A normalised and scaled query, of a row of grid queries. -/
theorem latentQuery_at (q : Vec Ideal S1x64x128 .bf16) (w : Vec Ideal S1x128 .f32) (r : Fin 64) (d : Fin 128) :
    k0_pay64 q w (ix2 r d) = qry (fun e => q (ix3 0 r e)) (fun e => w (ix2 0 e)) d := by
  unfold qry nrm
  pointwise [k0_pay64]

/-- A normalised and scaled query, of a row of context queries. -/
theorem contextQuery_at (q : Vec Ideal S1x64x128 .bf16) (w : Vec Ideal S1x128 .f32) (r : Fin 64) (d : Fin 128) :
    k0_pay16 q w (ix2 r d) = qry (fun e => q (ix3 0 r e)) (fun e => w (ix2 0 e)) d := by
  unfold qry nrm
  pointwise [k0_pay16]

theorem windowScore_at (q : FVec Ideal S64x128 .bf16) (k : Vec Ideal S512x128 .bf16) (t : Vec Ideal S1x1x64x512 .f32)
    (r : Fin 64) (n : Fin 512) :
    k0_pay76 q k t (ix2 r n) = dot (fun e => q (ix2 r e)) (fun e => k (ix2 n e)) + t (ix4 0 0 r n) := by
  unfold dot
  pointwise [k0_pay76]

theorem contextScore_at (q : FVec Ideal S64x128 .bf16) (k : Vec Ideal S256x128 .bf16) (r : Fin 64) (n : Fin 256) :
    k0_pay77 q k (ix2 r n) = dot (fun e => q (ix2 r e)) (fun e => k (ix2 n e)) := by
  unfold dot
  pointwise [k0_pay77]

theorem bits_bot : Ideal.ofBits .f32 0xFF800000#32 = ⊥ := by
  simp [Ideal.ofBits, Ideal.ieee]

/-- The greatest over six tiles of 128 lanes is the greatest over the 512 and the 256 entries they are cut from. -/
theorem lane_max (s : Fin 512 → EReal) (z : Fin 256 → EReal) :
    Finset.fold max ⊥ (fun x : Fin 128 => max (max (max (max (max (s ⟨x.val, by omega⟩) (s ⟨128 + x.val, by omega⟩))
      (s ⟨256 + x.val, by omega⟩)) (s ⟨384 + x.val, by omega⟩)) (z ⟨x.val, by omega⟩)) (z ⟨128 + x.val, by omega⟩))
      Finset.univ = peak s z := by
  rw [show Finset.fold max ⊥ _ Finset.univ = Finset.univ.sup _ from rfl]
  unfold peak
  apply le_antisymm
  · refine Finset.sup_le fun x _ => ?_
    refine max_le (max_le (max_le (max_le (max_le ?_ ?_) ?_) ?_) ?_) ?_
    · exact le_max_of_le_left (Finset.le_sup (f := s) (Finset.mem_univ _))
    · exact le_max_of_le_left (Finset.le_sup (f := s) (Finset.mem_univ _))
    · exact le_max_of_le_left (Finset.le_sup (f := s) (Finset.mem_univ _))
    · exact le_max_of_le_left (Finset.le_sup (f := s) (Finset.mem_univ _))
    · exact le_max_of_le_right (Finset.le_sup (f := z) (Finset.mem_univ _))
    · exact le_max_of_le_right (Finset.le_sup (f := z) (Finset.mem_univ _))
  · refine max_le (Finset.sup_le fun n _ => ?_) (Finset.sup_le fun n _ => ?_)
    · have hn := n.isLt
      refine le_trans ?_ (Finset.le_sup (Finset.mem_univ (⟨n.val % 128, Nat.mod_lt _ (by norm_num)⟩ : Fin 128)))
      have h : n.val / 128 < 4 := by omega
      simp only [le_max_iff]
      interval_cases hq : n.val / 128
      · exact Or.inl (Or.inl (Or.inl (Or.inl (Or.inl (le_of_eq (congrArg s (Fin.ext (by simp only; omega))))))))
      · exact Or.inl (Or.inl (Or.inl (Or.inl (Or.inr (le_of_eq (congrArg s (Fin.ext (by simp only; omega))))))))
      · exact Or.inl (Or.inl (Or.inl (Or.inr (le_of_eq (congrArg s (Fin.ext (by simp only; omega)))))))
      · exact Or.inl (Or.inl (Or.inr (le_of_eq (congrArg s (Fin.ext (by simp only; omega))))))
    · have hn := n.isLt
      refine le_trans ?_ (Finset.le_sup (Finset.mem_univ (⟨n.val % 128, Nat.mod_lt _ (by norm_num)⟩ : Fin 128)))
      have h : n.val / 128 < 2 := by omega
      simp only [le_max_iff]
      interval_cases hq : n.val / 128
      · exact Or.inl (Or.inr (le_of_eq (congrArg z (Fin.ext (by simp only; omega)))))
      · exact Or.inr (le_of_eq (congrArg z (Fin.ext (by simp only; omega))))

/-- The sum over six tiles of 128 lanes is the sum over the 512 and the 256 entries they are cut from. -/
theorem lane_sum (s : Fin 512 → EReal) (z : Fin 256 → EReal) :
    (∑ x : Fin 128, (s ⟨x.val, by omega⟩ + s ⟨128 + x.val, by omega⟩ + s ⟨256 + x.val, by omega⟩
      + s ⟨384 + x.val, by omega⟩ + z ⟨x.val, by omega⟩ + z ⟨128 + x.val, by omega⟩)) = (∑ n, s n) + ∑ n, z n := by
  simp only [Finset.sum_add_distrib]
  rw [Fin.sum_univ_add (a := 384) (b := 128) s, Fin.sum_univ_add (a := 256) (b := 128),
    Fin.sum_univ_add (a := 128) (b := 128), Fin.sum_univ_add (a := 128) (b := 128) z]
  simp only [add_assoc]
  rfl

theorem finish_at (s : FVec Ideal S64x512 .f32) (z : FVec Ideal S64x256 .f32) (v : Vec Ideal S1x512x128 .bf16)
    (u : Vec Ideal S1x256x128 .bf16) (r : Fin 64) (d : Fin 128) :
    k0_pay140 (k0_pay89 s z v u) (ix3 0 r d)
      = attended (fun n => s (ix2 r n)) (fun n => z (ix2 r n)) (fun n => v (ix3 0 n d)) (fun n => u (ix3 0 n d)) := by
  pointwise [k0_pay140, k0_pay89]
  rw [bits_bot]
  rw [lane_max (fun n => s (ix2 r n)) (fun n => z (ix2 r n)),
    lane_sum (fun n => Ideal.exp (s (ix2 r n) - _)) (fun n => Ideal.exp (z (ix2 r n) - _))]
  rfl

theorem contextFinish_at (z : FVec Ideal S64x256 .f32) (u : Vec Ideal S1x256x128 .bf16) (r : Fin 64) (d : Fin 128) :
    k0_pay56 (k0_pay46 (k0_pay32 z) u) (ix3 0 r d)
      = attended (ι := Empty) Empty.elim (fun n => z (ix2 r n)) Empty.elim (fun n => u (ix3 0 n d)) := by
  pointwise [k0_pay56, k0_pay46, k0_pay32]
  rw [bits_bot]
  unfold attended mass peak
  simp only [Finset.univ_eq_empty, Finset.sum_empty, Finset.sup_empty, zero_add, bot_sup_eq]
  rfl

/-- A head of a row of context queries attends over the context keys. -/
theorem contextHead_at (q : Vec Ideal S1x64x128 .bf16) (w : Vec Ideal S1x128 .f32) (kc : Vec Ideal S256x128 .bf16)
    (vc : Vec Ideal S1x256x128 .bf16) (r : Fin 64) (d : Fin 128) :
    contextHead q w kc vc (ix3 0 r d)
      = attended (ι := Empty) Empty.elim
          (fun n => dot (qry (fun e => q (ix3 0 r e)) (fun e => w (ix2 0 e))) (fun e => kc (ix2 n e)))
          Empty.elim (fun n => vc (ix3 0 n d)) := by
  unfold contextHead
  rw [contextFinish_at]
  congr 1
  funext n
  rw [show k0_pay27 (k0_pay16 q w) kc = k0_pay77 (k0_pay16 q w) kc from rfl, contextScore_at]
  simp only [contextQuery_at]

/-- A head of a row of grid queries attends over the keys of the window's grid rows, with the table's biases, and the
    context keys. -/
theorem latentHead_at (q : Vec Ideal S1x64x128 .bf16) (w : Vec Ideal S1x128 .f32) (k : Vec Ideal S512x128 .bf16)
    (t : Vec Ideal S1x1x64x512 .f32) (kc : Vec Ideal S256x128 .bf16) (v : Vec Ideal S1x512x128 .bf16)
    (vc : Vec Ideal S1x256x128 .bf16) (r : Fin 64) (d : Fin 128) :
    latentHead q w k t kc v vc (ix3 0 r d)
      = attended
          (fun n => dot (qry (fun e => q (ix3 0 r e)) (fun e => w (ix2 0 e))) (fun e => k (ix2 n e)) + t (ix4 0 0 r n))
          (fun n => dot (qry (fun e => q (ix3 0 r e)) (fun e => w (ix2 0 e))) (fun e => kc (ix2 n e)))
          (fun n => v (ix3 0 n d)) (fun n => vc (ix3 0 n d)) := by
  unfold latentHead
  rw [finish_at]
  simp only [windowScore_at, contextScore_at, latentQuery_at]

/-- The row of the window's keys in the sequence, at a point. -/
abbrev winRow (i : grid0.Coords) (n : Fin 512) : Fin 2304 := ⟨startAt i + n.val, by have := startAt_le i; omega⟩
/-- A context key's row in the sequence. -/
abbrev ctxRow (n : Fin 256) : Fin 2304 := ⟨n.val, by omega⟩

/-- The normalised keys of a point's block. -/
theorem keyBlock_at (x1 : Vec Ideal S1x2304x1024 .bf16) (x4 : Vec Ideal S2x128 .f32) (j : Fin 8) (l : Fin 2304) (d : Fin 128) :
    keyBlock x1 x4 j (ix2 l d) = nrm (fun e => x1 (ix3 0 l (col j e))) (fun e => x4 (ix2 1 e)) d := by
  unfold keyBlock
  rw [keyHead_at]
  congr 1 <;> funext e
  · exact View.ld_unit_apply_of _ _ _ _ _ _ fun a => by fin_cases a <;> simp
  · exact View.ld_unit_apply_of _ _ _ _ _ _ fun a => by fin_cases a <;> simp

/-- A point's query row, at a head: normalised and scaled. -/
def query (x0 : Vec Ideal S1x64x1024 .bf16) (x4 : Vec Ideal S2x128 .f32) (j : Fin 8) (r : Fin 64) (d : Fin 128) : EReal :=
  qry (fun e => x0 (ix3 0 r (col j e))) (fun e => x4 (ix2 0 e)) d

theorem query_eq (x0 : Vec Ideal S1x64x1024 .bf16) (x4 : Vec Ideal S2x128 .f32) (j : Fin 8) (r : Fin 64) :
    qry (fun e => View.ld (Val := Elt Ideal) x0 (rowR j) (ix3 0 r e)) (fun e => View.ld (Val := Elt Ideal) x4 (nwR 0) (ix2 0 e))
      = query x0 x4 j r := by
  unfold query
  funext d
  congr 1 <;> funext e
  · exact View.ld_unit_apply_of _ _ _ _ _ _ fun a => by fin_cases a <;> simp
  · exact View.ld_unit_apply_of _ _ _ _ _ _ fun a => by fin_cases a <;> simp

/-- A head of a row of context queries, from the point's blocks. -/
theorem contextBlock_at (x0 : Vec Ideal S1x64x1024 .bf16) (x2 : Vec Ideal S1x2304x1024 .bf16) (x4 : Vec Ideal S2x128 .f32)
    (xs0 : Vec Ideal S2304x1024 .bf16) (j : Fin 8) (r : Fin 64) (d : Fin 128) :
    contextBlock x0 x2 x4 xs0 j (ix3 0 r d)
      = attended (ι := Empty) Empty.elim (fun n => dot (query x0 x4 j r) (fun e => xs0 (ix2 (ctxRow n) (col j e))))
          Empty.elim (fun n => x2 (ix3 0 (ctxRow n) (col j d))) := by
  unfold contextBlock
  rw [contextHead_at, query_eq]
  have hk : ∀ (n : Fin 256) (e : Fin 128), View.ld (Val := Elt Ideal) xs0 (ctxKeyR j) (ix2 n e) = xs0 (ix2 (ctxRow n) (col j e)) :=
    fun n e => View.ld_unit_apply_of _ _ _ _ _ _ fun a => by fin_cases a <;> simp
  have hv : ∀ (n : Fin 256), View.ld (Val := Elt Ideal) x2 (ctxValR j) (ix3 0 n d) = x2 (ix3 0 (ctxRow n) (col j d)) :=
    fun n => View.ld_unit_apply_of _ _ _ _ _ _ fun a => by fin_cases a <;> simp
  simp only [hk, hv]

/-- A head of a row of grid queries, from the point's blocks. -/
theorem latentBlock_at (i : grid0.Coords) (x0 : Vec Ideal S1x64x1024 .bf16) (x2 : Vec Ideal S1x2304x1024 .bf16)
    (x3 : Vec Ideal S8x8x64x512 .f32) (x4 : Vec Ideal S2x128 .f32)
    (xs0 : Vec Ideal S2304x1024 .bf16) (j : Fin 8) (r : Fin 64) (d : Fin 128) :
    latentBlock i x0 x2 x3 x4 xs0 j (ix3 0 r d)
      = attended
          (fun n => dot (query x0 x4 j r) (fun e => xs0 (ix2 (winRow i n) (col j e)))
            + x3 (ix4 j ⟨biasAt i, biasAt_lt i⟩ r n))
          (fun n => dot (query x0 x4 j r) (fun e => xs0 (ix2 (ctxRow n) (col j e))))
          (fun n => x2 (ix3 0 (winRow i n) (col j d))) (fun n => x2 (ix3 0 (ctxRow n) (col j d))) := by
  unfold latentBlock
  rw [latentHead_at, query_eq]
  have hk : ∀ (n : Fin 256) (e : Fin 128), View.ld (Val := Elt Ideal) xs0 (ctxKeyR j) (ix2 n e) = xs0 (ix2 (ctxRow n) (col j e)) :=
    fun n e => View.ld_unit_apply_of _ _ _ _ _ _ fun a => by fin_cases a <;> simp
  have hv : ∀ (n : Fin 256), View.ld (Val := Elt Ideal) x2 (ctxValR j) (ix3 0 n d) = x2 (ix3 0 (ctxRow n) (col j d)) :=
    fun n => View.ld_unit_apply_of _ _ _ _ _ _ fun a => by fin_cases a <;> simp
  have hwk : ∀ (n : Fin 512) (e : Fin 128), View.ld (Val := Elt Ideal) xs0 (winKeyR i j) (ix2 n e) = xs0 (ix2 (winRow i n) (col j e)) :=
    fun n e => View.ld_unit_apply_of _ _ _ _ _ _ fun a => by fin_cases a <;> simp
  have hwv : ∀ (n : Fin 512), View.ld (Val := Elt Ideal) x2 (winValR i j) (ix3 0 n d) = x2 (ix3 0 (winRow i n) (col j d)) :=
    fun n => View.ld_unit_apply_of _ _ _ _ _ _ fun a => by fin_cases a <;> simp
  have hb : ∀ (n : Fin 512), View.ld (Val := Elt Ideal) x3 (biasR i j) (ix4 0 0 r n) = x3 (ix4 j ⟨biasAt i, biasAt_lt i⟩ r n) :=
    fun n => View.ld_unit_apply_of _ _ _ _ _ _ fun a => by fin_cases a <;> simp
  simp only [hk, hv, hwk, hwv, hb]

end Natten.Body
-- ==== Proof.Grid.lean ====
module
/- The grid's points: which blocks of the arrays a point reads and writes, and where its window begins. -/
public import proofs.«01_k».proof.Proof.Head
public import Idealize.ShloMosaic.Lib.Pipeline.ValueKit
public import Idealize.ShloMosaic.Lib.Pipeline.Covers
@[expose] public section
set_option maxRecDepth 16384
noncomputable section
namespace Natten.Launch
open Cert.KernelIdeal Cert.KernelIdeal.Gen Cert.KernelIdeal.Value Natten.Body
open Idealize.ShloMosaic Idealize.ShloMosaic.TcCoe Idealize.SL.Sem

theorem index0 : ∀ t : Fin grid0.N, win0_0.index t = ![t.val / 72, t.val % 36, t.val / 36 % 2] := by decide +kernel
theorem index1 : ∀ t : Fin grid0.N, win0_1.index t = ![t.val / 72, 0, 2 + t.val / 36 % 2] := by decide +kernel
theorem index2 : ∀ t : Fin grid0.N, win0_2.index t = ![t.val / 72, 0, 4 + t.val / 36 % 2] := by decide +kernel
theorem index3 : ∀ t : Fin grid0.N, win0_3.index t = ![t.val / 36 % 2, 0, 0, 0] := by decide +kernel
theorem index4 : ∀ t : Fin grid0.N, win0_4.index t = ![0, 0] := by decide +kernel
theorem index5 : ∀ t : Fin grid0.N, win0_5.index t = ![t.val / 72, t.val % 36, t.val / 36 % 2] := by decide +kernel

/-- The first key row of the window of a row of grid queries (the 256 context rows come first). -/
def winStart (r : Nat) : Nat := 256 + 64 * min 24 (r - 4 - 4)
/-- The row of the bias table for a row of grid queries. -/
def biasRow (r : Nat) : Nat := min 24 (r - 4 - 4) + 7 - (r - 4)

theorem startAt_eq : ∀ t : Fin grid0.N, startAt (grid0.coords t) = winStart (t.val % 36) := by decide +kernel
theorem biasAt_eq : ∀ t : Fin grid0.N, 4 ≤ t.val % 36 → biasAt (grid0.coords t) = biasRow (t.val % 36) := by decide +kernel

end Natten.Launch
-- ==== Proof.Blocks.lean ====
module
/- The blocks of the launch: what a grid point's input blocks hold, what the scratch holds after each point, and what
   the result array holds after the launch. -/
public import proofs.«01_k».proof.Proof.Grid
@[expose] public section
set_option maxRecDepth 16384
noncomputable section
namespace Natten.Launch
open Cert.KernelIdeal Cert.KernelIdeal.Gen Cert.KernelIdeal.Value Natten.Body
open Idealize.ShloMosaic Idealize.ShloMosaic.TcCoe Idealize.SL.Sem

variable (m : (ℓ : Loc nD τ sig) → Buf (Elt Ideal) ℓ) (c : Dev nD)

/-- The launch's first operand: the columns of the input projection that hold queries, keys and values. -/
abbrev proj : Vec Ideal S8x2304x6144 .bf16 := V m c main_arg0
/-- The launch's bias table. -/
abbrev table : Vec Ideal S16x8x64x512 .f32 := V m c main_v13
/-- The norm weights of queries and keys. -/
abbrev nw : Vec Ideal S2x128 .f32 := V m c main_arg2

theorem q_at (t : Fin cfg0.N) (q : Fin 64) (o : Fin 1024) (b : Fin 8) (l : Fin 2304) (k : Fin 6144)
    (hb : b.val = t.val / 72) (hl : l.val = t.val % 36 * 64 + q.val) (hk : k.val = t.val / 36 % 2 * 1024 + o.val) :
    iblk m c 0 t (ix3 0 q o) = proj m c (ix3 b l k) := by
  refine congrArg (V m c main_arg0) (funext fun a => Fin.ext ?_)
  blk_simp [index0]
  change Fin 3 at a
  fin_cases a
  · show t.val / 72 * 1 + 0 = b.val; omega
  · show t.val % 36 * 64 + q.val = l.val; omega
  · show t.val / 36 % 2 * 1024 + o.val = k.val; omega

theorem k_at (t : Fin cfg0.N) (l : Fin 2304) (o : Fin 1024) (b : Fin 8) (k : Fin 6144)
    (hb : b.val = t.val / 72) (hk : k.val = 2048 + t.val / 36 % 2 * 1024 + o.val) :
    iblk m c 1 t (ix3 0 l o) = proj m c (ix3 b l k) := by
  refine congrArg (V m c main_arg0) (funext fun a => Fin.ext ?_)
  blk_simp [index1]
  change Fin 3 at a
  fin_cases a
  · show t.val / 72 * 1 + 0 = b.val; omega
  · show 0 * 2304 + l.val = l.val; omega
  · show (2 + t.val / 36 % 2) * 1024 + o.val = k.val; omega

theorem v_at (t : Fin cfg0.N) (l : Fin 2304) (o : Fin 1024) (b : Fin 8) (k : Fin 6144)
    (hb : b.val = t.val / 72) (hk : k.val = 4096 + t.val / 36 % 2 * 1024 + o.val) :
    iblk m c 2 t (ix3 0 l o) = proj m c (ix3 b l k) := by
  refine congrArg (V m c main_arg0) (funext fun a => Fin.ext ?_)
  blk_simp [index2]
  change Fin 3 at a
  fin_cases a
  · show t.val / 72 * 1 + 0 = b.val; omega
  · show 0 * 2304 + l.val = l.val; omega
  · show (4 + t.val / 36 % 2) * 1024 + o.val = k.val; omega

theorem t_at (t : Fin cfg0.N) (j : Fin 8) (w : Fin 8) (q : Fin 64) (n : Fin 512) (h : Fin 16)
    (hh : h.val = t.val / 36 % 2 * 8 + j.val) :
    iblk m c 3 t (ix4 j w q n) = table m c (ix4 h w q n) := by
  refine congrArg (V m c main_v13) (funext fun a => Fin.ext ?_)
  blk_simp [index3]
  change Fin 4 at a
  fin_cases a
  · show t.val / 36 % 2 * 8 + j.val = h.val; omega
  · show 0 * 8 + w.val = w.val; omega
  · show 0 * 64 + q.val = q.val; omega
  · show 0 * 512 + n.val = n.val; omega

theorem w_at (t : Fin cfg0.N) (s : Fin 2) (d : Fin 128) : iblk m c 4 t (ix2 s d) = nw m c (ix2 s d) := by
  refine congrArg (V m c main_arg2) (funext fun a => Fin.ext ?_)
  blk_simp [index4]
  change Fin 2 at a
  fin_cases a
  · show 0 * 2 + s.val = s.val; omega
  · show 0 * 128 + d.val = d.val; omega

/-- The column of a head's coordinate in the queries' part of the projection; -/
abbrev qCol (h : Fin 16) (d : Fin 128) : Fin 6144 := ⟨128 * h.val + d.val, by omega⟩
/-- in the keys' part; -/
abbrev kCol (h : Fin 16) (d : Fin 128) : Fin 6144 := ⟨2048 + 128 * h.val + d.val, by omega⟩
/-- in the values' part. -/
abbrev vCol (h : Fin 16) (d : Fin 128) : Fin 6144 := ⟨4096 + 128 * h.val + d.val, by omega⟩

/-- A normalised key, of the sequence. -/
def key (x : Vec Ideal S8x2304x6144 .bf16) (w : Vec Ideal S2x128 .f32) (b : Fin 8) (l : Fin 2304) (h : Fin 16) (d : Fin 128) : EReal :=
  nrm (fun e => x (ix3 b l (kCol h e))) (fun e => w (ix2 1 e)) d
/-- A normalised and scaled query, of the sequence. -/
def que (x : Vec Ideal S8x2304x6144 .bf16) (w : Vec Ideal S2x128 .f32) (b : Fin 8) (l : Fin 2304) (h : Fin 16) (d : Fin 128) : EReal :=
  qry (fun e => x (ix3 b l (qCol h e))) (fun e => w (ix2 0 e)) d

/-- A point's batch element. -/
abbrev bOf (t : Fin cfg0.N) : Fin 8 := ⟨t.val / 72, by have := t.isLt; have : cfg0.N = 576 := N_0; omega⟩
/-- A point's head, of the eight that it computes. -/
abbrev hOf (t : Fin cfg0.N) (j : Fin 8) : Fin 16 := ⟨t.val / 36 % 2 * 8 + j.val, by omega⟩
/-- The place in the sequence of a point's query. -/
abbrev lOf (t : Fin cfg0.N) (q : Fin 64) : Fin 2304 := ⟨t.val % 36 * 64 + q.val, by omega⟩

theorem keys_of (t : Fin cfg0.N) (j : Fin 8) (l : Fin 2304) (d : Fin 128) :
    keyBlock (iblk m c 1 t) (iblk m c 4 t) j (ix2 l d) = key (proj m c) (nw m c) (bOf t) l (hOf t j) d := by
  rw [keyBlock_at]
  unfold key
  congr 1 <;> funext e
  · exact k_at m c t l _ _ _ rfl (by show 2048 + 128 * (t.val / 36 % 2 * 8 + j.val) + e.val = _ + (128 * j.val + e.val); omega)
  · exact w_at m c t 1 e

theorem query_of (t : Fin cfg0.N) (j : Fin 8) (q : Fin 64) :
    query (iblk m c 0 t) (iblk m c 4 t) j q = que (proj m c) (nw m c) (bOf t) (lOf t q) (hOf t j) := by
  funext d
  unfold query que
  congr 1 <;> funext e
  · exact q_at m c t q _ _ _ _ rfl rfl (by show 128 * (t.val / 36 % 2 * 8 + j.val) + e.val = _ + (128 * j.val + e.val); omega)
  · exact w_at m c t 0 e

theorem vals_of (t : Fin cfg0.N) (j : Fin 8) (l : Fin 2304) (d : Fin 128) :
    iblk m c 2 t (ix3 0 l (col j d)) = proj m c (ix3 (bOf t) l (vCol (hOf t j) d)) :=
  v_at m c t l _ _ _ rfl (by show 4096 + 128 * (t.val / 36 % 2 * 8 + j.val) + d.val = _ + (128 * j.val + d.val); omega)

/-- THE SCRATCH after any point holds the normalised keys of the point's batch element and head group: the group's first
    point stores them and the later points leave them. -/
theorem scratch_at : ∀ (n : ℕ) (hn : n < cfg0.N) (j : Fin 8) (l : Fin 2304) (d : Fin 128),
    (outsAt0 m c n hn).2 (ix2 l (col j d)) = key (proj m c) (nw m c) (bOf ⟨n, hn⟩) l (hOf ⟨n, hn⟩ j) d := by
  intro n
  induction n with
  | zero =>
    intro hn j l d
    rw [outsAt0_A m c ⟨0, hn⟩ rfl (by show 0 % 36 ≤ 3; decide) (by show ¬ 4 ≤ 0 % 36; decide)]
    dsimp only
    rw [keys_at]
    exact keys_of m c ⟨0, hn⟩ j l d
  | succ n ih =>
    intro hn j l d
    have hN : cfg0.N = 576 := N_0
    by_cases h0 : (n + 1) % 36 = 0
    · rw [outsAt0_A m c ⟨n + 1, hn⟩ h0 (by show (n + 1) % 36 ≤ 3; omega) (by show ¬ 4 ≤ (n + 1) % 36; omega)]
      dsimp only
      rw [keys_at]
      exact keys_of m c ⟨n + 1, hn⟩ j l d
    · have hb : bOf ⟨n + 1, hn⟩ = bOf ⟨n, Nat.lt_of_succ_lt hn⟩ := Fin.ext (by show (n + 1) / 72 = n / 72; omega)
      have hh : hOf ⟨n + 1, hn⟩ j = hOf ⟨n, Nat.lt_of_succ_lt hn⟩ j :=
        Fin.ext (by show (n + 1) / 36 % 2 * 8 + _ = n / 36 % 2 * 8 + _; omega)
      rw [hb, hh, ← ih (Nat.lt_of_succ_lt hn) j l d]
      by_cases h1 : (n + 1) % 36 ≤ 3
      · rw [outsAt0_B m c ⟨n + 1, hn⟩ h0 h1 (by show ¬ 4 ≤ (n + 1) % 36; omega)]
        rfl
      · rw [outsAt0_C m c ⟨n + 1, hn⟩ h0 h1 (by show 4 ≤ (n + 1) % 36; omega)]
        rfl

end Natten.Launch
-- ==== Proof.Array.lean ====
module
/- What the result array holds after the launch, as one formula over the launch's operands. -/
public import proofs.«01_k».proof.Proof.Blocks
@[expose] public section
set_option maxRecDepth 16384
noncomputable section
namespace Natten.Launch
open Cert.KernelIdeal Cert.KernelIdeal.Gen Cert.KernelIdeal.Value Natten.Body
open Idealize.ShloMosaic Idealize.ShloMosaic.TcCoe Idealize.SL.Sem

theorem winStart_le (r : Nat) : winStart r ≤ 1792 := by unfold winStart; omega
theorem biasRow_lt (r : Nat) (h : r < 36) : biasRow r < 8 := by unfold biasRow; omega

/-- The score of a context key. -/
def ctxScore (x : Vec Ideal S8x2304x6144 .bf16) (w : Vec Ideal S2x128 .f32) (b : Fin 8) (l : Fin 2304) (h : Fin 16)
    (n : Fin 256) : EReal := dot (que x w b l h) (key x w b (ctxRow n) h)

/-- A context value. -/
def ctxVal (x : Vec Ideal S8x2304x6144 .bf16) (b : Fin 8) (h : Fin 16) (d : Fin 128) (n : Fin 256) : EReal :=
  x (ix3 b (ctxRow n) (vCol h d))

/-- A context query's result: attention over the context keys. -/
def contextOut (x : Vec Ideal S8x2304x6144 .bf16) (w : Vec Ideal S2x128 .f32) (b : Fin 8) (l : Fin 2304) (h : Fin 16)
    (d : Fin 128) : EReal :=
  attended (ι := Empty) Empty.elim (ctxScore x w b l h) Empty.elim (ctxVal x b h d)

/-- The place in the sequence of a key of the window's eight grid rows, for a grid query of row `r`. -/
abbrev slabRow (r : Nat) (n : Fin 512) : Fin 2304 := ⟨winStart r + n.val, by have := winStart_le r; omega⟩

/-- A grid query's result: attention over the eight grid rows with the table's biases, and the context keys. -/
def latentOut (x : Vec Ideal S8x2304x6144 .bf16) (T : Vec Ideal S16x8x64x512 .f32) (w : Vec Ideal S2x128 .f32)
    (b : Fin 8) (r : Fin 36) (q : Fin 64) (h : Fin 16) (d : Fin 128) : EReal :=
  attended
    (fun n : Fin 512 => dot (que x w b ⟨r.val * 64 + q.val, by omega⟩ h) (key x w b (slabRow r.val n) h)
      + T (ix4 h ⟨biasRow r.val, biasRow_lt r.val r.isLt⟩ q n))
    (ctxScore x w b ⟨r.val * 64 + q.val, by omega⟩ h)
    (fun n : Fin 512 => x (ix3 b (slabRow r.val n) (vCol h d))) (ctxVal x b h d)

/-- The whole result, by row of the grid: the first four rows of 64 are the context's. -/
def rowOut (x : Vec Ideal S8x2304x6144 .bf16) (T : Vec Ideal S16x8x64x512 .f32) (w : Vec Ideal S2x128 .f32)
    (b : Fin 8) (r : Fin 36) (q : Fin 64) (h : Fin 16) (d : Fin 128) : EReal :=
  if r.val < 4 then contextOut x w b ⟨r.val * 64 + q.val, by omega⟩ h d else latentOut x T w b r q h d

/-- The whole result, as an array. -/
def attention (x : Vec Ideal S8x2304x6144 .bf16) (T : Vec Ideal S16x8x64x512 .f32) (w : Vec Ideal S2x128 .f32) :
    Vec Ideal S8x2304x2048 .bf16 := fun y =>
  rowOut x T w (y 0) ⟨(y 1).val / 64, by have : (y 1).val < 2304 := (y 1).isLt; omega⟩ ⟨(y 1).val % 64, Nat.mod_lt _ (by norm_num)⟩
    ⟨(y 2).val / 128, by have : (y 2).val < 2048 := (y 2).isLt; omega⟩ ⟨(y 2).val % 128, Nat.mod_lt _ (by norm_num)⟩

variable (m : (ℓ : Loc nD τ sig) → Buf (Elt Ideal) ℓ) (c : Dev nD)

theorem slab_of (t : Fin cfg0.N) (n : Fin 512) : winRow (grid0.coords t) n = slabRow (t.val % 36) n := by
  have h := startAt_eq t
  refine Fin.ext ?_
  show startAt (grid0.coords t) + n.val = winStart (t.val % 36) + n.val
  rw [h]

theorem bias_of (t : Fin cfg0.N) (h4 : 4 ≤ t.val % 36) :
    (⟨biasAt (grid0.coords t), biasAt_lt (grid0.coords t)⟩ : Fin 8)
      = ⟨biasRow (t.val % 36), biasRow_lt _ (Nat.mod_lt _ (by norm_num))⟩ := by
  simp only [biasAt_eq t h4]

/-- A point of a row of context queries, over the normalised keys. -/
theorem context_of (t : Fin cfg0.N) (q : Fin 64) (j : Fin 8) (d : Fin 128) (xs0 : Vec Ideal S2304x1024 .bf16)
    (hx : ∀ l d, xs0 (ix2 l (col j d)) = key (proj m c) (nw m c) (bOf t) l (hOf t j) d) :
    contextBlock (iblk m c 0 t) (iblk m c 2 t) (iblk m c 4 t) xs0 j (ix3 0 q d)
      = contextOut (proj m c) (nw m c) (bOf t) (lOf t q) (hOf t j) d := by
  rw [contextBlock_at, query_of]
  unfold contextOut ctxScore ctxVal
  simp only [hx, vals_of]

/-- A point of a row of grid queries, over the normalised keys. -/
theorem latent_of (t : Fin cfg0.N) (h4 : 4 ≤ t.val % 36) (q : Fin 64) (j : Fin 8) (d : Fin 128) (xs0 : Vec Ideal S2304x1024 .bf16)
    (hx : ∀ l d, xs0 (ix2 l (col j d)) = key (proj m c) (nw m c) (bOf t) l (hOf t j) d) :
    latentBlock (grid0.coords t) (iblk m c 0 t) (iblk m c 2 t) (iblk m c 3 t) (iblk m c 4 t) xs0 j (ix3 0 q d)
      = latentOut (proj m c) (table m c) (nw m c) (bOf t) ⟨t.val % 36, Nat.mod_lt _ (by norm_num)⟩ q (hOf t j) d := by
  rw [latentBlock_at, query_of, bias_of t h4]
  unfold latentOut ctxScore ctxVal
  simp only [hx, vals_of, slab_of, fun w n => t_at m c t j w q n (hOf t j) rfl]

/-- The scratch before a point that is not its group's first holds the group's normalised keys. -/
theorem before_of (t : Fin cfg0.N) (h0 : ¬ t.val % 36 = 0) (hp : t.val - 1 < cfg0.N) (j : Fin 8) (l : Fin 2304) (d : Fin 128) :
    (outsAt0 m c (t.val - 1) hp).2 (ix2 l (col j d)) = key (proj m c) (nw m c) (bOf t) l (hOf t j) d := by
  have hb : bOf ⟨t.val - 1, hp⟩ = bOf t := Fin.ext (by show (t.val - 1) / 72 = t.val / 72; omega)
  have hh : hOf ⟨t.val - 1, hp⟩ j = hOf t j :=
    Fin.ext (by show (t.val - 1) / 36 % 2 * 8 + _ = t.val / 36 % 2 * 8 + _; omega)
  rw [scratch_at, hb, hh]

/-- What a point leaves in the result's block. -/
theorem block_at (t : Fin cfg0.N) (q : Fin 64) (j : Fin 8) (d : Fin 128) :
    (outsAt0 m c t.val t.isLt).1 (ix3 0 q (col j d))
      = rowOut (proj m c) (table m c) (nw m c) (bOf t) ⟨t.val % 36, Nat.mod_lt _ (by norm_num)⟩ q (hOf t j) d := by
  unfold rowOut
  by_cases h4 : t.val % 36 < 4
  · rw [if_pos h4]
    by_cases h0 : t.val % 36 = 0
    · rw [outsAt0_A m c t h0 (by omega) (by omega)]
      dsimp only
      rw [first_at]
      exact context_of m c t q j d _ fun l d => by rw [keys_at]; exact keys_of m c t j l d
    · rw [outsAt0_B m c t h0 (by omega) (by omega)]
      dsimp only
      rw [context_at]
      exact context_of m c t q j d _ fun l d => before_of m c t h0 _ j l d
  · rw [if_neg h4, outsAt0_C m c t (by omega) (by omega) (by omega)]
    dsimp only
    rw [latent_at]
    exact latent_of m c t (by omega) q j d _ fun l d => before_of m c t (by omega) _ j l d

/-- THE RESULT ARRAY after the launch. -/
theorem array_eq : (dats m 0 c).arrAt 5 cfg0.N = attention (proj m c) (table m c) (nw m c) := by
  have hN : cfg0.N = 576 := N_0
  refine (dats m 0 c).arrAt_eq_of_covers 5 _
    ((cfg0.win 5).covers_of_indexMap_surj rfl (by decide) fun β => ?_) fun t hf y => ?_
  · refine ⟨fun a => match a with | 0 => β 0 | 1 => β 2 | 2 => β 1, fun a => ?_⟩
    change Fin 3 at a
    have h0 : (β 0).val < 8 := (β 0).isLt
    have h1 : (β 1).val < 36 := (β 1).isLt
    have h2 : (β 2).val < 2 := (β 2).isLt
    fin_cases a
    · show (BitVec.ofNat 32 (β 0).val).toNat = _; rw [BitVec.toNat_ofNat]; exact Nat.mod_eq_of_lt (by omega)
    · show (BitVec.ofNat 32 (β 1).val).toNat = _; rw [BitVec.toNat_ofNat]; exact Nat.mod_eq_of_lt (by omega)
    · show (BitVec.ofNat 32 (β 2).val).toNat = _; rw [BitVec.toNat_ofNat]; exact Nat.mod_eq_of_lt (by omega)
  · have e0 : ((((win0_5.blk t).view.emb y) 0 : Fin _) : ℕ) = t.val / 72 := by
      blk_simp [index5]
    have e1 : ((((win0_5.blk t).view.emb y) 1 : Fin _) : ℕ) = t.val % 36 * 64 + (y 1).val := by
      blk_simp [index5]
    have e2 : ((((win0_5.blk t).view.emb y) 2 : Fin _) : ℕ) = t.val / 36 % 2 * 1024 + (y 2).val := by
      blk_simp [index5]
    have hy1 : (y 1).val < 64 := (y 1).isLt
    have hy2 : (y 2).val < 1024 := (y 2).isLt
    blk_simp
    rw [after0_5]
    have hy : (fun a => y a : S1x64x1024.Idx) = ix3 (0 : Fin 1) (⟨(y 1).val, hy1⟩ : Fin 64)
        (col ⟨(y 2).val / 128, by omega⟩ ⟨(y 2).val % 128, Nat.mod_lt _ (by norm_num)⟩) := by
      funext a
      fin_cases a
      · exact Subsingleton.elim (α := Fin 1) _ _
      · rfl
      · exact Fin.ext (by show (y 2).val = 128 * ((y 2).val / 128) + (y 2).val % 128; omega)
    refine (congrArg (outsAt0 m c t.val t.isLt).1 hy).trans ?_
    rw [block_at]
    unfold attention
    congr 1
    · exact Fin.ext e0.symm
    · exact Fin.ext (by dsimp only; rw [e1]; omega)
    · exact Fin.ext (by dsimp only; rw [e1]; omega)
    · exact Fin.ext (by dsimp only; rw [e2]; omega)
    · exact Fin.ext (by dsimp only; rw [e2]; omega)

end Natten.Launch
-- ==== Proof.ReadInputs.lean ====
module
/- The reference's inputs to attention, read at an index: queries, keys, values, each query's window of them, and the
   biases. -/
public import proofs.«01_k».proof.Proof.Stages
public import proofs.«01_k».proof.Proof.Array
public import Idealize.ShloMosaic.Lib.ValueIdxRank6
@[expose] public section
set_option maxRecDepth 16384
noncomputable section
namespace Natten.Ref
open Cert.ReferenceIdeal Natten.Launch Natten.Body
open Idealize.ShloMosaic Idealize.ShloMosaic.TcCoe

theorem heads_at (n : Nat) (hs : S8x2304x6144.Slices ![0, 0, n] S8x2304x2048) (x : Vec Ideal S8x2304x6144 .bf16)
    (b : Fin 8) (l : Fin 2304) (h : Fin 16) (d : Fin 128) (k : Fin 6144) (hk : k.val = n + (h.val * 128 + d.val)) :
    heads ![0, 0, n] hs x (ix4 b l h d) = x (ix3 b l k) := by
  unfold heads
  have hlt : h.val * 128 + d.val < 2048 := by omega
  rw [shapeCast_apply _ _ (ix4 b l h d) (ix3 b l ⟨h.val * 128 + d.val, hlt⟩) (by
    rw [Shape.rowMajor_val_three, Shape.rowMajor_val_four]; simp [ix3, ix4]; omega)]
  refine congrArg x (funext fun a => Fin.ext ?_)
  change Fin 3 at a
  fin_cases a
  · exact Nat.zero_add _
  · exact Nat.zero_add _
  · exact hk.symm

theorem weight_at (n : Fin 2) (hs : S2x128.Slices ![n.val, 0] S1x128) (w : FVec Ideal S2x128 .f32) (d : Fin 128) :
    weight ![n.val, 0] hs w (ix1 d) = w (ix2 n d) := by
  unfold weight
  rw [shapeCast_apply _ _ (ix1 d) (ix2 0 d) (by
    rw [Shape.rowMajor_val_two, Shape.rowMajor_val_one]; simp [ix1, ix2])]
  refine congrArg w (funext fun a => Fin.ext ?_)
  change Fin 2 at a
  fin_cases a
  · exact Nat.add_zero _
  · exact Nat.zero_add _

theorem normed_at (t : FVec Ideal S8x2304x16x128 .f32) (w : FVec Ideal S128 .f32) (b : Fin 8) (l : Fin 2304)
    (h : Fin 16) (d : Fin 128) :
    normed t w (ix4 b l h d) = nrm (fun e => t (ix4 b l h e)) (fun e => w (ix1 e)) d := by
  pointwise [normed]
  unfold nrm
  simp

theorem values_at (x : Vec Ideal S8x2304x6144 .bf16) (b : Fin 8) (l : Fin 2304) (h : Fin 16) (d : Fin 128) :
    values x (ix4 b l h d) = x (ix3 b l (vCol h d)) :=
  heads_at 4096 _ x b l h d _ (by show _ + _ + _ = _; omega)

theorem keys_at (x : Vec Ideal S8x2304x6144 .bf16) (w : FVec Ideal S2x128 .f32) (b : Fin 8) (l : Fin 2304) (h : Fin 16)
    (d : Fin 128) : keys x w (ix4 b l h d) = key x w b l h d := by
  unfold keys key
  rw [normed_at]
  have hw : ∀ e, weight ![1, 0] Gen.slices_S2x128_S1x128_1_0 w (ix1 e) = w (ix2 1 e) :=
    fun e => weight_at 1 Gen.slices_S2x128_S1x128_1_0 w e
  simp only [hw, fun e => heads_at 2048 Gen.slices_S8x2304x6144_S8x2304x2048_0_0_2048 x b l h e (kCol h e)
    (by show _ + _ + _ = _; omega)]

theorem queries_at (x : Vec Ideal S8x2304x6144 .bf16) (w : FVec Ideal S2x128 .f32) (b : Fin 8) (l : Fin 2304)
    (h : Fin 16) (d : Fin 128) : queries x w (ix4 b l h d) = que x w b l h d := by
  unfold queries que qry
  pointwise
  rw [normed_at]
  have hw : ∀ e, weight ![0, 0] Gen.slices_S2x128_S1x128_0_0 w (ix1 e) = w (ix2 0 e) :=
    fun e => weight_at 0 Gen.slices_S2x128_S1x128_0_0 w e
  simp only [hw,
    fun e => heads_at 0 Gen.slices_S8x2304x6144_S8x2304x2048_0_0_0 x b l h e (qCol h e) (by simp [qCol, Nat.mul_comm])]

theorem gridPart_at (t : FVec Ideal S8x2304x16x128 .f32) (b : Fin 8) (r : Fin 32) (q : Fin 64) (h : Fin 16) (d : Fin 128)
    (l : Fin 2304) (hl : l.val = 256 + (r.val * 64 + q.val)) :
    gridPart t (ix5 b r q h d) = t (ix4 b l h d) := by
  unfold gridPart
  have hlt : r.val * 64 + q.val < 2048 := by omega
  rw [shapeCast_apply _ _ (ix5 b r q h d) (ix4 b ⟨r.val * 64 + q.val, hlt⟩ h d) (by
    rw [Shape.rowMajor_val_four, Shape.rowMajor_val_five]; simp [ix4, ix5]; omega)]
  refine congrArg t (funext fun a => Fin.ext ?_)
  change Fin 4 at a
  fin_cases a
  · exact Nat.zero_add _
  · exact hl.symm
  · exact Nat.zero_add _
  · exact Nat.zero_add _

theorem contextPart_at (t : FVec Ideal S8x2304x16x128 .f32) (b : Fin 8) (n : Fin 256) (h : Fin 16) (d : Fin 128) :
    contextPart t (ix4 b n h d) = t (ix4 b (ctxRow n) h d) := by
  unfold contextPart
  refine congrArg t (funext fun a => Fin.ext ?_)
  change Fin 4 at a
  fin_cases a <;> exact Nat.zero_add _

theorem lit0_eq : ∀ r : Fin 32, ∀ w : Fin 8, (lit0 (S32x8.rowMajor (ix2 r w))).toInt.toNat = min 24 (r.val - 4) + w.val := by
  decide +kernel
theorem lit1_eq : ∀ q : Fin 64, ∀ j : Fin 16, (lit1 (S64x16.rowMajor (ix2 q j))).toInt.toNat = min 48 (q.val - 8) + j.val := by
  decide +kernel
theorem lit2_eq : ∀ r : Fin 32, ∀ w : Fin 8,
    (lit2 (S32x8.rowMajor (ix2 r w))).toInt.toNat = min 24 (r.val - 4) + w.val + 7 - r.val := by decide +kernel
theorem lit3_eq : ∀ q : Fin 64, ∀ j : Fin 16,
    (lit3 (S64x16.rowMajor (ix2 q j))).toInt.toNat = min 48 (q.val - 8) + j.val + 15 - q.val := by decide +kernel

theorem rowTable_at (n : BitVec 32) (l : Fin 256 → BitVec 32) (r : Fin 32) (w : Fin 8) :
    rowTable n l (ix3 r w 0) = l (S32x8.rowMajor (ix2 r w)) := by
  pointwise [rowTable]
theorem colTable_at (n : BitVec 32) (l : Fin 1024 → BitVec 32) (q : Fin 64) (j : Fin 16) :
    colTable n l (ix3 q j 0) = l (S64x16.rowMajor (ix2 q j)) := by
  pointwise [colTable]

theorem gridRows_at (t : FVec Ideal S8x32x64x16x128 .f32) (idx : IVec S32x8x1 32) (b : Fin 8) (r : Fin 32) (w : Fin 8)
    (q : Fin 64) (h : Fin 16) (d : Fin 128) (k : Fin 32) (hk : (idx (ix3 r w 0)).toInt.toNat = k.val) :
    Host.gather gather_S8x32x64x16x128_S32x8x1_S8x32x8x64x16x128_0345_1_n_n_1_2_816416128 t idx (ix6 b r w q h d)
      = t (ix5 b k q h d) := by
  refine Take.gather_at _ t idx _ _ fun a => ?_
  change Fin 5 at a
  fin_cases a
  · exact Nat.zero_add b.val
  · refine (congrArg (· + 0 + 0) (Take.start_at _ idx _ 1 (by decide) (ix3 r w 0) fun b => ?_)).trans ?_
    · change Fin 3 at b
      fin_cases b <;> rfl
    · rw [hk]; exact Nat.min_eq_left (Nat.le_of_lt_succ k.isLt)
  · exact Nat.zero_add q.val
  · exact Nat.zero_add h.val
  · exact Nat.zero_add d.val

theorem gridCols_at (t : FVec Ideal S8x32x8x64x16x128 .f32) (idx : IVec S64x16x1 32) (b : Fin 8) (r : Fin 32) (w : Fin 8)
    (q : Fin 64) (j : Fin 16) (h : Fin 16) (d : Fin 128) (k : Fin 64) (hk : (idx (ix3 q j 0)).toInt.toNat = k.val) :
    Host.gather gather_S8x32x8x64x16x128_S64x16x1_S8x32x8x64x16x16x128_01256_3_n_n_3_2_8328116128 t idx
      (ix7 b r w q j h d) = t (ix6 b r w k h d) := by
  refine Take.gather_at _ t idx _ _ fun a => ?_
  change Fin 6 at a
  fin_cases a
  · exact Nat.zero_add b.val
  · exact Nat.zero_add r.val
  · exact Nat.zero_add w.val
  · refine (congrArg (· + 0 + 0) (Take.start_at _ idx _ 3 (by decide) (ix3 q j 0) fun b => ?_)).trans ?_
    · change Fin 3 at b
      fin_cases b <;> rfl
    · rw [hk]; exact Nat.min_eq_left (Nat.le_of_lt_succ k.isLt)
  · exact Nat.zero_add h.val
  · exact Nat.zero_add d.val

theorem biasRows_at (x : FVec Ideal S16x15x31 .f32) (idx : IVec S32x8x1 32) (h : Fin 16) (r : Fin 32) (w : Fin 8)
    (o : Fin 31) (k : Fin 15) (hk : (idx (ix3 r w 0)).toInt.toNat = k.val) :
    Host.gather gather_S16x15x31_S32x8x1_S16x32x8x31_03_1_n_n_1_2_16131 x idx (ix4 h r w o) = x (ix3 h k o) := by
  refine Take.gather_at _ x idx _ _ fun a => ?_
  change Fin 3 at a
  fin_cases a
  · exact Nat.zero_add h.val
  · refine (congrArg (· + 0 + 0) (Take.start_at _ idx _ 1 (by decide) (ix3 r w 0) fun b => ?_)).trans ?_
    · change Fin 3 at b
      fin_cases b <;> rfl
    · rw [hk]; exact Nat.min_eq_left (Nat.le_of_lt_succ k.isLt)
  · exact Nat.zero_add o.val

theorem biasCols_at (x : FVec Ideal S16x32x8x31 .f32) (idx : IVec S64x16x1 32) (h : Fin 16) (r : Fin 32) (w : Fin 8)
    (q : Fin 64) (j : Fin 16) (k : Fin 31) (hk : (idx (ix3 q j 0)).toInt.toNat = k.val) :
    Host.gather gather_S16x32x8x31_S64x16x1_S16x32x8x64x16_012_3_n_n_3_2_163281 x idx (ix5 h r w q j)
      = x (ix4 h r w k) := by
  refine Take.gather_at _ x idx _ _ fun a => ?_
  change Fin 4 at a
  fin_cases a
  · exact Nat.zero_add h.val
  · exact Nat.zero_add r.val
  · exact Nat.zero_add w.val
  · refine (congrArg (· + 0 + 0) (Take.start_at _ idx _ 3 (by decide) (ix3 q j 0) fun b => ?_)).trans ?_
    · change Fin 3 at b
      fin_cases b <;> rfl
    · rw [hk]; exact Nat.min_eq_left (Nat.le_of_lt_succ k.isLt)

/-- The grid row of row `w` of the window of a query in row `r`. -/
def winRowOf (r : Fin 32) (w : Fin 8) : Fin 32 := ⟨min 24 (r.val - 4) + w.val, by omega⟩
/-- The grid column of column `j` of the window of a query in column `q`. -/
def winColOf (q : Fin 64) (j : Fin 16) : Fin 64 := ⟨min 48 (q.val - 8) + j.val, by omega⟩

/-- The window holds the rows of the grid the clamped window names. -/
theorem windows_at (t : FVec Ideal S8x32x64x16x128 .f32) (b : Fin 8) (r : Fin 32) (w : Fin 8) (q : Fin 64) (j : Fin 16)
    (h : Fin 16) (d : Fin 128) :
    windows t (ix7 b r w q j h d) = t (ix5 b (winRowOf r w) (winColOf q j) h d) := by
  unfold windows
  rw [gridCols_at _ _ b r w q j h d (winColOf q j) (by rw [colTable_at, lit1_eq]; rfl),
    gridRows_at _ _ b r w (winColOf q j) h d (winRowOf r w) (by rw [rowTable_at, lit0_eq]; rfl)]

/-- The bias of a place of the window, by its offset from the query. -/
theorem biases_at (x : FVec Ideal S16x15x31 .f32) (h : Fin 16) (r : Fin 32) (q : Fin 64) (w : Fin 8) (j : Fin 16)
    (k : Fin 15) (hk : k.val = (winRowOf r w).val + 7 - r.val) (o : Fin 31) (ho : o.val = (winColOf q j).val + 15 - q.val) :
    biases x (ix5 h r q w j) = x (ix3 h k o) := by
  unfold biases
  pointwise
  rw [biasCols_at _ _ h r w q j o (by rw [colTable_at, lit3_eq, ho]; rfl),
    biasRows_at _ _ h r w o k (by rw [rowTable_at, lit2_eq, hk]; rfl)]

end Natten.Ref
-- ==== Proof.ReadScores.lean ====
module
/- The reference's scores, softmax and weighted sums, read at an index. -/
public import proofs.«01_k».proof.Proof.ReadInputs
@[expose] public section
set_option maxRecDepth 16384
noncomputable section
namespace Natten.Ref
open Cert.ReferenceIdeal Cert.ReferenceIdeal.Value Natten.Launch Natten.Body
open Idealize.ShloMosaic Idealize.ShloMosaic.TcCoe

/-- The place of a window's key in a row of scores. -/
def nearAt (i : Fin 8 × Fin 16) : Fin 384 := ⟨i.1.val * 16 + i.2.val, by have := i.1.isLt; have := i.2.isLt; omega⟩
/-- The place of a context key in a row of scores. -/
def farAt (n : Fin 256) : Fin 384 := ⟨128 + n.val, by omega⟩

/-- A row of scores is the window's keys, then the context's. -/
def places : (Fin 8 × Fin 16) ⊕ Fin 256 ≃ Fin 384 :=
  (Equiv.sumCongr finProdFinEquiv (Equiv.refl (Fin 256))).trans (finSumFinEquiv (m := 128) (n := 256))

theorem places_inl (i : Fin 8 × Fin 16) : places (Sum.inl i) = nearAt i := by
  refine Fin.ext ?_
  show i.2.val + 16 * i.1.val = i.1.val * 16 + i.2.val
  omega
theorem places_inr (n : Fin 256) : places (Sum.inr n) = farAt n := Fin.ext rfl

theorem sum_places (f : Fin 384 → EReal) : ∑ n, f n = (∑ i, f (nearAt i)) + ∑ n, f (farAt n) := by
  rw [← Equiv.sum_comp places f, Fintype.sum_sum_type]
  simp only [places_inl, places_inr]

theorem sup_places (f : Fin 384 → EReal) :
    Finset.univ.sup f = peak (fun i => f (nearAt i)) (fun n => f (farAt n)) := by
  unfold peak
  rw [Finset.sup_univ_eq_iSup, Finset.sup_univ_eq_iSup, Finset.sup_univ_eq_iSup, ← Equiv.iSup_comp places, iSup_sum]
  simp only [places_inl, places_inr]

theorem nearScores_at (q : FVec Ideal S8x32x64x16x128 .f32) (k : FVec Ideal S8x32x8x64x16x16x128 .f32)
    (u : FVec Ideal S16x32x64x8x16 .f32) (b : Fin 8) (h : Fin 16) (r : Fin 32) (c : Fin 64) (w : Fin 8) (j : Fin 16) :
    nearScores q k u (ix6 b h r c w j)
      = dot (fun d => q (ix5 b r c h d)) (fun d => k (ix7 b r w c j h d)) + u (ix5 h r c w j) := by
  pointwise [nearScores]
  rfl

theorem farScores_at (q : FVec Ideal S8x32x64x16x128 .f32) (k : FVec Ideal S8x256x16x128 .f32)
    (b : Fin 8) (h : Fin 16) (r : Fin 32) (c : Fin 64) (n : Fin 256) :
    farScores q k (ix5 b h r c n) = dot (fun d => q (ix5 b r c h d)) (fun d => k (ix4 b n h d)) := by
  pointwise [farScores]
  rfl

/-- The host's maximum over one axis, from minus infinity, is the supremum over that axis. -/
theorem hostMax_at {s t : Shape} {a : Fin s.rank} (x : FVec Ideal s .f32) (h : s.ReducesTo [a] t) (ht : 0 < t.rank)
    (hb : S_.BroadcastsInDim t ![]) (j : t.Idx) (n : Nat) (hn : s.size a = n) (f : Fin n → s.Idx)
    (hf : ∀ k : Fin n, Shape.Reduces.lift ⟨h.1, ht, h.2⟩ j (k.cast hn.symm) = f k) :
    maximumf (broadcastInDim t ![] hb (constant (F := Ideal) S_ .f32 0xFF800000#32))
      (Host.reduce FloatOps.maximumf x (constant (F := Ideal) S_ .f32 0xFF800000#32) h Gen.h_S_) j
      = Finset.univ.sup (fun k => x (f k)) := by
  subst hn
  show max (Ideal.ofBits .f32 0xFF800000#32) (Host.reduce FloatOps.maximumf x _ h Gen.h_S_ j) = _
  rw [Host.reduce_eq_fold_single FloatOps.maximumf x _ h ⟨h.1, ht, h.2⟩ Gen.h_S_]
  show max _ (Finset.fold max (Ideal.ofBits .f32 0xFF800000#32) _ Finset.univ) = _
  rw [bits_bot, max_eq_right bot_le]
  exact congrArg (Finset.sup Finset.univ) (funext fun k => congrArg x (hf k))

theorem topIdx (b : Fin 8) (h : Fin 16) (r : Fin 32) (c : Fin 64) (hr : S8x16x32x64x384.Reduces [4] S8x16x32x64) (k : Fin 384) :
    hr.lift (ix4 b h r c) k = ix5 b h r c k := by
  funext a
  change Fin 5 at a
  refine Fin.ext ?_
  fin_cases a <;> rfl

theorem top_at (s : FVec Ideal S8x16x32x64x384 .f32) (b : Fin 8) (h : Fin 16) (r : Fin 32) (c : Fin 64) :
    top s (ix4 b h r c) = Finset.univ.sup (fun n => s (ix5 b h r c n)) := by
  unfold top
  rw [hostMax_at s Gen.reducesTo_S8x16x32x64x384_S8x16x32x64_d4 (Nat.succ_pos _) Gen.bcast_S_S8x16x32x64 (ix4 b h r c) 384 rfl
    (fun k => ix5 b h r c k) (topIdx b h r c _)]

theorem scores_near (s : FVec Ideal S8x16x32x64x8x16 .f32) (z : FVec Ideal S8x16x32x64x256 .f32)
    (b : Fin 8) (h : Fin 16) (r : Fin 32) (c : Fin 64) (i : Fin 8 × Fin 16) :
    scores s z (ix5 b h r c (nearAt i)) = s (ix6 b h r c i.1 i.2) := by
  unfold scores fn_main_v90 nearAt
  pointwise
  rw [dif_pos (by have := i.1.isLt; have := i.2.isLt; omega)]

theorem scores_far (s : FVec Ideal S8x16x32x64x8x16 .f32) (z : FVec Ideal S8x16x32x64x256 .f32)
    (b : Fin 8) (h : Fin 16) (r : Fin 32) (c : Fin 64) (n : Fin 256) :
    scores s z (ix5 b h r c (farAt n)) = z (ix5 b h r c n) := by
  unfold scores fn_main_v90 farAt
  pointwise

theorem exps_at (s : FVec Ideal S8x16x32x64x384 .f32) (b : Fin 8) (h : Fin 16) (r : Fin 32) (c : Fin 64) (n : Fin 384) :
    exps s (ix5 b h r c n) = Ideal.exp (s (ix5 b h r c n) - top s (ix4 b h r c)) := by
  pointwise [exps]

theorem probs_at (s : FVec Ideal S8x16x32x64x384 .f32) (b : Fin 8) (h : Fin 16) (r : Fin 32) (c : Fin 64) (n : Fin 384) :
    probs s (ix5 b h r c n) = Ideal.div (exps s (ix5 b h r c n)) (∑ k, exps s (ix5 b h r c k)) := by
  pointwise [probs]

theorem nearOut_at (p : FVec Ideal S8x16x32x64x384 .f32) (v : FVec Ideal S8x32x8x64x16x16x128 .f32)
    (b : Fin 8) (h : Fin 16) (r : Fin 32) (c : Fin 64) (d : Fin 128) :
    nearOut p v (ix5 b r c h d) = ∑ i : Fin 8 × Fin 16, p (ix5 b h r c (nearAt i)) * v (ix7 b r i.1 c i.2 h d) := by
  unfold nearOut
  pointwise
  rw [Finset.sum_comm, Fintype.sum_prod_type]
  rfl

theorem farOut_at (p : FVec Ideal S8x16x32x64x384 .f32) (v : FVec Ideal S8x256x16x128 .f32)
    (b : Fin 8) (h : Fin 16) (r : Fin 32) (c : Fin 64) (d : Fin 128) :
    farOut p v (ix5 b r c h d) = ∑ n, p (ix5 b h r c (farAt n)) * v (ix4 b n h d) := by
  pointwise [farOut]
  exact Finset.sum_congr rfl fun n _ => mul_comm _ _

theorem ownScores_at (x : Vec Ideal S8x2304x6144 .bf16) (w : FVec Ideal S2x128 .f32) (b : Fin 8) (h : Fin 16)
    (l n : Fin 256) :
    ownScores x w (ix4 b h l n) = dot (que x w b (ctxRow l) h) (key x w b (ctxRow n) h) := by
  pointwise [ownScores]
  simp only [contextPart_at, queries_at, keys_at]
  rfl

theorem ownTopIdx (b : Fin 8) (h : Fin 16) (l : Fin 256) (hr : S8x16x256x256.Reduces [3] S8x16x256) (k : Fin 256) :
    hr.lift (ix3 b h l) k = ix4 b h l k := by
  funext a
  change Fin 4 at a
  refine Fin.ext ?_
  fin_cases a <;> rfl

theorem ownTop_at (s : FVec Ideal S8x16x256x256 .f32) (b : Fin 8) (h : Fin 16) (l : Fin 256) :
    ownTop s (ix3 b h l) = Finset.univ.sup (fun n => s (ix4 b h l n)) := by
  unfold ownTop
  rw [hostMax_at s Gen.reducesTo_S8x16x256x256_S8x16x256_d3 (Nat.succ_pos _) Gen.bcast_S_S8x16x256 (ix3 b h l) 256 rfl
    (fun k => ix4 b h l k) (ownTopIdx b h l _)]

theorem ownExps_at (s : FVec Ideal S8x16x256x256 .f32) (b : Fin 8) (h : Fin 16) (l n : Fin 256) :
    ownExps s (ix4 b h l n) = Ideal.exp (s (ix4 b h l n) - ownTop s (ix3 b h l)) := by
  pointwise [ownExps]

theorem ownProbs_at (s : FVec Ideal S8x16x256x256 .f32) (b : Fin 8) (h : Fin 16) (l n : Fin 256) :
    ownProbs s (ix4 b h l n) = Ideal.div (ownExps s (ix4 b h l n)) (∑ k, ownExps s (ix4 b h l k)) := by
  pointwise [ownProbs]

theorem ownOut_at (x : Vec Ideal S8x2304x6144 .bf16) (w : FVec Ideal S2x128 .f32) (b : Fin 8) (h : Fin 16)
    (l : Fin 256) (d : Fin 128) :
    ownOut x w (ix4 b l h d) = ∑ n, ownProbs (ownScores x w) (ix4 b h l n) * ctxVal x b h d n := by
  pointwise [ownOut]
  simp only [contextPart_at, values_at]
  exact Finset.sum_congr rfl fun n _ => mul_comm _ _

end Natten.Ref
-- ==== Proof.Table.lean ====
module
/- The bias table the kernel's host builds: for each head, each clamped row and each query column, the bias of every key
   column inside the window of sixteen, and minus infinity outside it. -/
public import proofs.«01_k».proof.Proof.Blocks
public import proofs.«01_k».proof.Proof.Take
@[expose] public section
set_option maxRecDepth 16384
noncomputable section
namespace Natten.Launch
open Cert.KernelIdeal Cert.KernelIdeal.Gen Cert.KernelIdeal.Value Natten.Body
open Idealize.ShloMosaic Idealize.ShloMosaic.TcCoe Idealize.SL.Sem
variable (m : (ℓ : Loc nD τ sig) → Buf (Elt Ideal) ℓ) (c : Dev nD)

/-- The rows of the biases the table gathers, by clamped row and row of the window. -/
def rowTable : IVec S8x8x1 32 :=
  broadcastInDim S8x8x1 ![0, 1] bcast_S8x8_S8x8x1_0_1 (select (constantI S8x8 1 0#1)
    (addi (fun i => lit0 (S8x8.rowMajor i)) (broadcastInDim S8x8 ![] bcast_S_S8x8 (constantI S_ 32 15#32)))
    (fun i => lit0 (S8x8.rowMajor i)))
/-- The columns of the biases the table gathers, by query column and key column. -/
def colTable : IVec S64x64x1 32 :=
  broadcastInDim S64x64x1 ![0, 1] bcast_S64x64_S64x64x1_0_1 (select (constantI S64x64 1 0#1)
    (addi (fun i => lit1 (S64x64.rowMajor i)) (broadcastInDim S64x64 ![] bcast_S_S64x64 (constantI S_ 32 31#32)))
    (fun i => lit1 (S64x64.rowMajor i)))
/-- The gathered biases. -/
def biases (x : Vec Ideal S16x15x31 .f32) : Vec Ideal S16x8x8x64x64 .f32 :=
  Host.gather gather_S16x8x8x31_S64x64x1_S16x8x8x64x64_012_3_n_n_3_2_16881
    (Host.gather gather_S16x15x31_S8x8x1_S16x8x8x31_03_1_n_n_1_2_16131 x rowTable) colTable
/-- The gathered biases, with minus infinity outside the window. -/
def masked (x : Vec Ideal S16x15x31 .f32) : Vec Ideal S16x8x8x64x64 .f32 :=
  select (broadcastInDim S16x8x8x64x64 ![0, 1, 2, 3, 4] bcast_S1x1x1x64x64_S16x8x8x64x64_0_1_2_3_4
      (broadcastInDim S1x1x1x64x64 ![3, 4] bcast_S64x64_S1x1x1x64x64_3_4 (fun i => lit2 (S64x64.rowMajor i))))
    (biases x) (broadcastInDim S16x8x8x64x64 ![] bcast_S_S16x8x8x64x64 (constant (F := Ideal) S_ .f32 0xFF800000#32))
/-- The bias table, in the layout the launch reads. -/
def tableOf (x : Vec Ideal S16x15x31 .f32) : Vec Ideal S16x8x64x512 .f32 :=
  shapeCast S16x8x64x512 (transpose S16x8x64x8x64 [0, 1, 3, 2, 4] (masked x) transposes_S16x8x8x64x64_S16x8x64x8x64_0_1_3_2_4)
   shapeCasts_S16x8x64x8x64_S16x8x64x512

/-- The launch's table is the one built from the biases. -/
theorem table_eq : table m c = tableOf (m ((c : Thread nD τ).loc main_arg1)) := by
  unfold tableOf masked biases rowTable colTable
  unfold_abbrev_sides
  simp only [hostOps0, hostOps0_1, hostOps0_2, List.flatten_cons, List.flatten_nil, List.cons_append, List.nil_append,
    List.append_nil]
  after_results
  rfl

/-- The gather of rows, read at an index. -/
theorem rows_at (x : Vec Ideal S16x15x31 .f32) (idx : IVec S8x8x1 32) (h : Fin 16) (r w : Fin 8) (o : Fin 31)
    (k : Fin 15) (hk : (idx (ix3 r w 0)).toInt.toNat = k.val) :
    Host.gather gather_S16x15x31_S8x8x1_S16x8x8x31_03_1_n_n_1_2_16131 x idx (ix4 h r w o) = x (ix3 h k o) := by
  refine Take.gather_at _ x idx _ _ fun a => ?_
  change Fin 3 at a
  fin_cases a
  · exact Nat.zero_add h.val
  · refine (congrArg (· + 0 + 0) (Take.start_at _ idx _ 1 (by decide) (ix3 r w 0) fun b => ?_)).trans ?_
    · change Fin 3 at b
      fin_cases b <;> rfl
    · rw [hk]; exact Nat.min_eq_left (Nat.le_of_lt_succ k.isLt)
  · exact Nat.zero_add o.val

/-- The gather of columns, read at an index. -/
theorem cols_at (x : Vec Ideal S16x8x8x31 .f32) (idx : IVec S64x64x1 32) (h : Fin 16) (r w : Fin 8) (q j : Fin 64)
    (k : Fin 31) (hk : (idx (ix3 q j 0)).toInt.toNat = k.val) :
    Host.gather gather_S16x8x8x31_S64x64x1_S16x8x8x64x64_012_3_n_n_3_2_16881 x idx (ix5 h r w q j) = x (ix4 h r w k) := by
  refine Take.gather_at _ x idx _ _ fun a => ?_
  change Fin 4 at a
  fin_cases a
  · exact Nat.zero_add h.val
  · exact Nat.zero_add r.val
  · exact Nat.zero_add w.val
  · refine (congrArg (· + 0 + 0) (Take.start_at _ idx _ 3 (by decide) (ix3 q j 0) fun b => ?_)).trans ?_
    · change Fin 3 at b
      fin_cases b <;> rfl
    · rw [hk]; exact Nat.min_eq_left (Nat.le_of_lt_succ k.isLt)

/-- The rows gathered are the literal table. -/
theorem rowTable_at (r w : Fin 8) : rowTable (ix3 r w 0) = lit0 (S8x8.rowMajor (ix2 r w)) := by
  pointwise [rowTable]
/-- The columns gathered are the literal table. -/
theorem colTable_at (r w : Fin 64) : colTable (ix3 r w 0) = lit1 (S64x64.rowMajor (ix2 r w)) := by
  pointwise [colTable]

/-- The table's entry for a query column `q` and the key at place `j` of row `w`: the bias, or the mask. -/
theorem tableOf_at (x : Vec Ideal S16x15x31 .f32) (h : Fin 16) (r w : Fin 8) (q j : Fin 64) (n : Fin 512)
    (hn : n.val = w.val * 64 + j.val) :
    tableOf x (ix4 h r q n) = Scalar.select (lit2 (S64x64.rowMajor (ix2 q j))) (biases x (ix5 h r w q j)) (⊥ : EReal) := by
  unfold tableOf masked
  rw [shapeCast_apply _ _ (ix4 h r q n) (ix5 h r q w j) (by
    rw [Shape.rowMajor_val_five, Shape.rowMajor_val_four]; show _ = _; simp [ix4, ix5]; omega)]
  pointwise
  rw [← bits_bot]

theorem lit0_eq : ∀ r w : Fin 8, (lit0 (S8x8.rowMajor (ix2 r w))).toInt.toNat = r.val + w.val := by decide +kernel
theorem lit1_eq : ∀ q j : Fin 64, (lit1 (S64x64.rowMajor (ix2 q j))).toInt.toNat = min 30 (j.val + 15 - q.val) := by
  decide +kernel
theorem lit2_eq : ∀ q j : Fin 64, (lit2 (S64x64.rowMajor (ix2 q j))) =
    if min 48 (q.val - 8) ≤ j.val ∧ j.val < min 48 (q.val - 8) + 16 then 1#1 else 0#1 := by decide +kernel

/-- Outside the window of sixteen columns the table holds the mask. -/
theorem tableOf_outside (x : Vec Ideal S16x15x31 .f32) (h : Fin 16) (r w : Fin 8) (q j : Fin 64) (n : Fin 512)
    (hn : n.val = w.val * 64 + j.val) (hj : ¬(min 48 (q.val - 8) ≤ j.val ∧ j.val < min 48 (q.val - 8) + 16)) :
    tableOf x (ix4 h r q n) = (⊥ : EReal) := by
  rw [tableOf_at x h r w q j n hn, lit2_eq, if_neg hj]
  rfl

/-- Inside it the table holds the bias of the offset from the query to the key. -/
theorem tableOf_inside (x : Vec Ideal S16x15x31 .f32) (h : Fin 16) (r w : Fin 8) (q j : Fin 64) (n : Fin 512)
    (hn : n.val = w.val * 64 + j.val) (hj : min 48 (q.val - 8) ≤ j.val ∧ j.val < min 48 (q.val - 8) + 16)
    (k : Fin 15) (hk : k.val = r.val + w.val) (o : Fin 31) (ho : o.val = j.val + 15 - q.val) :
    tableOf x (ix4 h r q n) = x (ix3 h k o) := by
  rw [tableOf_at x h r w q j n hn, lit2_eq, if_pos hj]
  show biases x (ix5 h r w q j) = _
  unfold biases
  rw [cols_at _ _ h r w q j o (by rw [colTable_at, lit1_eq]; omega),
    rows_at _ _ h r w o k (by rw [rowTable_at, lit0_eq]; omega)]

end Natten.Launch
-- ==== Proof.Equation.lean ====
module
/- The two results are equal where the biases and the norm weights are real numbers: the kernel's masked row of 512 keys
   attends as the reference's window of 128, and dividing once at the end is dividing each weight. -/
public import proofs.«01_k».proof.Proof.ReadScores
public import proofs.«01_k».proof.Proof.Table
@[expose] public section
set_option maxRecDepth 16384
noncomputable section
namespace Natten.Ref
open Cert.ReferenceIdeal Natten.Launch Natten.Body
open Idealize.ShloMosaic Idealize.ShloMosaic.TcCoe

variable (x : Vec Ideal S8x2304x6144 .bf16) (u : Vec Ideal S16x15x31 .f32) (w : Vec Ideal S2x128 .f32)

/-- Every key is a row of real numbers. -/
theorem isReal_key (hw : ∀ i, IsReal (w i)) (b : Fin 8) (l : Fin 2304) (h : Fin 16) (d : Fin 128) :
    IsReal (key x w b l h d) := isReal_nrm _ _ _ (hw _)

/-- Every query is a row of real numbers. -/
theorem isReal_que (hw : ∀ i, IsReal (w i)) (b : Fin 8) (l : Fin 2304) (h : Fin 16) (d : Fin 128) :
    IsReal (que x w b l h d) := isReal_qry _ _ _ (hw _)

/-- Every score of a context key is a real number. -/
theorem isReal_ctxScore (hw : ∀ i, IsReal (w i)) (b : Fin 8) (l : Fin 2304) (h : Fin 16) (n : Fin 256) :
    IsReal (ctxScore x w b l h n) := isReal_dot _ _ (isReal_que x w hw b l h) (isReal_key x w hw b _ h)

/-- The context's rows agree. -/
theorem context_eq (hw : ∀ i, IsReal (w i)) (b : Fin 8) (l : Fin 256) (h : Fin 16) (d : Fin 128) :
    contextOut x w b (ctxRow l) h d = ownOut x w (ix4 b l h d) := by
  unfold contextOut
  rw [attended_eq_normalised (ι := Empty) _ _ _ _ (fun i => i.elim) (isReal_ctxScore x w hw b (ctxRow l) h), ownOut_at]
  simp only [ownProbs_at, ownExps_at, ownTop_at, ownScores_at]
  unfold mass peak
  simp only [Finset.univ_eq_empty, Finset.sum_empty, Finset.sup_empty, zero_add, bot_sup_eq]
  rfl

/-- The place in the sequence of a grid query. -/
def place (g : Fin 32) (q : Fin 64) : Fin 2304 := ⟨256 + (g.val * 64 + q.val), by omega⟩
/-- The place in the sequence of a key of a grid query's window. -/
def nearKey (g : Fin 32) (q : Fin 64) (i : Fin 8 × Fin 16) : Fin 2304 := place (winRowOf g i.1) (winColOf q i.2)
/-- The bias of a key of a grid query's window. -/
def nearBias (h : Fin 16) (g : Fin 32) (q : Fin 64) (i : Fin 8 × Fin 16) : EReal :=
  u (ix3 h ⟨(winRowOf g i.1).val + 7 - g.val, by show min 24 (g.val - 4) + i.1.val + 7 - g.val < 15; omega⟩
    ⟨(winColOf q i.2).val + 15 - q.val, by show min 48 (q.val - 8) + i.2.val + 15 - q.val < 31; omega⟩)
/-- The score of a key of a grid query's window. -/
def nearScore (b : Fin 8) (h : Fin 16) (g : Fin 32) (q : Fin 64) (i : Fin 8 × Fin 16) : EReal :=
  dot (que x w b (place g q) h) (key x w b (nearKey g q i) h) + nearBias u h g q i

/-- The score row's first part is the window's scores. -/
theorem gridScores_near (b : Fin 8) (h : Fin 16) (g : Fin 32) (q : Fin 64) (i : Fin 8 × Fin 16) :
    gridScores x u w (ix5 b h g q (nearAt i)) = nearScore x u w b h g q i := by
  unfold gridScores nearScore nearBias nearKey
  rw [scores_near, nearScores_at, biases_at u h g q i.1 i.2
    ⟨(winRowOf g i.1).val + 7 - g.val, by show min 24 (g.val - 4) + i.1.val + 7 - g.val < 15; omega⟩ rfl
    ⟨(winColOf q i.2).val + 15 - q.val, by show min 48 (q.val - 8) + i.2.val + 15 - q.val < 31; omega⟩ rfl]
  simp only [windows_at, fun e => gridPart_at (queries x w) b g q h e (place g q) rfl,
    fun e => gridPart_at (keys x w) b (winRowOf g i.1) (winColOf q i.2) h e (place _ _) rfl, queries_at, keys_at]

/-- Its second part is the context's. -/
theorem gridScores_far (b : Fin 8) (h : Fin 16) (g : Fin 32) (q : Fin 64) (n : Fin 256) :
    gridScores x u w (ix5 b h g q (farAt n)) = ctxScore x w b (place g q) h n := by
  unfold gridScores ctxScore
  rw [scores_far, farScores_at]
  simp only [contextPart_at, fun e => gridPart_at (queries x w) b g q h e (place g q) rfl, queries_at, keys_at]

/-- A row's greatest score, over both kinds of key. -/
theorem gridTop (b : Fin 8) (h : Fin 16) (g : Fin 32) (q : Fin 64) :
    top (gridScores x u w) (ix4 b h g q) = peak (nearScore x u w b h g q) (ctxScore x w b (place g q) h) := by
  rw [top_at, sup_places]
  simp only [gridScores_near, gridScores_far]

/-- A row's sum of exponentials, over both kinds of key. -/
theorem gridMass (b : Fin 8) (h : Fin 16) (g : Fin 32) (q : Fin 64) :
    ∑ k, exps (gridScores x u w) (ix5 b h g q k)
      = mass (nearScore x u w b h g q) (ctxScore x w b (place g q) h)
          (peak (nearScore x u w b h g q) (ctxScore x w b (place g q) h)) := by
  rw [sum_places]
  simp only [exps_at, gridTop, gridScores_near, gridScores_far]
  rfl

/-- The reference's result at a grid query, as normalised attention. -/
theorem gridOut_at (b : Fin 8) (h : Fin 16) (g : Fin 32) (q : Fin 64) (d : Fin 128) :
    gridOut x u w (ix5 b g q h d)
      = (∑ i, Ideal.div (Ideal.exp (nearScore x u w b h g q i - peak (nearScore x u w b h g q) (ctxScore x w b (place g q) h)))
            (mass (nearScore x u w b h g q) (ctxScore x w b (place g q) h)
              (peak (nearScore x u w b h g q) (ctxScore x w b (place g q) h))) * x (ix3 b (nearKey g q i) (vCol h d)))
        + ∑ n, Ideal.div (Ideal.exp (ctxScore x w b (place g q) h n
              - peak (nearScore x u w b h g q) (ctxScore x w b (place g q) h)))
            (mass (nearScore x u w b h g q) (ctxScore x w b (place g q) h)
              (peak (nearScore x u w b h g q) (ctxScore x w b (place g q) h))) * ctxVal x b h d n := by
  unfold gridOut
  rw [show ∀ (s t : FVec Ideal S8x32x64x16x128 .bf16) i, addf s t i = s i + t i from fun _ _ _ => rfl, nearOut_at, farOut_at]
  simp only [probs_at, gridMass]
  simp only [exps_at, gridTop, gridScores_near, gridScores_far, windows_at,
    fun i : Fin 8 × Fin 16 => gridPart_at (values x) b (winRowOf g i.1) (winColOf q i.2) h d (place _ _) rfl, contextPart_at,
    values_at]
  rfl

/-- A window's key, among the 512 keys of the kernel's eight rows. -/
def inSlab (q : Fin 64) : Fin 8 × Fin 16 ↪ Fin 512 where
  toFun i := ⟨i.1.val * 64 + (winColOf q i.2).val, by have := i.1.isLt; have := (winColOf q i.2).isLt; omega⟩
  inj' := by
    rintro ⟨w, j⟩ ⟨w', j'⟩ h
    have h' := congrArg Fin.val h
    simp only [winColOf] at h'
    refine Prod.ext (Fin.ext ?_) (Fin.ext ?_) <;> simp only <;> omega

/-- A key outside the window is masked. -/
theorem outside_masked (h : Fin 16) (r : Fin 8) (q : Fin 64) (n : Fin 512) (hn : n ∉ Set.range (inSlab q)) :
    tableOf u (ix4 h r q n) = (⊥ : EReal) := by
  refine tableOf_outside u h r ⟨n.val / 64, by omega⟩ q ⟨n.val % 64, Nat.mod_lt _ (by norm_num)⟩ n (by simp only; omega) ?_
  rintro ⟨h1, h2⟩
  simp only at h1 h2
  refine hn ⟨(⟨n.val / 64, by omega⟩, ⟨n.val % 64 - min 48 (q.val - 8), by omega⟩), Fin.ext ?_⟩
  show n.val / 64 * 64 + (min 48 (q.val - 8) + (n.val % 64 - min 48 (q.val - 8))) = n.val
  omega

/-- A key inside it has its bias. -/
theorem inside_biased (h : Fin 16) (g : Fin 32) (q : Fin 64) (i : Fin 8 × Fin 16) (r : Fin 8)
    (hr : r.val = min 24 (g.val - 4) + 7 - g.val) :
    tableOf u (ix4 h r q (inSlab q i)) = nearBias u h g q i := by
  have hi := i.1.isLt
  have hj := i.2.isLt
  refine tableOf_inside u h r i.1 q (winColOf q i.2) _ rfl ⟨?_, ?_⟩ _ ?_ _ rfl
  · show min 48 (q.val - 8) ≤ min 48 (q.val - 8) + i.2.val; omega
  · show min 48 (q.val - 8) + i.2.val < min 48 (q.val - 8) + 16; omega
  · show min 24 (g.val - 4) + i.1.val + 7 - g.val = r.val + i.1.val; omega

/-- The grid's rows agree. -/
theorem grid_eq (hw : ∀ i, IsReal (w i)) (hu : ∀ i, IsReal (u i)) (b : Fin 8) (g : Fin 32) (q : Fin 64) (h : Fin 16)
    (d : Fin 128) (r : Fin 36) (hr : r.val = g.val + 4) :
    latentOut x (tableOf u) w b r q h d = gridOut x u w (ix5 b g q h d) := by
  have hp : (⟨r.val * 64 + q.val, by omega⟩ : Fin 2304) = place g q :=
    Fin.ext (by show r.val * 64 + q.val = 256 + (g.val * 64 + q.val); omega)
  have hk : ∀ i, slabRow r.val (inSlab q i) = nearKey g q i := fun i => Fin.ext (by
    show 256 + 64 * min 24 (r.val - 4 - 4) + (i.1.val * 64 + (winColOf q i.2).val)
      = 256 + ((min 24 (g.val - 4) + i.1.val) * 64 + (winColOf q i.2).val)
    omega)
  unfold latentOut
  rw [hp, attended_of_masked (inSlab q) _ _ _ _ (fun n hn => by
    rw [outside_masked u h _ q n hn]
    exact EReal.add_bot _)]
  have hs : (fun n : Fin 512 => dot (que x w b (place g q) h) (key x w b (slabRow r.val n) h)
      + tableOf u (ix4 h ⟨biasRow r.val, biasRow_lt r.val r.isLt⟩ q n)) ∘ inSlab q = nearScore x u w b h g q :=
    funext fun i => by
      show dot _ (key x w b (slabRow r.val (inSlab q i)) h) + tableOf u _ = _
      rw [hk, inside_biased u h g q i _ (by show min 24 (r.val - 4 - 4) + 7 - (r.val - 4) = _; omega)]
      rfl
  have hv : (fun n : Fin 512 => x (ix3 b (slabRow r.val n) (vCol h d))) ∘ inSlab q
      = fun i => x (ix3 b (nearKey g q i) (vCol h d)) := funext fun i => by
    show x (ix3 b (slabRow r.val (inSlab q i)) _) = _
    rw [hk]
  rw [hs, hv, attended_eq_normalised (nearScore x u w b h g q) _ _ _ (fun i => (isReal_dot _ _ (isReal_que x w hw b _ h)
    (isReal_key x w hw b _ h)).add (hu _)) (isReal_ctxScore x w hw b (place g q) h), gridOut_at]

/-- The reference's result, read at a context row. -/
theorem result_context (b : Fin 8) (l : Fin 256) (h : Fin 16) (d : Fin 128) (n : Fin 2304) (k : Fin 2048)
    (hn : n.val = l.val) (hk : k.val = h.val * 128 + d.val) :
    result x u w (ix3 b n k) = ownOut x w (ix4 b l h d) := by
  unfold result Cert.ReferenceIdeal.Value.fn_main_v135
  have hlt : n.val < 256 := by omega
  pointwise
  rw [dif_pos hlt]
  congr 2 <;> exact Fin.ext (by simp only; omega)

/-- The reference's result, read at a grid row. -/
theorem result_grid (b : Fin 8) (g : Fin 32) (q : Fin 64) (h : Fin 16) (d : Fin 128) (n : Fin 2304) (k : Fin 2048)
    (hn : n.val = 256 + (g.val * 64 + q.val)) (hk : k.val = h.val * 128 + d.val) :
    result x u w (ix3 b n k) = gridOut x u w (ix5 b g q h d) := by
  unfold result Cert.ReferenceIdeal.Value.fn_main_v135
  have hlt : ¬n.val < 256 := by omega
  pointwise
  rw [dif_neg hlt]
  congr 2 <;> exact Fin.ext (by simp only; omega)

/-- The two results agree at every place. -/
theorem row_eq (hw : ∀ i, IsReal (w i)) (hu : ∀ i, IsReal (u i)) (b : Fin 8) (n : Fin 2304) (k : Fin 2048) :
    rowOut x (tableOf u) w b ⟨n.val / 64, by omega⟩ ⟨n.val % 64, Nat.mod_lt _ (by norm_num)⟩ ⟨k.val / 128, by omega⟩
      ⟨k.val % 128, Nat.mod_lt _ (by norm_num)⟩ = result x u w (ix3 b n k) := by
  unfold rowOut
  by_cases hc : n.val / 64 < 4
  · rw [if_pos hc]
    have hlt : n.val < 256 := by omega
    rw [result_context x u w b ⟨n.val, hlt⟩ ⟨k.val / 128, by omega⟩ ⟨k.val % 128, Nat.mod_lt _ (by norm_num)⟩
      n k rfl (by simp only; omega), ← context_eq x w hw]
    congr 1
    exact Fin.ext (by show n.val / 64 * 64 + n.val % 64 = n.val; omega)
  · rw [if_neg hc]
    rw [result_grid x u w b ⟨n.val / 64 - 4, by omega⟩ ⟨n.val % 64, Nat.mod_lt _ (by norm_num)⟩
      ⟨k.val / 128, by omega⟩ ⟨k.val % 128, Nat.mod_lt _ (by norm_num)⟩ n k (by simp only; omega) (by simp only; omega)]
    exact grid_eq x u w hw hu _ _ _ _ _ _ (by simp only; omega)

/-- The two results are one array. -/
theorem attention_eq (hw : ∀ i, IsReal (w i)) (hu : ∀ i, IsReal (u i)) : attention x (tableOf u) w = result x u w := by
  funext y
  have hy : ix3 (n0 := 8) (n1 := 2304) (n2 := 2048) (y 0) (y 1) (y 2) = y := funext fun a => by
    change Fin 3 at a
    fin_cases a <;> rfl
  exact (row_eq x u w hw hu (y 0) (y 1) (y 2)).trans (congrArg (result x u w) hy)

end Natten.Ref
-- ==== Proof.Finite.lean ====
module
/- What the precondition says: every bias and every norm weight is a real number. -/
public import proofs.«01_k».proof.Defs
public import proofs.«01_k».proof.Proof.Attend
public import proofs.«01_k».proof.Proof.Gen.Pre_finite
public import Idealize.ShloMosaic.Lib.ReduceAll
@[expose] public section
noncomputable section
namespace Natten.Finite
open Cert.Pre_finite
open Idealize.ShloMosaic

/-- The bits of +∞ are the top element. -/
theorem bits_top : Ideal.ofBits .f32 0x7F800000#32 = (⊤ : EReal) := by
  simp [Ideal.ofBits, Ideal.ieee]

/-- A number whose magnitude is below the top element is real. -/
theorem isReal_of_lt_top (a : EReal) (h : Ideal.cmp .olt (max a (-a)) ⊤ = 1#1) : IsReal a := by
  have h1 : max a (-a) < ⊤ := by
    by_contra hn
    simp [Ideal.cmp, hn] at h
  have h2 := max_lt_iff.1 h1
  induction a using EReal.rec with
  | bot => simp at h2
  | top => simp at h2
  | coe r => exact ⟨r, rfl⟩

variable (x : FVec Ideal S8x2304x6144 .bf16) (u : FVec Ideal S16x15x31 .f32) (w : FVec Ideal S2x128 .f32)

/-- Both conditions hold where their conjunction does. -/
theorem both (hp : Cert.Pre_finite.fn (F := Ideal) x u w = fun _ => 1#1) : (∀ i, IsReal (u i)) ∧ ∀ i, IsReal (w i) := by
  have h0 := congrFun hp (fun a => a.elim0)
  obtain ⟨hu, hw⟩ := IntOp.andi_eq_one.1 h0
  haveI : Subsingleton S_.Idx := ⟨fun a b => funext fun k => k.elim0⟩
  constructor
  · intro i
    have h := Host.reduce_andi_all _ _ _ _ _ hu i
    refine isReal_of_lt_top _ ?_
    rw [← bits_top]
    exact h
  · intro i
    have h := Host.reduce_andi_all _ _ _ _ _ hw i
    refine isReal_of_lt_top _ ?_
    rw [← bits_top]
    exact h

end Natten.Finite
-- ==== Proof.ProjA.lean ====
module
/- The first matrix product of the input projection: its launch's result array is the reference's columns of the whole
   product. -/
public import proofs.«01_k».proof.Proof.Gen.KernelProjAIdeal
public import proofs.«01_k».proof.Proof.Gen.KernelProjAIdeal.Frame
public import proofs.«01_k».proof.Proof.Gen.KernelProjAIdeal.Value
public import proofs.«01_k».proof.Proof.Gen.ReferenceProjAIdeal
public import proofs.«01_k».proof.Proof.Gen.ReferenceProjAIdeal.Run
public import Idealize.ShloMosaic.Lib.Pipeline.ValueKit
public import Idealize.ShloMosaic.Lib.Pipeline.Covers
@[expose] public section
set_option maxRecDepth 16384
noncomputable section
namespace Natten.ProjA
open Cert.KernelProjAIdeal Cert.KernelProjAIdeal.Gen Cert.KernelProjAIdeal.Value
open Idealize.ShloMosaic Idealize.ShloMosaic.TcCoe Idealize.SL.Sem

/-- Columns 0 to 8191 of the product of the tokens and the layer's weights. -/
def product (a : Vec Ideal S18432x4096 .bf16) (w : Vec Ideal S2x4096x14400 .f32) : Vec Ideal S18432x8192 .bf16 := fun y =>
  ∑ d : Fin 4096, a (ix2 (y 0) d) * w (ix3 0 d ⟨(y 1).val, by have : (y 1).val < 8192 := (y 1).isLt; omega⟩)

/-- One block of the product. -/
theorem payload_at (a : Vec Ideal S1024x4096 .bf16) (w : Vec Ideal S1x1024x4096 .bf16) (i j : Fin 1024) :
    k0_pay1 a w (ix2 i j) = ∑ d : Fin 4096, a (ix2 i d) * w (ix3 0 j d) := by
  pointwise [k0_pay1]

variable (m : (ℓ : Loc nD τ sig) → Buf (Elt Ideal) ℓ) (c : Dev nD)

theorem index0 : ∀ t : Fin grid0.N, win0_0.index t = ![t.val % 18, 0] := by decide +kernel
theorem index1 : ∀ t : Fin grid0.N, win0_1.index t = ![0, t.val / 18, 0] := by decide +kernel
theorem index2 : ∀ t : Fin grid0.N, win0_2.index t = ![t.val % 18, t.val / 18] := by decide +kernel

theorem tokens_at (t : Fin cfg0.N) (i : Fin 1024) (d : Fin 4096) (n : Fin 18432) (hn : n.val = t.val % 18 * 1024 + i.val) :
    iblk m c 0 t (ix2 i d) = V m c main_arg0 (ix2 n d) := by
  refine congrArg (V m c main_arg0) (funext fun a => Fin.ext ?_)
  blk_simp [index0]
  change Fin 2 at a
  fin_cases a
  · show t.val % 18 * 1024 + i.val = n.val; omega
  · show 0 * 4096 + d.val = d.val; omega

theorem staged_at (t : Fin cfg0.N) (y : S1x1024x4096.Idx) (z : S2x14400x4096.Idx)
    (hz : ∀ a, (z a).val = ![0, t.val / 18, 0] a * S1x1024x4096.size a + (y a).val) :
    X0_1 m c t y = V m c main_v1 z := by
  unfold X0_1 Pipeline.Window.fill
  rw [dif_pos (moved0_1 t y)]
  refine congrArg (V m c main_v1) (funext fun a => Fin.ext ?_)
  blk_simp [index1]
  exact (hz a).symm

theorem weights_at (t : Fin cfg0.N) (j : Fin 1024) (d : Fin 4096) (k : Fin 14400) (hk : k.val = t.val / 18 * 1024 + j.val) :
    X0_1 m c t (ix3 0 j d) = V m c main_v1 (ix3 0 k d) := by
  refine staged_at m c t _ _ fun a => ?_
  change Fin 3 at a
  fin_cases a
  · show 0 = 0 * 1 + 0; omega
  · show k.val = t.val / 18 * 1024 + j.val; omega
  · show d.val = 0 * 4096 + d.val; omega

/-- The host's weights: the transpose of the layer's. -/
theorem host_at (k : Fin 14400) (d : Fin 4096) :
    (V m c main_v1 : Vec Ideal S2x14400x4096 .bf16) (ix3 0 k d)
      = (V m c main_arg1 : Vec Ideal S2x4096x14400 .f32) (ix3 0 d k) := by
  have h : (V m c main_v1 : Vec Ideal S2x14400x4096 .bf16)
      = truncf (F := Ideal) (φ := .f32) .bf16 (transpose S2x14400x4096 [0, 2, 1]
          (m ((c : Thread nD τ).loc main_arg1) : Vec Ideal S2x4096x14400 .f32) transposes_S2x4096x14400_S2x14400x4096_0_2_1)
          bitsLt_bf16_f32 := by
    unfold_abbrev_sides
    simp only [hostOps0]
    after_results
  rw [h, V_main_arg1]
  pointwise []

/-- What a point leaves in the result's block. -/
theorem block_at (t : Fin cfg0.N) (i j : Fin 1024) (n : Fin 18432) (k : Fin 8192) (hn : n.val = t.val % 18 * 1024 + i.val)
    (hk : k.val = t.val / 18 * 1024 + j.val) :
    outsAt0 m c t (ix2 i j) = product (V m c main_arg0) (V m c main_arg1) (ix2 n k) := by
  have h : outsAt0 m c t = k0_pay1 (iblk m c 0 t) (X0_1 m c t) := by
    unfold outsAt0
    frame_out
  rw [h, payload_at]
  unfold product
  refine Finset.sum_congr rfl fun d _ => ?_
  rw [tokens_at m c t i d n hn, weights_at m c t j d ⟨k.val, by omega⟩ hk, host_at]
  rfl

/-- THE RESULT ARRAY after the launch. -/
theorem array_eq : (dats m 0 c).arrAt 2 cfg0.N = product (V m c main_arg0) (V m c main_arg1) := by
  have hN : cfg0.N = 144 := N_0
  refine (dats m 0 c).arrAt_eq_of_covers 2 _
    ((cfg0.win 2).covers_of_indexMap_surj rfl (by decide) fun β => ?_) fun t hf y => ?_
  · refine ⟨fun a => match a with | 0 => β 1 | 1 => β 0, fun a => ?_⟩
    change Fin 2 at a
    have h0 : (β 0).val < 18 := (β 0).isLt
    have h1 : (β 1).val < 8 := (β 1).isLt
    fin_cases a
    · show (BitVec.ofNat 32 (β 0).val).toNat = _; rw [BitVec.toNat_ofNat]; exact Nat.mod_eq_of_lt (by omega)
    · show (BitVec.ofNat 32 (β 1).val).toNat = _; rw [BitVec.toNat_ofNat]; exact Nat.mod_eq_of_lt (by omega)
  · have e0 : ((((win0_2.blk t).view.emb y) 0 : Fin _) : ℕ) = t.val % 18 * 1024 + (y 0).val := by
      blk_simp [index2]
    have e1 : ((((win0_2.blk t).view.emb y) 1 : Fin _) : ℕ) = t.val / 18 * 1024 + (y 1).val := by
      blk_simp [index2]
    blk_simp
    rw [after0_2]
    have hy : (fun a => y a : S1024x1024.Idx) = ix2 (n0 := 1024) (n1 := 1024) (y 0) (y 1) := by
      funext a
      fin_cases a <;> rfl
    refine (congrArg (outsAt0 m c t) hy).trans ?_
    rw [block_at m c t (y 0) (y 1) ((win0_2.blk t).view.emb y 0) ((win0_2.blk t).view.emb y 1) e0 e1]
    rfl

/-- The reference's columns of the product, as its run writes them. -/
def columns (a : FVec Ideal S18432x4096 .bf16) (w : FVec Ideal S2x4096x14400 .f32) : FVec Ideal S18432x8192 .bf16 :=
  extractStridedSlice Cert.ReferenceProjAIdeal.S18432x8192 ![0, 0] (truncf .bf16
    (Host.dotGeneral (φ₁ := .f32) (φ₂ := .f32) Cert.ReferenceProjAIdeal.dot_S18432x4096_S4096x14400_S18432x14400_1_0_0_1_n_n none
      (extf .f32 a Cert.ReferenceProjAIdeal.Gen.bitsLt_bf16_f32)
      (shapeCast Cert.ReferenceProjAIdeal.S4096x14400 (extractStridedSlice Cert.ReferenceProjAIdeal.S1x4096x14400 ![0, 0, 0] w
        Cert.ReferenceProjAIdeal.Gen.slices_S2x4096x14400_S1x4096x14400_0_0_0)
        Cert.ReferenceProjAIdeal.Gen.shapeCasts_S1x4096x14400_S4096x14400))
    Cert.ReferenceProjAIdeal.Gen.bitsLt_bf16_f32) Cert.ReferenceProjAIdeal.Gen.slices_S18432x14400_S18432x8192_0_0

theorem columns_at (a : FVec Ideal S18432x4096 .bf16) (w : FVec Ideal S2x4096x14400 .f32) (p : Fin 18432) (q : Fin 8192) :
    columns a w (ix2 p q) = product a w (ix2 p q) := by
  unfold product columns
  pointwise []
  all_goals rfl

/-- The reference's columns are those the launch computes. -/
theorem columns_eq (a : FVec Ideal S18432x4096 .bf16) (w : FVec Ideal S2x4096x14400 .f32) : columns a w = product a w := by
  funext y
  have hy : ix2 (n0 := 18432) (n1 := 8192) (y 0) (y 1) = y := funext fun a => by
    change Fin 2 at a; fin_cases a <;> rfl
  rw [← hy]
  exact columns_at a w _ _

end Natten.ProjA
-- ==== Proof.ProjB.lean ====
module
/- The second matrix product of the input projection: its launch's result array is the reference's columns of the whole
   product. -/
public import proofs.«01_k».proof.Proof.Gen.KernelProjBIdeal
public import proofs.«01_k».proof.Proof.Gen.KernelProjBIdeal.Frame
public import proofs.«01_k».proof.Proof.Gen.KernelProjBIdeal.Value
public import proofs.«01_k».proof.Proof.Gen.ReferenceProjBIdeal
public import proofs.«01_k».proof.Proof.Gen.ReferenceProjBIdeal.Run
public import Idealize.ShloMosaic.Lib.Pipeline.ValueKit
public import Idealize.ShloMosaic.Lib.Pipeline.Covers
@[expose] public section
set_option maxRecDepth 16384
noncomputable section
namespace Natten.ProjB
open Cert.KernelProjBIdeal Cert.KernelProjBIdeal.Gen Cert.KernelProjBIdeal.Value
open Idealize.ShloMosaic Idealize.ShloMosaic.TcCoe Idealize.SL.Sem

/-- Columns 8256 to 14399 of the product of the tokens and the layer's weights. -/
def product (a : Vec Ideal S18432x4096 .bf16) (w : Vec Ideal S2x4096x14400 .f32) : Vec Ideal S18432x6144 .bf16 := fun y =>
  ∑ d : Fin 4096, a (ix2 (y 0) d) * w (ix3 0 d ⟨8256 + (y 1).val, by have : (y 1).val < 6144 := (y 1).isLt; omega⟩)

/-- One block of the product. -/
theorem payload_at (a : Vec Ideal S1024x4096 .bf16) (w : Vec Ideal S1x1024x4096 .bf16) (i j : Fin 1024) :
    k0_pay1 a w (ix2 i j) = ∑ d : Fin 4096, a (ix2 i d) * w (ix3 0 j d) := by
  pointwise [k0_pay1]

variable (m : (ℓ : Loc nD τ sig) → Buf (Elt Ideal) ℓ) (c : Dev nD)

theorem index0 : ∀ t : Fin grid0.N, win0_0.index t = ![t.val % 18, 0] := by decide +kernel
theorem index1 : ∀ t : Fin grid0.N, win0_1.index t = ![0, t.val / 18, 0] := by decide +kernel
theorem index2 : ∀ t : Fin grid0.N, win0_2.index t = ![t.val % 18, t.val / 18] := by decide +kernel

theorem tokens_at (t : Fin cfg0.N) (i : Fin 1024) (d : Fin 4096) (n : Fin 18432) (hn : n.val = t.val % 18 * 1024 + i.val) :
    iblk m c 0 t (ix2 i d) = V m c main_arg0 (ix2 n d) := by
  refine congrArg (V m c main_arg0) (funext fun a => Fin.ext ?_)
  blk_simp [index0]
  change Fin 2 at a
  fin_cases a
  · show t.val % 18 * 1024 + i.val = n.val; omega
  · show 0 * 4096 + d.val = d.val; omega

theorem weights_at (t : Fin cfg0.N) (j : Fin 1024) (d : Fin 4096) (k : Fin 6144) (hk : k.val = t.val / 18 * 1024 + j.val) :
    iblk m c 1 t (ix3 0 j d) = V m c main_v2 (ix3 0 k d) := by
  refine congrArg (V m c main_v2) (funext fun a => Fin.ext ?_)
  blk_simp [index1]
  change Fin 3 at a
  fin_cases a
  · show 0 * 1 + 0 = 0; omega
  · show t.val / 18 * 1024 + j.val = k.val; omega
  · show 0 * 4096 + d.val = d.val; omega

/-- The host's weights: the transpose of the layer's, from column 8256 on. -/
theorem host_at (k : Fin 6144) (d : Fin 4096) (n : Fin 14400) (hn : n.val = 8256 + k.val) :
    (V m c main_v2 : Vec Ideal S2x6144x4096 .bf16) (ix3 0 k d)
      = (V m c main_arg1 : Vec Ideal S2x4096x14400 .f32) (ix3 0 d n) := by
  have h : (V m c main_v2 : Vec Ideal S2x6144x4096 .bf16)
      = extractStridedSlice S2x6144x4096 ![0, 8256, 0] (truncf (F := Ideal) (φ := .f32) .bf16 (transpose S2x14400x4096 [0, 2, 1]
          (m ((c : Thread nD τ).loc main_arg1) : Vec Ideal S2x4096x14400 .f32) transposes_S2x4096x14400_S2x14400x4096_0_2_1) bitsLt_bf16_f32)
          slices_S2x14400x4096_S2x6144x4096_0_8256_0 := by
    unfold_abbrev_sides
    simp only [hostOps0]
    after_results
  rw [h, V_main_arg1]
  pointwise []
  congr 2 <;> exact Fin.ext (by simp only; omega)

/-- What a point leaves in the result's block. -/
theorem block_at (t : Fin cfg0.N) (i j : Fin 1024) (n : Fin 18432) (k : Fin 6144) (hn : n.val = t.val % 18 * 1024 + i.val)
    (hk : k.val = t.val / 18 * 1024 + j.val) :
    out0_2 (iblk m c 0 t) (iblk m c 1 t) (ix2 i j) = product (V m c main_arg0) (V m c main_arg1) (ix2 n k) := by
  unfold out0_2
  rw [View.canon_cons_unit_lit _ _ _ (by decide), View.ld_unit_lit _ _ (by decide), View.ld_unit_lit _ _ (by decide),
    payload_at]
  unfold product
  refine Finset.sum_congr rfl fun d _ => ?_
  rw [tokens_at m c t i d n hn, weights_at m c t j d k hk, host_at m c k d ⟨8256 + k.val, by omega⟩ rfl]
  rfl

/-- THE RESULT ARRAY after the launch. -/
theorem array_eq : (dats m 0 c).arrAt 2 cfg0.N = product (V m c main_arg0) (V m c main_arg1) := by
  have hN : cfg0.N = 108 := N_0
  refine (dats m 0 c).arrAt_eq_of_covers 2 _
    ((cfg0.win 2).covers_of_indexMap_surj rfl (by decide) fun β => ?_) fun t hf y => ?_
  · refine ⟨fun a => match a with | 0 => β 1 | 1 => β 0, fun a => ?_⟩
    change Fin 2 at a
    have h0 : (β 0).val < 18 := (β 0).isLt
    have h1 : (β 1).val < 6 := (β 1).isLt
    fin_cases a
    · show (BitVec.ofNat 32 (β 0).val).toNat = _; rw [BitVec.toNat_ofNat]; exact Nat.mod_eq_of_lt (by omega)
    · show (BitVec.ofNat 32 (β 1).val).toNat = _; rw [BitVec.toNat_ofNat]; exact Nat.mod_eq_of_lt (by omega)
  · have e0 : ((((win0_2.blk t).view.emb y) 0 : Fin _) : ℕ) = t.val % 18 * 1024 + (y 0).val := by
      blk_simp [index2]
    have e1 : ((((win0_2.blk t).view.emb y) 1 : Fin _) : ℕ) = t.val / 18 * 1024 + (y 1).val := by
      blk_simp [index2]
    blk_simp
    rw [after0_2]
    have hy : (fun a => y a : S1024x1024.Idx) = ix2 (n0 := 1024) (n1 := 1024) (y 0) (y 1) := by
      funext a
      fin_cases a <;> rfl
    refine (congrArg (out0_2 (iblk m c 0 t) (iblk m c 1 t)) hy).trans ?_
    rw [block_at m c t (y 0) (y 1) ((win0_2.blk t).view.emb y 0) ((win0_2.blk t).view.emb y 1) e0 e1]
    rfl

/-- The reference's columns of the product, as its run writes them. -/
def columns (a : FVec Ideal S18432x4096 .bf16) (w : FVec Ideal S2x4096x14400 .f32) : FVec Ideal S18432x6144 .bf16 :=
  extractStridedSlice Cert.ReferenceProjBIdeal.S18432x6144 ![0, 8256] (truncf .bf16
    (Host.dotGeneral (φ₁ := .f32) (φ₂ := .f32) Cert.ReferenceProjBIdeal.dot_S18432x4096_S4096x14400_S18432x14400_1_0_0_1_n_n none
      (extf .f32 a Cert.ReferenceProjBIdeal.Gen.bitsLt_bf16_f32)
      (shapeCast Cert.ReferenceProjBIdeal.S4096x14400 (extractStridedSlice Cert.ReferenceProjBIdeal.S1x4096x14400 ![0, 0, 0] w
        Cert.ReferenceProjBIdeal.Gen.slices_S2x4096x14400_S1x4096x14400_0_0_0)
        Cert.ReferenceProjBIdeal.Gen.shapeCasts_S1x4096x14400_S4096x14400))
    Cert.ReferenceProjBIdeal.Gen.bitsLt_bf16_f32) Cert.ReferenceProjBIdeal.Gen.slices_S18432x14400_S18432x6144_0_8256

theorem columns_at (a : FVec Ideal S18432x4096 .bf16) (w : FVec Ideal S2x4096x14400 .f32) (p : Fin 18432) (q : Fin 6144) :
    columns a w (ix2 p q) = product a w (ix2 p q) := by
  unfold product columns
  pointwise []
  all_goals rfl

/-- The reference's columns are those the launch computes. -/
theorem columns_eq (a : FVec Ideal S18432x4096 .bf16) (w : FVec Ideal S2x4096x14400 .f32) : columns a w = product a w := by
  funext y
  have hy : ix2 (n0 := 18432) (n1 := 6144) (y 0) (y 1) = y := funext fun a => by
    change Fin 2 at a; fin_cases a <;> rfl
  rw [← hy]
  exact columns_at a w _ _

end Natten.ProjB
-- ==== Proof.Routed.lean ====
module
/- What the experts' launches share: the table of experts as words, the conditions of their bodies, whole-buffer loads
   and stores. -/
public import Idealize.ShloMosaic.Lib.Pipeline.FrameBody
public import Idealize.ShloMosaic.Lib.Tactic
public import Idealize.ShloMosaic.Lib.WordCmp
public import Idealize.ShloMosaic.Lib.Affine
public import Idealize.ShloMosaic.Lib.WritesUnit
public import Idealize.ShloMosaic.Lib.Pipeline.ValueKit
@[expose] public section
noncomputable section
namespace Natten.Routed
open Idealize.ShloMosaic Idealize.ShloMosaic.WordCmp

section table
variable {n : ℕ}

/-- A table of experts: its last word is the number of groups in use, word `g` before it the expert of the `g`-th group of
    256 rows. -/
abbrev Table (n : ℕ) : Type := (⟨1, ![n]⟩ : Shape).Idx → BitVec 32

/-- Word `k` of a table, and zero past its end. -/
def word (xt : Table n) (k : ℕ) : BitVec 32 := if h : k < n then xt (ix1 ⟨k, h⟩) else 0#32

theorem word_of (xt : Table n) {k : ℕ} (h : k < n) : word xt k = xt (ix1 ⟨k, h⟩) := dif_pos h

/-- Every word but the last names one of the 16 experts. -/
def InRange (te : Table n) : Prop := ∀ k : ℕ, k + 1 < n → 0 ≤ (word te k).toInt ∧ (word te k).toInt < 16

/-- The expert of group `k`. -/
def expert (te : Table n) (k : ℕ) : Fin 16 := ⟨(word te k).toNat % 16, Nat.mod_lt _ (by decide)⟩

/-- A group's word in range is its expert, read with a sign or without. -/
theorem expert_of {te : Table n} (h : InRange te) {k : ℕ} (hk : k + 1 < n) :
    (word te k).toNat = (expert te k).val ∧ (word te k).toInt = ((expert te k).val : ℤ) := by
  obtain ⟨h0, h1⟩ := h k hk
  have hc : (word te k).toInt = ((word te k).toNat : ℤ) := by
    have := BitVec.toInt_eq_toNat_cond (word te k)
    have := (word te k).isLt
    split_ifs at * <;> omega
  have e : (expert te k).val = (word te k).toNat % 16 := rfl
  omega

/-- Group `k` is the first of a sweep over the rows, or its expert is not the group before's. -/
abbrev Fresh (xt : Table n) (k : ℕ) : Prop := k = 0 ∨ word xt k ≠ word xt (k - 1)

end table

section conditions

/-- A conditional on one bit, widened and compared with zero, is on the bit. -/
theorem bit_ne (p : BitVec 1) : Scalar.cmpi .ne (Scalar.extui p) 0#32 = 1#1 ↔ p = 1#1 := by
  revert p; decide

/-- Whether a group's weights are cast: at the first group, and where two words differ. -/
theorem fresh_bit {k : ℕ} (hk : k < 160) (a b : BitVec 32) :
    Scalar.cmpi .ne (Scalar.extui (Scalar.ori (Scalar.cmpi .eq (BitVec.ofNat 32 k) 0#32) (Scalar.cmpi .ne a b))) 0#32 = 1#1 ↔ k = 0 ∨ a ≠ b := by
  rw [bit_ne]
  change IntOp.ori (IntOp.cmpi .eq _ _) (IntOp.cmpi .ne _ _) = 1#1 ↔ _
  rw [cmpi_eq_eq, cmpi_ne_eq, ori_ofBool, ofBool_eq_one_iff, Bool.or_eq_true, decide_eq_true_iff, decide_eq_true_iff]
  exact or_congr (ofNat_eq_ofNat_iff (w := 32) (a := k) (b := 0) (by omega) (by omega)) Iff.rfl

/-- Whether a group is in use, -/
theorem live_bit {k : ℕ} (hk : k < 160) (n : BitVec 32) :
    Scalar.cmpi .ne (Scalar.extui (Scalar.cmpi .slt (BitVec.ofNat 32 k) n)) 0#32 = 1#1 ↔ (k : ℤ) < n.toInt := by
  refine (bit_ne _).trans ?_
  change IntOp.cmpi .slt _ _ = 1#1 ↔ _
  rw [cmpi_slt_eq, ofBool_decide_eq_one_iff, toInt_ofNat_of_lt (by omega)]

/-- whether it is not, -/
theorem dead_bit {k : ℕ} (hk : k < 160) (n : BitVec 32) :
    Scalar.cmpi .ne (Scalar.extui (Scalar.cmpi .sge (BitVec.ofNat 32 k) n)) 0#32 = 1#1 ↔ ¬ (k : ℤ) < n.toInt := by
  refine (bit_ne _).trans ?_
  change IntOp.cmpi .sge _ _ = 1#1 ↔ _
  rw [cmpi_sge_eq, ofBool_decide_eq_one_iff, toInt_ofNat_of_lt (by omega), not_lt]

/-- and whether it is in use and one of the groups from `lo` to `hi`. -/
theorem part_bit {k lo hi : ℕ} (hk : k < 160) (hlo : lo ≤ 160) (hhi : hi ≤ 160) (n : BitVec 32) :
    Scalar.cmpi .ne (Scalar.extui (Scalar.andi (Scalar.cmpi .sge (BitVec.ofNat 32 k) (BitVec.ofNat 32 lo))
      (Scalar.cmpi .slt (BitVec.ofNat 32 k) (Scalar.minsi n (BitVec.ofNat 32 hi))))) 0#32 = 1#1 ↔ (lo ≤ k ∧ k < hi) ∧ (k : ℤ) < n.toInt := by
  have hm : (Scalar.minsi n (BitVec.ofNat 32 hi)).toInt = min n.toInt (hi : ℤ) := by
    have e : (BitVec.ofNat 32 hi).toInt = (hi : ℤ) := toInt_ofNat_of_lt (by omega)
    rw [Scalar.minsi, IntOp.minsi]
    split <;> rename_i h <;> rw [BitVec.slt_iff_toInt_lt, e] at h <;> omega
  refine (bit_ne _).trans ?_
  change IntOp.andi (IntOp.cmpi .sge _ _) (IntOp.cmpi .slt _ _) = 1#1 ↔ _
  have e : ∀ {a : ℕ}, a ≤ 160 → (BitVec.ofNat 32 a).toInt = (a : ℤ) := fun h => toInt_ofNat_of_lt (by omega)
  rw [IntOp.andi_eq_one, cmpi_sge_eq, cmpi_slt_eq, ofBool_decide_eq_one_iff, ofBool_decide_eq_one_iff, hm, e hk.le, e hlo]
  omega

/-- The offset of the load of a group's word, -/
theorem offset_this {k : ℕ} (hk : k < 160) : (Scalar.indexCast (BitVec.ofNat 32 k)).toNat = k :=
  (by decide : ∀ n : Fin 160, (Scalar.indexCast (BitVec.ofNat 32 n.val)).toNat = n.val) ⟨k, hk⟩

/-- and of the group before's. -/
theorem offset_before {k : ℕ} (hk : k < 160) :
    (Scalar.indexCast (Scalar.maxsi (Scalar.subi (BitVec.ofNat 32 k) 1#32) 0#32)).toNat = k - 1 :=
  (by decide : ∀ n : Fin 160, (Scalar.indexCast (Scalar.maxsi (Scalar.subi (BitVec.ofNat 32 n.val) 1#32) 0#32)).toNat = n.val - 1) ⟨k, hk⟩

end conditions

section whole
variable {F : FTy → Type} {nD : ℕ} {sig : RefSig} {κ : Kind} {sp : Space} {s : Shape} {e : EltTy}

/-- A store of a whole buffer leaves what it stores. -/
theorem read_stored (v : View sig κ sp s e) (f : BufTy.Contents (Elt F) v.ty)
    {off : Fin s.rank → ℕ} (inb : ∀ a, off a + s.size a ≤ s.size a) (h0 : ∀ a, off a = 0)
    (w : (Rect.unit off s.size inb).shape.Idx → Elt F e) :
    v.read (Elt F) (v.writes (Elt F) f [⟨Rect.unit off s.size inb, w⟩]) = w :=
  funext fun y => View.read_writes_cons_unit_of_mem v f inb w [] y y rfl fun a => by rw [h0, Nat.zero_add]

/-- A load of a whole buffer reads all of it. -/
theorem load_whole (v : View sig κ sp s e) (f : BufTy.Contents (Elt F) v.ty)
    {off : Fin s.rank → ℕ} (inb : ∀ a, off a + s.size a ≤ s.size a) (h0 : ∀ a, off a = 0) :
    v.readAt (Elt F) (Rect.unit off s.size inb).toLoadRect f = v.read (Elt F) f :=
  View.ld_unit_lit inb (v.read (Elt F) f) h0

/-- A store of a whole buffer under a condition leaves what it stores where the condition holds, and what was there before
    elsewhere. -/
theorem read_kept {P : Prop} [Decidable P] {p : BitVec 1} (hp : p = 1#1 ↔ P) (v : View sig κ sp s e) {f : BufTy.Contents (Elt F) v.ty}
    {old : s.Idx → Elt F e} (hf : v.read (Elt F) f = old)
    {off : Fin s.rank → ℕ} (inb : ∀ a, off a + s.size a ≤ s.size a) (h0 : ∀ a, off a = 0) (new : s.Idx → Elt F e) :
    v.read (Elt F) (if hc : p = 1#1 then v.writes (Elt F) f [⟨Rect.unit off s.size inb, new⟩] else f) = if P then new else old := by
  by_cases h : P
  · rw [dif_pos (hp.mpr h), if_pos h, read_stored v f inb h0]
  · rw [dif_neg (fun hc => h (hp.mp hc)), if_neg h, hf]

end whole

end Natten.Routed
-- ==== Proof.UpRun.lean ====
module

public import proofs.«01_k».proof.Proof.Gen.KernelUpIdeal.Launch
public import proofs.«01_k».proof.Proof.Gen.KernelUpIdeal.Skeleton
public import proofs.«01_k».proof.Proof.Routed

@[expose] public section

set_option maxRecDepth 16384

noncomputable section

namespace Natten.Up

open Natten.Routed (word word_of live_bit dead_bit fresh_bit offset_this offset_before read_stored load_whole read_kept)
open Cert.KernelUpIdeal Cert.KernelUpIdeal.Gen
open Idealize.ShloMosaic Idealize.ShloMosaic.TcCoe Idealize.ShloMosaic.Tactic Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts: word `g` below 40 is the expert of the `g`-th group of 256 rows, word 40 the number of groups
    in use. -/
abbrev tab : Memref sig .tc .smem S41 .i32 := Memref.whole main_arg0

/-- The table's buffer on core `c`, behind a name that keeps the memref's view folded. -/
abbrev TabBuf (c : Dev nD) {S : Shape} {e : EltTy} (M : Memref sig .tc .smem S e) : Type := Buf (Elt F) (M.view.loc (c : Thread nD τ))

/-- The table held for reading, at half the full share. -/
abbrev tabAt (c : Dev nD) {S : Shape} {e : EltTy} (M : Memref sig .tc .smem S e) (f : TabBuf (F := F) c M) : sProp 𝕄 :=
  M.view.loc (c : Thread nD τ) ↦{fullShare.right} f

/-- The grid point is the first of a sweep over the rows, or its group's expert is not the previous group's. -/
abbrev Fresh (xt : S41.Idx → BitVec 32) (i : grid0.Coords) : Prop :=
  Routed.Fresh xt (i 1).val

/-- The grid point's group is in use. -/
abbrev Live (xt : S41.Idx → BitVec 32) (i : grid0.Coords) : Prop := ((i 1).val : ℤ) < (word xt 40).toInt

/-- The second conditional of the body is taken exactly where the group is in use, -/
theorem live_iff (xt : S41.Idx → BitVec 32) (i : grid0.Coords) : k0_cond2 i (word xt 40) = 1#1 ↔ Live xt i :=
  live_bit ((i 1).isLt.trans (by decide)) _

/-- and the third exactly where it is not. -/
theorem dead_iff (xt : S41.Idx → BitVec 32) (i : grid0.Coords) : k0_cond3 i (word xt 40) = 1#1 ↔ ¬ Live xt i :=
  dead_bit ((i 1).isLt.trans (by decide)) _

/-- A word the body loads from the table is the word at the load's offset. -/
theorem loaded (c : Dev nD) (xt : TabBuf (F := F) c tab) {off : Fin 1 → ℕ} (inb : ∀ a, off a + S1.size a ≤ S41.size a) {k : ℕ} (hk : off 0 = k) :
    View.readAt (Elt F) tab.view (Rect.unit (s := S41) off S1.size inb).toLoadRect xt (Shape.Idx.first (numel1_S1.symm ▸ Nat.one_pos)) = word xt k := by
  have h : k < 41 := by have := inb 0; change off 0 + 1 ≤ 41 at this; omega
  rw [word_of _ h]
  refine congrArg xt (funext fun a => Fin.ext ?_)
  fin_cases a
  subst hk
  exact Nat.add_zero _

/-- The first conditional of the body is taken exactly where the weight block is new. -/
theorem fresh_iff (c : Dev nD) (xt : TabBuf (F := F) c tab) (i : grid0.Coords) :
    Scalar.cmpi .ne (Scalar.extui (Scalar.ori (Scalar.cmpi .eq (BitVec.ofNat 32 (i 1).val) 0#32)
      (Scalar.cmpi .ne (View.readAt (Elt F) tab.view (Rect.unit (s := S41) (k0_off1 i) S1.size (k0_off1_inb i)).toLoadRect xt (Shape.Idx.first (numel1_S1.symm ▸ Nat.one_pos)))
        (View.readAt (Elt F) tab.view (Rect.unit (s := S41) (k0_off2 i) S1.size (k0_off2_inb i)).toLoadRect xt (Shape.Idx.first (numel1_S1.symm ▸ Nat.one_pos)))))) 0#32 = 1#1 ↔ Fresh xt i := by
  have h : (i 1).val < 160 := (i 1).isLt.trans (by decide)
  rw [loaded c xt _ (offset_this h), loaded c xt _ (offset_before h)]
  exact fresh_bit h _ _

/-- What a weight scratch holds after a point: the point's own block, cast, where that is new. -/
abbrev keep (xt : S41.Idx → BitVec 32) (i : grid0.Coords) (new old : Vec F S4096x512 .bf16) : Vec F S4096x512 .bf16 :=
  if Fresh xt i then new else old

/-- What the output block holds after a point: the gated product where the group is in use, else zeros. -/
abbrev leave (xt : S41.Idx → BitVec 32) (i : grid0.Coords) (new : Vec F S256x512 .bf16) : Vec F S256x512 .bf16 :=
  if Live xt i then new else k0_pay4

set_option maxHeartbeats 1000000 in
/-- The body at one point: it leaves its inputs, the scratches at `keep`, and the output block at `leave`. -/
theorem run (c : Dev nD) (i : grid0.Coords) (arg3 : Memref sig .tc .vmem S256x4096 .bf16) (harg3 : arg3.IsWhole) (arg4 : Memref sig .tc .vmem S1x1x4096x512 .f32) (harg4 : arg4.IsWhole) (arg5 : Memref sig .tc .vmem S1x1x4096x512 .f32) (harg5 : arg5.IsWhole) (arg6 : Memref sig .tc .vmem S256x512 .bf16) (harg6 : arg6.IsWhole) (arg7 : Memref sig .tc .vmem S4096x512 .bf16) (harg7 : arg7.IsWhole) (arg8 : Memref sig .tc .vmem S4096x512 .bf16) (harg8 : arg8.IsWhole)
    (x0 : Vec F S256x4096 .bf16) (x1 : Vec F S1x1x4096x512 .f32) (x2 : Vec F S1x1x4096x512 .f32) (s0 s1 : Vec F S4096x512 .bf16) (xt : TabBuf (F := F) c tab) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tabAt c tab xt
            ∗ (iprop(owns (c : Thread nD τ) arg3 fullShare x0 ∗ owns (c : Thread nD τ) arg4 fullShare x1 ∗ owns (c : Thread nD τ) arg5 fullShare x2 ∗ owns (c : Thread nD τ) arg6 fullShare (leave xt i (k0_pay3 x0 (keep xt i (k0_pay1 x1) s0) (keep xt i (k0_pay2 x2) s1))) ∗ owns (c : Thread nD τ) arg7 fullShare (keep xt i (k0_pay1 x1) s0) ∗ owns (c : Thread nD τ) arg8 fullShare (keep xt i (k0_pay2 x2) s1) ∗ tabAt c tab xt) -∗ K ⟨⟩))
          ⊢ wp frame (wpE (defs₀ (F := F)) Variants.none c none) E (cc0_moe_up i tab (Memref.isWhole_whole _) arg3 harg3 arg4 harg4 arg5 harg5 arg6 harg6 arg7 harg7 arg8 harg8) K := by
    intro E K
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, Hk⟩
    obtain rfl := harg3.eq_unread hf0; obtain rfl := harg4.eq_unread hf1; obtain rfl := harg5.eq_unread hf2
    obtain rfl := harg7.eq_unread hfs0; obtain rfl := harg8.eq_unread hfs1
    sl_exec
    have e1 : run.sl.v11 c i xt = 1#1 ↔ Fresh xt i := fresh_iff c xt i
    have e2 : run.sl.r c xt = word xt 40 := loaded c xt _ rfl
    have h7 : ∀ f : BufTy.Contents (Elt F) arg7.view.ty, arg7.view.readAt (Elt F) (Rect.unit (s := S4096x512) ![0, 0] S4096x512.size inb_S4096x512_S4096x512_0_0).toLoadRect f = arg7.view.read (Elt F) f :=
      fun f => load_whole _ f _ (by decide)
    have h8 : ∀ f : BufTy.Contents (Elt F) arg8.view.ty, arg8.view.readAt (Elt F) (Rect.unit (s := S4096x512) ![0, 0] S4096x512.size inb_S4096x512_S4096x512_0_0).toLoadRect f = arg8.view.read (Elt F) f :=
      fun f => load_whole _ f _ (by decide)
    have l0 : arg3.view.readAt (Elt F) (Rect.unit (s := S256x4096) ![0, 0] S256x4096.size inb_S256x4096_S256x4096_0_0).toLoadRect (harg3.unread x0) = x0 :=
      (load_whole _ _ _ (by decide)).trans hf0
    have l1 : arg4.view.readAt (Elt F) (Rect.unit (s := S1x1x4096x512) ![0, 0, 0, 0] S1x1x4096x512.size inb_S1x1x4096x512_S1x1x4096x512_0_0_0_0).toLoadRect (harg4.unread x1) = x1 :=
      (load_whole _ _ _ (by decide)).trans hf1
    have l2 : arg5.view.readAt (Elt F) (Rect.unit (s := S1x1x4096x512) ![0, 0, 0, 0] S1x1x4096x512.size inb_S1x1x4096x512_S1x1x4096x512_0_0_0_0).toLoadRect (harg5.unread x2) = x2 :=
      (load_whole _ _ _ (by decide)).trans hf2
    unfold run.sl.v19 run.sl.v21
    rw [e2, l0, l1, l2]
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      by_cases hl : Live xt i
      · have hd : ¬ k0_cond3 i (word xt 40) = 1#1 := fun h => (dead_iff xt i).mp h hl
        rw [dif_neg hd, dif_pos ((live_iff xt i).mpr hl), read_stored _ _ _ (by decide)]
        rw [h7, h8, read_kept e1 _ hfs0 _ (by decide), read_kept e1 _ hfs1 _ (by decide)]
        unfold leave; rw [if_pos hl]
      · rw [dif_pos ((dead_iff xt i).mpr hl), read_stored _ _ _ (by decide)]
        unfold leave; rw [if_neg hl]
    isplitl [HS0]
    · iexists _; isplitr; swap; · iexact HS0
      ipureintro
      exact read_kept e1 _ hfs0 _ (by decide) _
    isplitl [HS1]
    · iexists _; isplitr; swap; · iexact HS1
      ipureintro
      exact read_kept e1 _ hfs1 _ (by decide) _
    iexact HT0

end Natten.Up
end
-- ==== Proof.UpFrame.lean ====
module

public import proofs.«01_k».proof.Proof.UpRun

@[expose] public section

set_option maxRecDepth 16384

noncomputable section

/-! # The launch of the experts' first product, for every table whose experts exist -/

namespace Natten.Up

open Natten.Routed (word word_of)
open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the launch begins. -/
abbrev V (c : Dev nD) (b : Ref sig .tc) : Buf (Elt F) ((c : Thread nD τ).loc b) := m ((c : Thread nD τ).loc b)

/-- The program is the launch alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched table's contents. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table as words. -/
abbrev words : S41.Idx → BitVec 32 := tbl m 0

/-- Every block the launch asks for lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table's half that the body is lent. -/
theorem table_half (c : Dev nD) : (Pipeline.ΦT pre0 (tbl m) c : sProp 𝕄) = iprop(tabAt c tab (words m)) := by
  unfold Pipeline.ΦT Pipeline.prefHeld
  rw [show (Finset.univ : Finset (Fin 1)) = {(0 : Fin 1)} from by decide, bigSep_singleton]
  rfl

/-- The block of the weights at a grid point: the expert's, and the point's column block. -/
theorem weights_index (pf : pre0.Contents (Elt F)) (i : grid0.Coords) :
    cc0_transform_1 k0_off1_inb numel1_S1 pf i = ![0, (word (pf 0) (i 1).val).toNat, 0, (i 0).val] := by
  have h : (i 1).val < 40 := (i 1).isLt
  have h' : (i 0).val < 2 := (i 0).isLt
  have hw : pf.at 0 (Rect.unit (s := S41) (k0_off1 i) S1.size (k0_off1_inb i)) numel1_S1 = word (pf 0) (i 1).val := by
    refine Eq.trans (congrArg (pf 0) (funext fun a => Fin.ext ?_)) (word_of (pf 0) (by omega)).symm
    fin_cases a
    exact Routed.offset_this (h.trans (by decide))
  have hj : (BitVec.ofNat 32 (i 0).val).toNat = (i 0).val := by rw [BitVec.toNat_ofNat]; exact Nat.mod_eq_of_lt (by omega)
  funext a
  fin_cases a
  · rfl
  · exact congrArg BitVec.toNat hw
  · rfl
  · exact hj

/-- The output's block is stored at every grid point. -/
theorem never_idle (hO : Ok m) (i : (cfgM m hO).grid.Coords) : (cfgM m hO).idle 3 i = false := by
  have hw : (tbl m).atD 0 ![40] = word (words m) 40 := by
    refine Eq.trans (dif_pos (by decide)) ((congrArg (tbl m 0) (funext fun a => Fin.ext ?_)).trans (word_of (words m) (by omega)).symm)
    fin_cases a
    rfl
  change (!(k0_cond2 i ((tbl m).atD 0 ![40]) == 1#1) && !(k0_cond3 i ((tbl m).atD 0 ![40]) == 1#1)) = false
  rw [hw]
  by_cases h : Live (words m) i
  · rw [(live_iff _ i).mpr h]; rfl
  · rw [(dead_iff _ i).mpr h]; simp

/-- Window `w`'s block of its array at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The gate block of the weights, element by element. -/
theorem gate_at (hO : Ok m) (c : Dev nD) (t : Fin (cfgM m hO).N) (y : S1x1x4096x512.Idx) (z : S2x16x4096x1024.Idx)
    (hz : ∀ a, (z a).val = ![0, (word (words m) (grid0.coords t 1).val).toNat, 0, (grid0.coords t 0).val] a * S1x1x4096x512.size a + (y a).val) :
    iblk m hO c 1 t y = V m c main_arg2 z := by
  refine congrArg (V m c main_arg2) (funext fun a => Fin.ext ?_)
  rw [hz a, ← weights_index (tbl m) (grid0.coords t)]
  blk_simp
  rfl

/-- The up block of the weights, element by element. -/
theorem up_at (hO : Ok m) (c : Dev nD) (t : Fin (cfgM m hO).N) (y : S1x1x4096x512.Idx) (z : S2x16x4096x1024.Idx)
    (hz : ∀ a, (z a).val = ![0, (word (words m) (grid0.coords t 1).val).toNat, 0, (grid0.coords t 0).val] a * S1x1x4096x512.size a + (y a).val) :
    iblk m hO c 2 t y = V m c main_arg3 z := by
  refine congrArg (V m c main_arg3) (funext fun a => Fin.ext ?_)
  rw [hz a, ← weights_index (tbl m) (grid0.coords t)]
  blk_simp
  rfl

/-- Point `t`'s blocks of the two weights, cast. -/
abbrev gate (hO : Ok m) (c : Dev nD) (t : Fin (cfgM m hO).N) : Vec F S4096x512 .bf16 := k0_pay1 (iblk m hO c 1 t)
abbrev up (hO : Ok m) (c : Dev nD) (t : Fin (cfgM m hO).N) : Vec F S4096x512 .bf16 := k0_pay2 (iblk m hO c 2 t)

/-- What point `t` leaves in the output's block. -/
def out (hO : Ok m) (c : Dev nD) (t : Fin (cfgM m hO).N) : Vec F S256x512 .bf16 :=
  leave (words m) (grid0.coords t) (k0_pay3 (iblk m hO c 0 t) (gate m hO c t) (up m hO c t))

/-- Before point `n` the scratches hold the cast blocks of the point before. -/
def Held (hO : Ok m) (c : Dev nD) (n : ℕ) (s0 s1 : Vec F S4096x512 .bf16) : Prop :=
  ∀ t : Fin (cfgM m hO).N, t.val + 1 = n → s0 = gate m hO c t ∧ s1 = up m hO c t

/-- A point that casts no new block finds the scratches at its own blocks: the point before read the same ones. -/
theorem held_keep (hO : Ok m) (c : Dev nD) (t : Fin (cfgM m hO).N) {s0 s1 : Vec F S4096x512 .bf16} (h : Held m hO c t.val s0 s1) :
    keep (words m) (grid0.coords t) (gate m hO c t) s0 = gate m hO c t ∧ keep (words m) (grid0.coords t) (up m hO c t) s1 = up m hO c t := by
  unfold keep
  by_cases hf : Fresh (words m) (grid0.coords t)
  · rw [if_pos hf, if_pos hf]; exact ⟨rfl, rfl⟩
  rw [if_neg hf, if_neg hf]
  have hN : t.val < 80 := lt_of_lt_of_eq t.isLt N_0
  have e0 : ∀ u : Fin grid0.N, (grid0.coords u 0).val = u.val / 40 % 2 := fun u => Pipeline.Grid.coords_val u 0 (by decide) rfl
  have e1 : ∀ u : Fin grid0.N, (grid0.coords u 1).val = u.val / 1 % 40 := fun u => Pipeline.Grid.coords_val u 1 (by decide) rfl
  obtain ⟨hz, hw⟩ := not_or.mp hf
  rw [e1] at hz
  let u : Fin (cfgM m hO).N := ⟨t.val - 1, lt_of_le_of_lt (Nat.sub_le _ _) t.isLt⟩
  have hu : u.val = t.val - 1 := rfl
  obtain ⟨h0, h1⟩ := h u (by omega)
  have c0 : (grid0.coords u 0).val = (grid0.coords t 0).val := by rw [e0, e0, hu]; omega
  have c1 : (grid0.coords u 1).val = (grid0.coords t 1).val - 1 := by rw [e1, e1, hu]; omega
  have cw : word (words m) (grid0.coords u 1).val = word (words m) (grid0.coords t 1).val := by
    rw [c1]; exact (not_not.mp hw).symm
  have at_z : ∀ y : S1x1x4096x512.Idx, ∃ z : S2x16x4096x1024.Idx,
      ∀ a, (z a).val = ![0, (word (words m) (grid0.coords t 1).val).toNat, 0, (grid0.coords t 0).val] a * S1x1x4096x512.size a + (y a).val := fun y =>
    ⟨(((cfgM m hO).win 1).blk t).view.emb y, fun a => by rw [← weights_index (tbl m) (grid0.coords t)]; blk_simp; rfl⟩
  refine ⟨h0.trans (congrArg k0_pay1 (funext fun y => ?_)), h1.trans (congrArg k0_pay2 (funext fun y => ?_))⟩
  · obtain ⟨z, hz⟩ := at_z y
    rw [gate_at m hO c t y z hz, gate_at m hO c u y z (by rw [cw, c0]; exact hz)]
  · obtain ⟨z, hz⟩ := at_z y
    rw [up_at m hO c t y z hz, up_at m hO c u y z (by rw [cw, c0]; exact hz)]

/-- The two weight scratches. -/
abbrev scr0 : Memref sig .tc .vmem S4096x512 .bf16 := Memref.whole cc0_scratch0
abbrev scr1 : Memref sig .tc .vmem S4096x512 .bf16 := Memref.whole cc0_scratch1

/-- What is not windows' at a launch's ends: the scratches at any contents, and the generator. -/
theorem rest_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The invariant between points. -/
def between (hO : Ok m) (c : Dev nD) (n : ℕ) : sProp 𝕄 :=
  iprop((∃ s0 s1, ⌜Held m hO c n s0 s1⌝ ∗ owns (c : Thread nD τ) scr0 fullShare s0 ∗ owns (c : Thread nD τ) scr1 fullShare s1)
    ∗ (∃ r, prngReg c r) ∗ tabAt c tab (words m))

/-- The launch's proof data: the inputs' blocks stay, the output's block is left at `out`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => out m hO c t
  Φ n := between m hO c n.val
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = out m hO c t := by dsimp only [dats]; try rfl

theorem inv_eq (hO : Ok m) (c : Dev nD) (n) : (dats m hO 0 c).Φ n = between m hO c n.val := by dsimp only [dats]

/-- Each input's current buffer holds its block at every point. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- Each window's current staging memref. -/
abbrev ms0 (hO : Ok m) (t : Fin (cfgM m hO).N) : Memref sig .tc .vmem S256x4096 .bf16 := spec0_0.stage ((cfgM m hO).slots t 0)
abbrev ms1 (hO : Ok m) (t : Fin (cfgM m hO).N) : Memref sig .tc .vmem S1x1x4096x512 .f32 := spec0_1.stage ((cfgM m hO).slots t 1)
abbrev ms2 (hO : Ok m) (t : Fin (cfgM m hO).N) : Memref sig .tc .vmem S1x1x4096x512 .f32 := spec0_2.stage ((cfgM m hO).slots t 2)
abbrev ms3 (hO : Ok m) (t : Fin (cfgM m hO).N) : Memref sig .tc .vmem S256x512 .bf16 := spec0_3.stage ((cfgM m hO).slots t 3)

/-- The body at point `t`. -/
abbrev bodyAt (hO : Ok m) (t : Fin (cfgM m hO).N) : Prog (TpuEff nD τ sig (Elt F) Λ₀ .tc) PUnit :=
  cc0_moe_up (grid0.coords t) tab (Memref.isWhole_whole _) (ms0 m hO t) (hstage0_0 (((cfgM m hO).slots t 0).cast nbuf0_0))
    (ms1 m hO t) (hstage0_1 (((cfgM m hO).slots t 1).cast nbuf0_1)) (ms2 m hO t) (hstage0_2 (((cfgM m hO).slots t 2).cast nbuf0_2))
    (ms3 m hO t) (hstage0_3 (((cfgM m hO).slots t 3).cast nbuf0_3)) scr0 (Memref.isWhole_whole _) scr1 (Memref.isWhole_whole _)

/-- What the body is given at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- and what it gives back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2]
  rw [inv_eq, inv_eq, Fin.val_succ, Fin.val_castSucc,
    show (dats m hO 0 c).owesAt () t.succ = (dats m hO 0 c).owesAt () t.castSucc from rfl,
    after0, after1, after2, after3]
  unfold between
  iintro ⟨⟨⟨%s0, %s1, %hs, HS0, HS1⟩, Hg, HT0⟩, Ho, ⟨%d0, H0⟩, ⟨%d1, H1⟩, ⟨%d2, H2⟩, ⟨%d3, H3⟩⟩
  iapply ((run c (grid0.coords t) _ _ _ _ _ _ _ _ _ _ _ _ (iblk m hO c 0 t) (iblk m hO c 1 t) (iblk m hO c 2 t) s0 s1 (words m)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HT0]; · iexact HT0
  obtain ⟨k0, k1⟩ := held_keep m hO c t hs
  rw [k0, k1]
  iintro ⟨H0, H1, H2, H3, HS0, HS1, HT0⟩
  isplitl [HS0 HS1 Hg HT0]
  · isplitl [HS0 HS1]
    · iexists _, _
      isplitr; swap
      · isplitl [HS0]
        · iexact HS0
        iexact HS1
      ipureintro
      intro u hu
      obtain rfl : u = t := Fin.ext (by omega)
      exact ⟨rfl, rfl⟩
    isplitl [Hg]; · iexact Hg
    iexact HT0
  isplitl [Ho]; · iexact Ho
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The launch's obligation of its body. -/
theorem body_obligation (hO : Ok m) (c : Dev nD) : BodyObligation (dats (F := F) m hO 0 c) (defs₀ (F := F)) Variants.none () Set.univ := fun t => by
  rw [bigSep_W0, bigSep_W0, defs₀_row m hO]
  simp only [never_idle m hO]
  exact triple_restated (sound_body m hO c t) rfl .rfl fun _ => by
    rw [show idle0 (tbl m) 3 ((pcfg0.gridAt (tbl m)).coords t) = false from never_idle m hO _]; exact .rfl

-- the launch theorem's implicit arguments are read off its conclusion, through plain definitions
set_option backward.isDefEq.respectTransparency.types false in
/-- THE LAUNCH: it ends with every array at its named contents and every counter at zero. -/
theorem launched (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) (hQ' := fun _ h => h) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => by
      rw [rest_eq, table_half]
      show _ ⊢ between m hO c 0
      unfold between
      iintro ⟨⟨⟨⟨%s0, HS0⟩, ⟨%s1, HS1⟩⟩, Hg⟩, HT0⟩
      isplitl [HS0 HS1]
      · iexists s0, s1
        isplitr; swap
        · isplitl [HS0]
          · iexact HS0
          iexact HS1
        ipureintro
        intro u hu
        omega
      isplitl [Hg]; · iexact Hg
      iexact HT0)
    (hout := fun c => by
      rw [rest_eq]
      show between m hO c _ ⊢ _
      unfold between
      iintro ⟨⟨%s0, %s1, %hs, HS0, HS1⟩, Hg, HT0⟩
      isplitl [HS0 HS1]
      · isplitl [HS0]
        · iexists s0; iexact HS0
        iexists s1; iexact HS1
      iexact Hg)

end Natten.Up
end
-- ==== Proof.UpRead.lean ====
module
/- The experts' first product as the reference writes it, read at one index. -/
public import proofs.«01_k».proof.Proof.Take
public import proofs.«01_k».proof.Proof.UpRun
public import proofs.«01_k».proof.Proof.Gen.ReferenceUpIdeal
public import proofs.«01_k».proof.Proof.Gen.ReferenceUpIdeal.Run
public import Idealize.ShloMosaic.Lib.Pipeline.ValueKit
@[expose] public section
set_option maxRecDepth 16384
noncomputable section
namespace Natten.Up
open Natten.Routed (InRange expert expert_of word word_of)
open Cert.ReferenceUpIdeal Cert.ReferenceUpIdeal.Gen
open Idealize.ShloMosaic Idealize.ShloMosaic.TcCoe Idealize.ShloMosaic.WordCmp

/-- Row `p` of the tokens through column `q` of its group's expert. -/
def dotRow (te : IVec S41 32) (x : FVec Ideal S10240x4096 .bf16) (w : FVec Ideal S2x16x4096x1024 .f32) (p : Fin 10240) (q : Fin 1024) : EReal :=
  ∑ d : Fin 4096, x (ix2 p d) * w (ix4 0 (expert te (p.val / 256)) d q)

/-- A number times its logistic. -/
def silu (g : EReal) : EReal := g * Ideal.div 1 (1 + Ideal.exp (-g))

/-- The gated product of the tokens and their experts' weights, zero in the groups not in use. -/
def hidden (te : IVec S41 32) (x : FVec Ideal S10240x4096 .bf16) (wg wu : FVec Ideal S2x16x4096x1024 .f32) : FVec Ideal S10240x1024 .bf16 := fun y =>
  if (((y 0).val / 256 : ℕ) : ℤ) < (word te 40).toInt then silu (dotRow te x wg (y 0) (y 1)) * dotRow te x wu (y 0) (y 1) else 0

/-- The experts of the groups as the reference's start indices. -/
def starts (te : IVec S41 32) : IVec S40x1 32 :=
  broadcastInDim S40x1 ![0] bcast_S40_S40x1_0 (select (cmpi .slt (extractStridedSlice S40 ![0] te slices_S41_S40_0)
      (broadcastInDim S40 ![] bcast_S_S40 (constantI S_ 32 0#32)))
    (addi (extractStridedSlice S40 ![0] te slices_S41_S40_0) (broadcastInDim S40 ![] bcast_S_S40 (constantI S_ 32 16#32)))
    (extractStridedSlice S40 ![0] te slices_S41_S40_0))

theorem starts_at {te : IVec S41 32} (h : InRange te) (k : Fin 40) : starts te (ix2 k 0) = word te k.val := by
  unfold starts
  pointwise []
  rw [word_of te (show k.val < 41 by omega)]
  have h0 := (h k.val (by omega)).1
  rw [word_of te (show k.val < 41 by omega)] at h0
  refine if_neg fun hc => ?_
  rw [cmpi_slt_eq] at hc
  exact absurd ((ofBool_decide_eq_one_iff _).mp hc) (not_lt.mpr h0)

/-- One group's product with its expert's weights. -/
def groupDot (te : IVec S41 32) (x : FVec Ideal S10240x4096 .bf16) (w : FVec Ideal S2x16x4096x1024 .f32) : FVec Ideal S40x256x1024 .f32 :=
  Host.dotGeneral (φ₁ := .f32) (φ₂ := .f32) dot_S40x256x4096_S40x4096x1024_S40x256x1024_2_1_1_2_0_0 none
    (shapeCast _ (extf .f32 x bitsLt_bf16_f32) shapeCasts_S10240x4096_S40x256x4096)
    (Host.gather gather_S16x4096x1024_S40x1_S40x4096x1024_12_0_n_n_0_1_140961024
      (shapeCast _ (extractStridedSlice S1x16x4096x1024 ![0, 0, 0, 0] w slices_S2x16x4096x1024_S1x16x4096x1024_0_0_0_0)
        shapeCasts_S1x16x4096x1024_S16x4096x1024) (starts te))

theorem rows_at (te : IVec S41 32) (h : InRange te) (w : FVec Ideal S16x4096x1024 .f32) (k : Fin 40) (d : Fin 4096) (q : Fin 1024) :
    Host.gather gather_S16x4096x1024_S40x1_S40x4096x1024_12_0_n_n_0_1_140961024 w (starts te) (ix3 k d q) = w (ix3 (expert te k.val) d q) := by
  refine Take.gather_at _ w _ _ _ fun a => ?_
  change Fin 3 at a
  fin_cases a
  · show GatherDims.start _ _ _ 0 + 0 + 0 = (expert te k.val).val
    rw [Take.start_at _ _ _ 0 (by decide) (ix2 k 0) (fun b => by change Fin 2 at b; fin_cases b <;> rfl), starts_at h, (expert_of h (by omega)).2]
    have := (expert te k.val).isLt
    show min _ (16 - 1) + 0 + 0 = _
    omega
  · show 0 + 0 + d.val = d.val; omega
  · show 0 + 0 + q.val = q.val; omega

theorem groupDot_at {te : IVec S41 32} (h : InRange te) (x : FVec Ideal S10240x4096 .bf16) (w : FVec Ideal S2x16x4096x1024 .f32)
    (k : Fin 40) (r : Fin 256) (q : Fin 1024) (p : Fin 10240) (hp : p.val = k.val * 256 + r.val) :
    groupDot te x w (ix3 k r q) = dotRow te x w p q := by
  have hk : p.val / 256 = k.val := by omega
  unfold groupDot dotRow
  pointwise []
  refine Finset.sum_congr rfl fun d _ => ?_
  rw [rows_at te h, hk]
  refine congrArg₂ (· * ·) (congrArg x (congrArg (ix2 · d) (Fin.ext hp.symm))) ?_
  pointwise []
  all_goals rfl

/-- The groups in use, as the reference's mask over one axis. -/
def live (te : IVec S41 32) : IVec S40x256x1024 1 :=
  broadcastInDim S40x256x1024 ![0, 1, 2] bcast_S40x1x1_S40x256x1024_0_1_2 (broadcastInDim S40x1x1 ![0] bcast_S40_S40x1x1_0
    (cmpi .slt (iotaInDim S40 32 0) (broadcastInDim S40 ![] bcast_S_S40
      (shapeCast _ (extractStridedSlice S1 ![40] te slices_S41_S1_40) shapeCasts_S1_S_))))

theorem live_at (te : IVec S41 32) (k : Fin 40) (r : Fin 256) (q : Fin 1024) :
    live te (ix3 k r q) = 1#1 ↔ (k.val : ℤ) < (word te 40).toInt := by
  unfold live
  pointwise []
  rw [cmpi_slt_eq, ofBool_decide_eq_one_iff, toInt_ofNat_of_lt (by omega), word_of te (by omega)]
  exact Iff.rfl

/-- The reference's result, as its run writes it. -/
def grouped (te : IVec S41 32) (x : FVec Ideal S10240x4096 .bf16) (wg wu : FVec Ideal S2x16x4096x1024 .f32) : FVec Ideal S10240x1024 .bf16 :=
  shapeCast _ (truncf .bf16 (select (live te)
    (mulf (mulf (groupDot te x wg) (Host.divf (broadcastInDim S40x256x1024 ![] bcast_S_S40x256x1024 (constant (F := Ideal) S_ .f32 0x3F800000#32))
      (addf (broadcastInDim S40x256x1024 ![] bcast_S_S40x256x1024 (constant (F := Ideal) S_ .f32 0x3F800000#32)) (Host.exp (Host.negf (groupDot te x wg))))))
      (groupDot te x wu))
    (broadcastInDim S40x256x1024 ![] bcast_S_S40x256x1024 (id (constant (F := Ideal) S_ .f32 0x00000000#32)))) bitsLt_bf16_f32)
    shapeCasts_S40x256x1024_S10240x1024

theorem grouped_at {te : IVec S41 32} (h : InRange te) (x : FVec Ideal S10240x4096 .bf16) (wg wu : FVec Ideal S2x16x4096x1024 .f32) (p : Fin 10240) (q : Fin 1024) :
    grouped te x wg wu (ix2 p q) = hidden te x wg wu (ix2 p q) := by
  unfold grouped hidden silu
  pointwise []
  rw [groupDot_at h x wg _ _ q p (by show p.val = p.val / 256 * 256 + p.val % 256; omega),
    groupDot_at h x wu _ _ q p (by show p.val = p.val / 256 * 256 + p.val % 256; omega)]
  refine if_congr (live_at te _ _ q) rfl ?_
  rw [id_eq]
  pointwise []

/-- The reference's result is the gated product. -/
theorem grouped_eq {te : IVec S41 32} (h : InRange te) (x : FVec Ideal S10240x4096 .bf16) (wg wu : FVec Ideal S2x16x4096x1024 .f32) :
    grouped te x wg wu = hidden te x wg wu := by
  funext y
  have hy : ix2 (n0 := 10240) (n1 := 1024) (y 0) (y 1) = y := funext fun a => by
    change Fin 2 at a; fin_cases a <;> rfl
  rw [← hy]
  exact grouped_at h x wg wu _ _

end Natten.Up
-- ==== Proof.UpValue.lean ====
module
/- The experts' first product: the launch's result array is the gated product the reference writes. -/
public import proofs.«01_k».proof.Proof.UpFrame
public import proofs.«01_k».proof.Proof.UpRead
public import Idealize.ShloMosaic.Lib.Pipeline.Covers
@[expose] public section
set_option maxRecDepth 16384
noncomputable section
namespace Natten.Up
open Natten.Routed (InRange expert expert_of word)
open Cert.KernelUpIdeal Cert.KernelUpIdeal.Gen
open Idealize.ShloMosaic Idealize.ShloMosaic.TcCoe Idealize.SL.Sem

section anyFloat
variable {F : FTy → Type} [FloatOps F] (m : (ℓ : Loc nD τ sig) → Buf (Elt F) ℓ)

/-- A table whose experts exist asks only for blocks that lie in the weights. -/
theorem ok_of_range (h : InRange (words m)) : Ok m := by
  have inside : ∀ (i : grid0.Coords) a, (cc0_transform_1 k0_off1_inb numel1_S1 (tbl m) i a + 1) * S1x1x4096x512.size a ≤ S2x16x4096x1024.size a := fun i a => by
    have hk : (i 1).val < 40 := (i 1).isLt
    have hj : (i 0).val < 2 := (i 0).isLt
    rw [weights_index, (expert_of h (by omega)).1]
    have he := (expert (words m) (i 1).val).isLt
    change Fin 4 at a
    fin_cases a
    · show (0 + 1) * 1 ≤ 2; omega
    · show ((expert (words m) (i 1).val).val + 1) * 1 ≤ 16; omega
    · show (0 + 1) * 4096 ≤ 4096; omega
    · show ((i 0).val + 1) * 512 ≤ 1024; omega
  exact ⟨fun i => ⟨inside i, .inl rfl⟩, fun i => ⟨inside i, .inl rfl⟩⟩

/-- The arguments end as they were. -/
theorem kept (hO : Ok m) (r) (hr : Pipeline.FramePost (Pipeline.pin pcfgs fun _ => adm m hO) (dats m hO) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(hr c).2 main_arg0 (by decide : main_arg0 ∈ Pipeline.restRefs sig spec0),
    ((hr c).1 0).trans (((dats m hO 0 c).arrAt_in 0 rfl _).trans (A_eq m hO c 0)),
    ((hr c).1 1).trans (((dats m hO 0 c).arrAt_in 1 rfl _).trans (A_eq m hO c 1)),
    ((hr c).1 2).trans (((dats m hO 0 c).arrAt_in 2 rfl _).trans (A_eq m hO c 2))⟩

/-- The launch runs, and leaves its arguments and counters as they were. -/
theorem frame (ρ : Dev nD → PrngReg) (h : InRange (words m)) : θ_run defs (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run defs _ _).mono (fun r hr => ⟨kept m (ok_of_range m h) r hr.1, hr.2⟩) (launched m ρ (ok_of_range m h))
end anyFloat

/-- A cast block of the weights. -/
theorem gate_cast_at (w : Vec Ideal S1x1x4096x512 .f32) (d : Fin 4096) (j : Fin 512) : k0_pay1 w (ix2 d j) = w (ix4 0 0 d j) := by
  pointwise [k0_pay1]
theorem up_cast_at (w : Vec Ideal S1x1x4096x512 .f32) (d : Fin 4096) (j : Fin 512) : k0_pay2 w (ix2 d j) = w (ix4 0 0 d j) := by
  pointwise [k0_pay2]

/-- One block of the gated product. -/
theorem payload_at (x : Vec Ideal S256x4096 .bf16) (wg wu : Vec Ideal S4096x512 .bf16) (i : Fin 256) (j : Fin 512) :
    k0_pay3 x wg wu (ix2 i j)
      = silu (∑ d : Fin 4096, x (ix2 i d) * wg (ix2 d j)) * ∑ d : Fin 4096, x (ix2 i d) * wu (ix2 d j) := by
  unfold silu
  rw [← zero_sub]
  pointwise [k0_pay3]

theorem zero_at (i : Fin 256) (j : Fin 512) : (k0_pay4 : FVec Ideal S256x512 .bf16) (ix2 i j) = 0 := by
  pointwise [k0_pay4]

variable (m : (ℓ : Loc nD τ sig) → Buf (Elt Ideal) ℓ) (hO : Ok m) (c : Dev nD)

theorem tokens_index (i : grid0.Coords) : cc0_transform_0 i = ![(i 1).val, 0] := by
  have h : (i 1).val < 40 := (i 1).isLt
  funext a
  fin_cases a
  · show (BitVec.ofNat 32 (i 1).val).toNat = (i 1).val
    rw [BitVec.toNat_ofNat]; exact Nat.mod_eq_of_lt (by omega)
  · rfl

theorem result_index (i : grid0.Coords) : cc0_transform_3 i = ![(i 1).val, (i 0).val] := by
  have h : (i 1).val < 40 := (i 1).isLt
  have h' : (i 0).val < 2 := (i 0).isLt
  funext a
  fin_cases a
  · show (BitVec.ofNat 32 (i 1).val).toNat = (i 1).val
    rw [BitVec.toNat_ofNat]; exact Nat.mod_eq_of_lt (by omega)
  · show (BitVec.ofNat 32 (i 0).val).toNat = (i 0).val
    rw [BitVec.toNat_ofNat]; exact Nat.mod_eq_of_lt (by omega)

/-- Point `t`'s block of the tokens. -/
abbrev rows (t : Fin (cfgM m hO).N) : Vec Ideal S256x4096 .bf16 := iblk m hO c 0 t

theorem tokens_at (t : Fin (cfgM m hO).N) (i : Fin 256) (d : Fin 4096) (n : Fin 10240) (hn : n.val = (grid0.coords t 1).val * 256 + i.val) :
    rows m hO c t (ix2 i d) = V m c main_arg1 (ix2 n d) := by
  refine congrArg (V m c main_arg1) (funext fun a => Fin.ext ?_)
  have e : ((((cfgM m hO).win 0).blk t).view.emb (ix2 i d) a : ℕ) = cc0_transform_0 (grid0.coords t) a * S256x4096.size a + (ix2 i d a).val := by
    blk_simp
    rfl
  refine e.trans ?_
  rw [tokens_index]
  change Fin 2 at a
  fin_cases a
  · show (grid0.coords t 1).val * 256 + i.val = n.val; omega
  · show 0 * 4096 + d.val = d.val; omega

/-- What a point leaves in the result's block. -/
theorem block_at (h : InRange (words m)) (t : Fin (cfgM m hO).N) (i : Fin 256) (j : Fin 512) (n : Fin 10240) (k : Fin 1024)
    (hn : n.val = (grid0.coords t 1).val * 256 + i.val) (hk : k.val = (grid0.coords t 0).val * 512 + j.val) :
    out m hO c t (ix2 i j) = hidden (words m) (V m c main_arg1) (V m c main_arg2) (V m c main_arg3) (ix2 n k) := by
  have ht : (grid0.coords t 1).val < 40 := (grid0.coords t 1).isLt
  have hg : n.val / 256 = (grid0.coords t 1).val := by omega
  have hz : ∀ (d : Fin 4096) a, (ix4 (n0 := 2) (n1 := 16) (n2 := 4096) (n3 := 1024) 0 (expert (words m) (grid0.coords t 1).val) d k a).val
      = ![0, (word (words m) (grid0.coords t 1).val).toNat, 0, (grid0.coords t 0).val] a * S1x1x4096x512.size a
        + (ix4 (n0 := 1) (n1 := 1) (n2 := 4096) (n3 := 512) 0 0 d j a).val := fun d a => by
    rw [(expert_of h (by omega)).1]
    change Fin 4 at a
    fin_cases a
    · rfl
    · show (expert (words m) (grid0.coords t 1).val).val = (expert (words m) (grid0.coords t 1).val).val * 1 + 0; omega
    · show d.val = 0 * 4096 + d.val; omega
    · exact hk
  have eg : ∑ d : Fin 4096, rows m hO c t (ix2 i d) * gate m hO c t (ix2 d j) = dotRow (words m) (V m c main_arg1) (V m c main_arg2) n k :=
    Finset.sum_congr rfl fun d _ => by
      rw [tokens_at m hO c t i d n hn, show gate m hO c t (ix2 d j) = _ from gate_cast_at _ d j, gate_at m hO c t _ _ (hz d), hg]
  have eu : ∑ d : Fin 4096, rows m hO c t (ix2 i d) * up m hO c t (ix2 d j) = dotRow (words m) (V m c main_arg1) (V m c main_arg3) n k :=
    Finset.sum_congr rfl fun d _ => by
      rw [tokens_at m hO c t i d n hn, show up m hO c t (ix2 d j) = _ from up_cast_at _ d j, up_at m hO c t _ _ (hz d), hg]
  unfold out leave hidden
  by_cases hl : Live (words m) (grid0.coords t)
  · rw [if_pos hl]
    refine ((payload_at (rows m hO c t) (gate m hO c t) (up m hO c t) i j).trans
      (congrArg₂ (fun a b => silu a * b) eg eu)).trans (if_pos ?_).symm
    show ((n.val / 256 : ℕ) : ℤ) < _
    rw [hg]; exact hl
  · rw [if_neg hl, zero_at]
    refine (if_neg ?_).symm
    show ¬ ((n.val / 256 : ℕ) : ℤ) < _
    rw [hg]; exact hl

/-- THE RESULT ARRAY after the launch. -/
theorem array_eq (h : InRange (words m)) : (dats m hO 0 c).arrAt 3 (cfgM m hO).N = hidden (words m) (V m c main_arg1) (V m c main_arg2) (V m c main_arg3) := by
  refine (dats m hO 0 c).arrAt_eq_of_covers 3 _
    (((cfgM m hO).win 3).covers_of_indexMap_surj rfl (show ∀ a : Fin 2, 0 < S256x512.size a by decide) fun β => ?_) fun t hf y => ?_
  · have width : ((cfgM m hO).win 3).nblk (1 : Fin 2) = 2 := by
      show (S10240x1024.size 1 + S256x512.size 1 - 1) / S256x512.size 1 = 2; decide
    have height : ((cfgM m hO).win 3).nblk (0 : Fin 2) = 40 := by
      show (S10240x1024.size 0 + S256x512.size 0 - 1) / S256x512.size 0 = 40; decide
    let i : grid0.Coords := fun a => match a with | 0 => (β (1 : Fin 2)).cast width | 1 => (β (0 : Fin 2)).cast height
    refine ⟨i, fun a => ?_⟩
    show cc0_transform_3 i a = _
    rw [result_index]
    change Fin 2 at a
    fin_cases a <;> rfl
  · let z : S10240x1024.Idx := (((cfgM m hO).win 3).blk t).view.emb y
    let x : S256x512.Idx := y
    have e : ∀ a : Fin 2, (z a).val = ![(grid0.coords t 1).val, (grid0.coords t 0).val] a * S256x512.size a + (x a).val := fun a => by
      rw [← result_index]
      show ((((cfgM m hO).win 3).blk t).view.emb y a : ℕ) = _
      blk_simp
      rfl
    have ex : x = ix2 (x 0) (x 1) := funext fun a => by change Fin 2 at a; fin_cases a <;> rfl
    have ez : z = ix2 (z 0) (z 1) := funext fun a => by change Fin 2 at a; fin_cases a <;> rfl
    have h3 : out m hO c t x = hidden (words m) (V m c main_arg1) (V m c main_arg2) (V m c main_arg3) z := by
      rw [ex, ez]
      exact block_at m hO c h t (x 0) (x 1) (z 0) (z 1) (e 0) (e 1)
    blk_simp
    rw [after3]
    exact h3

/-- The launch's run: the result is the gated product, the arguments and counters are as they were. -/
theorem run_blocks (ρ : Dev nD → PrngReg) (h : InRange (words m)) : θ_run defs (onTc (τ := τ) (main (F := Ideal))) (s₀ m ρ) (fun r => ∀ c : Dev nD,
    r.2.mem ((c : Thread nD τ).loc main_v0) = hidden (words m) (V m c main_arg1) (V m c main_arg2) (V m c main_arg3)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r hr c => ⟨((hr.1 c).1 3).trans (array_eq m _ c h), kept m (ok_of_range m h) r hr.1 c⟩) (launched m ρ (ok_of_range m h))

end Natten.Up
-- ==== Proof.UpPre.lean ====
module
/- What the precondition on the experts says, and the printed program as the idealized one's text. -/
public import proofs.«01_k».proof.Proof.UpValue
public import proofs.«01_k».proof.Proof.Gen.Pre_experts
public import proofs.«01_k».proof.Proof.Gen.KernelUp.Skeleton
public import Idealize.ShloMosaic.Lib.ReduceAll
@[expose] public section
noncomputable section
namespace Natten.Up
open Natten.Routed (InRange word word_of)
open Idealize.ShloMosaic Idealize.ShloMosaic.TcCoe Idealize.ShloMosaic.WordCmp Idealize.SL.Sem

variable {F : FTy → Type} [FloatOps F]

section range
open Cert.Pre_experts

/-- The words the precondition reads are the groups' experts, and each is in range. -/
theorem inRange_of (te : IVec S41 32) (x : FVec F S10240x4096 .bf16) (wg wu : FVec F S2x16x4096x1024 .f32)
    (hp : Cert.Pre_experts.fn (F := F) te x wg wu = fun _ => 1#1) : InRange te := by
  intro k hk
  have h0 := congrFun hp (fun a => a.elim0)
  haveI : Subsingleton S_.Idx := ⟨fun a b => funext fun k => k.elim0⟩
  have h1 := Host.reduce_andi_all _ _ _ _ _ h0 (ix1 ⟨k, by omega⟩)
  obtain ⟨h2, h3⟩ := IntOp.andi_eq_one.1 h1
  have e : word te k = extractStridedSlice S40 ![0] te Gen.slices_S41_S40_0 (ix1 ⟨k, by omega⟩) := by
    rw [word_of te (by omega : k < 41)]
    pointwise []
  rw [e]
  exact ⟨IntOp.cmpi_sge.1 h2, IntOp.cmpi_slt.1 h3⟩
end range

section text
set_option maxRecDepth 65536

/-- The printed program's body table is the idealized program's, -/
theorem text_defs₀ : Cert.KernelUp.defs₀ (F := F) = Cert.KernelUpIdeal.defs₀ (F := F) := by
  unfold Cert.KernelUp.defs₀ Cert.KernelUpIdeal.defs₀
  congr 1
  funext l
  match l with | 0 => rfl

/-- its table with the launch too, -/
theorem text_defs : Cert.KernelUp.defs (F := F) = Cert.KernelUpIdeal.defs (F := F) := by
  unfold Cert.KernelUp.defs Cert.KernelUpIdeal.defs
  rw [text_defs₀]
  rfl

/-- and its main. -/
theorem text_main : Cert.KernelUp.main (F := F) = Cert.KernelUpIdeal.main (F := F) := rfl
end text

end Natten.Up
-- ==== Proof.DownRun.lean ====
module
/- One point of the experts' second product: what the body leaves in its buffers. -/
public import proofs.«01_k».proof.Proof.Gen.KernelDownIdeal.Launch
public import proofs.«01_k».proof.Proof.Gen.KernelDownIdeal.Skeleton
public import proofs.«01_k».proof.Proof.Routed

@[expose] public section

set_option maxRecDepth 16384

noncomputable section

namespace Natten.Down

open Natten.Routed (word word_of live_bit dead_bit part_bit fresh_bit offset_this offset_before load_whole read_kept)
open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts: word `g` below 160 is the expert of the `g`-th group of 256 rows, word 160 the number of groups
    in use. -/
abbrev tab : Memref sig .tc .smem S161 .i32 := Memref.whole main_arg0

/-- The table's buffer on core `c`, behind a name that keeps the memref's view folded. -/
abbrev TabBuf (c : Dev nD) {S : Shape} {e : EltTy} (M : Memref sig .tc .smem S e) : Type := Buf (Elt F) (M.view.loc (c : Thread nD τ))

/-- The table held for reading, at half the full share. -/
abbrev tabAt (c : Dev nD) {S : Shape} {e : EltTy} (M : Memref sig .tc .smem S e) (f : TabBuf (F := F) c M) : sProp 𝕄 :=
  M.view.loc (c : Thread nD τ) ↦{fullShare.right} f

/-- The grid point is the first, or its group's expert is not the previous group's. -/
abbrev Fresh (xt : S161.Idx → BitVec 32) (i : grid0.Coords) : Prop := Routed.Fresh xt (i 1).val

/-- The grid point's group is in use. -/
abbrev Live (xt : S161.Idx → BitVec 32) (i : grid0.Coords) : Prop := ((i 1).val : ℤ) < (word xt 160).toInt

/-- The second conditional of the body is taken at the groups in use whose rows lie in the first part, -/
theorem part0_iff (xt : S161.Idx → BitVec 32) (i : grid0.Coords) : k0_cond2 i (word xt 160) = 1#1 ↔ (0 ≤ (i 1).val ∧ (i 1).val < 40) ∧ Live xt i :=
  part_bit (i 1).isLt (by decide) (by decide) _
/-- the third at those of the second part, -/
theorem part1_iff (xt : S161.Idx → BitVec 32) (i : grid0.Coords) : k0_cond3 i (word xt 160) = 1#1 ↔ (40 ≤ (i 1).val ∧ (i 1).val < 80) ∧ Live xt i :=
  part_bit (i 1).isLt (by decide) (by decide) _
/-- the fourth at those of the third, -/
theorem part2_iff (xt : S161.Idx → BitVec 32) (i : grid0.Coords) : k0_cond4 i (word xt 160) = 1#1 ↔ (80 ≤ (i 1).val ∧ (i 1).val < 120) ∧ Live xt i :=
  part_bit (i 1).isLt (by decide) (by decide) _
/-- the fifth at those of the last, -/
theorem part3_iff (xt : S161.Idx → BitVec 32) (i : grid0.Coords) : k0_cond5 i (word xt 160) = 1#1 ↔ (120 ≤ (i 1).val ∧ (i 1).val < 160) ∧ Live xt i :=
  part_bit (i 1).isLt (by decide) (by decide) _
/-- and the sixth at the groups not in use. -/
theorem dead_iff (xt : S161.Idx → BitVec 32) (i : grid0.Coords) : k0_cond6 i (word xt 160) = 1#1 ↔ ¬ Live xt i :=
  dead_bit (i 1).isLt _

/-- A word the body loads from the table is the word at the load's offset. -/
theorem loaded (c : Dev nD) (xt : TabBuf (F := F) c tab) {off : Fin 1 → ℕ} (inb : ∀ a, off a + S1.size a ≤ S161.size a) {k : ℕ} (hk : off 0 = k) :
    View.readAt (Elt F) tab.view (Rect.unit (s := S161) off S1.size inb).toLoadRect xt (Shape.Idx.first (numel1_S1.symm ▸ Nat.one_pos)) = word xt k := by
  have h : k < 161 := by have := inb 0; change off 0 + 1 ≤ 161 at this; omega
  rw [word_of _ h]
  refine congrArg xt (funext fun a => Fin.ext ?_)
  fin_cases a
  subst hk
  exact Nat.add_zero _

/-- The first conditional of the body is taken exactly where the weight block is new. -/
theorem fresh_iff (c : Dev nD) (xt : TabBuf (F := F) c tab) (i : grid0.Coords) :
    Scalar.cmpi .ne (Scalar.extui (Scalar.ori (Scalar.cmpi .eq (BitVec.ofNat 32 (i 1).val) 0#32)
      (Scalar.cmpi .ne (View.readAt (Elt F) tab.view (Rect.unit (s := S161) (k0_off1 i) S1.size (k0_off1_inb i)).toLoadRect xt (Shape.Idx.first (numel1_S1.symm ▸ Nat.one_pos)))
        (View.readAt (Elt F) tab.view (Rect.unit (s := S161) (k0_off2 i) S1.size (k0_off2_inb i)).toLoadRect xt (Shape.Idx.first (numel1_S1.symm ▸ Nat.one_pos)))))) 0#32 = 1#1 ↔ Fresh xt i := by
  have h : (i 1).val < 160 := (i 1).isLt
  rw [loaded c xt _ (offset_this h), loaded c xt _ (offset_before h)]
  exact fresh_bit h _ _

/-- What the weight scratch holds after a point: the point's own block, cast, where that is new. -/
abbrev keep (xt : S161.Idx → BitVec 32) (i : grid0.Coords) (new old : Vec F S1024x4096 .bf16) : Vec F S1024x4096 .bf16 :=
  if Fresh xt i then new else old

/-- The one of the four parts' blocks that holds a group's rows. -/
def pick {α : Type} (k : ℕ) (x0 x1 x2 x3 : α) : α := if k < 40 then x0 else if k < 80 then x1 else if k < 120 then x2 else x3

/-- What holds between the four blocks and four others, each where it is the one picked, holds between the two picked. -/
theorem pick_rel {α β : Type} {k : ℕ} (hk : k < 160) (R : α → β → Prop) {x0 x1 x2 x3 : α} {y0 y1 y2 y3 : β}
    (h0 : 0 ≤ k → k < 40 → R x0 y0) (h1 : 40 ≤ k → k < 80 → R x1 y1) (h2 : 80 ≤ k → k < 120 → R x2 y2) (h3 : 120 ≤ k → k < 160 → R x3 y3) :
    R (pick k x0 x1 x2 x3) (pick k y0 y1 y2 y3) := by
  unfold pick
  split_ifs with c0 c1 c2
  · exact h0 (Nat.zero_le _) c0
  · exact h1 (not_lt.mp c0) c1
  · exact h2 (not_lt.mp c1) c2
  · exact h3 (not_lt.mp c2) hk

/-- What the output block holds after a point: the product where the group is in use, else zeros. -/
abbrev leave (xt : S161.Idx → BitVec 32) (i : grid0.Coords) (new : Vec F S256x4096 .bf16) : Vec F S256x4096 .bf16 :=
  if Live xt i then new else k0_pay1

/-- The five conditional stores of the output block, one after the other, leave `leave`. -/
theorem five (xt : S161.Idx → BitVec 32) (i : grid0.Coords) (x0 x1 x2 x3 : Vec F S256x1024 .bf16) (w : Vec F S1024x4096 .bf16) (old : Vec F S256x4096 .bf16) :
    (if ¬ Live xt i then k0_pay1 else if (120 ≤ (i 1).val ∧ (i 1).val < 160) ∧ Live xt i then k0_pay6 x3 w
      else if (80 ≤ (i 1).val ∧ (i 1).val < 120) ∧ Live xt i then k0_pay5 x2 w else if (40 ≤ (i 1).val ∧ (i 1).val < 80) ∧ Live xt i then k0_pay4 x1 w
      else if (0 ≤ (i 1).val ∧ (i 1).val < 40) ∧ Live xt i then k0_pay3 x0 w else old) = leave xt i (k0_pay3 (pick (i 1).val x0 x1 x2 x3) w) := by
  have h : (i 1).val < 160 := (i 1).isLt
  unfold leave pick
  by_cases hl : Live xt i
  · simp only [hl, not_true_eq_false, if_false, if_true, and_true]
    split_ifs <;> first | rfl | omega
  · simp only [hl, not_false_eq_true, if_true, if_false]

set_option maxHeartbeats 1000000 in
/-- The body at one point: it leaves its inputs, the scratch at `keep`, and the output block at `leave`. -/
theorem run (c : Dev nD) (i : grid0.Coords) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1x1024x4096 .f32) (harg7 : arg7.IsWhole) (arg8 : Memref sig .tc .vmem S256x4096 .bf16) (harg8 : arg8.IsWhole) (arg9 : Memref sig .tc .vmem S1024x4096 .bf16) (harg9 : arg9.IsWhole)
    (x0 x1 x2 x3 : Vec F S256x1024 .bf16) (x4 : Vec F S1x1x1024x4096 .f32) (s0 : Vec F S1024x4096 .bf16) (xt : TabBuf (F := F) c tab) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ tabAt c tab xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (leave xt i (k0_pay3 (pick (i 1).val x0 x1 x2 x3) (keep xt i (k0_pay2 x4) s0))) ∗ owns (c : Thread nD τ) arg9 fullShare (keep xt i (k0_pay2 x4) s0) ∗ tabAt c tab xt) -∗ K ⟨⟩))
          ⊢ wp frame (wpE (defs₀ (F := F)) Variants.none c none) E (cc0_moe_down i tab (Memref.isWhole_whole _) arg3 harg3 arg4 harg4 arg5 harg5 arg6 harg6 arg7 harg7 arg8 harg8 arg9 harg9) K := by
    intro E K
    simp only [cc0_moe_down_eq_skeleton]; unfold cc0_moe_down_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, HT0, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs0
    sl_exec
    have e1 : run.sl.v11 c i xt = 1#1 ↔ Fresh xt i := fresh_iff c xt i
    have e2 : run.sl.r c xt = word xt 160 := loaded c xt _ rfl
    have rows : ∀ {M : Memref sig .tc .vmem S256x1024 .bf16} (hM : M.IsWhole) (x : Vec F S256x1024 .bf16),
        M.view.readAt (Elt F) (Rect.unit (s := S256x1024) ![0, 0] S256x1024.size inb_S256x1024_S256x1024_0_0).toLoadRect (hM.unread x) = x :=
      fun hM x => (load_whole _ _ _ (by decide)).trans (hM.read_unread x)
    have l4 : arg7.view.readAt (Elt F) (Rect.unit (s := S1x1x1024x4096) ![0, 0, 0, 0] S1x1x1024x4096.size inb_S1x1x1024x4096_S1x1x1024x4096_0_0_0_0).toLoadRect (harg7.unread x4) = x4 :=
      (load_whole _ _ _ (by decide)).trans hf4
    have w : run.sl.v40 c i arg7 harg7 arg9 harg9 x4 s0 xt = keep xt i (k0_pay2 x4) s0 := by
      unfold run.sl.v40
      rw [l4, load_whole _ _ _ (by decide)]
      exact read_kept e1 _ hfs0 _ (by decide) _
    rw [e2, w, l4, rows, rows, rows, rows]
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      refine (read_kept (dead_iff xt i) _ (read_kept (part3_iff xt i) _ (read_kept (part2_iff xt i) _ (read_kept (part1_iff xt i) _
        (read_kept (part0_iff xt i) _ rfl _ (by decide) _) _ (by decide) _) _ (by decide) _) _ (by decide) _) _ (by decide) _).trans ?_
      exact five xt i x0 x1 x2 x3 _ _
    isplitl [HS0]
    · iexists _; isplitr; swap; · iexact HS0
      ipureintro
      exact read_kept e1 _ hfs0 _ (by decide) _
    iexact HT0

end Natten.Down
end
-- ==== Proof.DownFrame.lean ====
module

public import proofs.«01_k».proof.Proof.DownRun

@[expose] public section

set_option maxRecDepth 16384

noncomputable section

/-! # The launch of the experts' second product, for every table whose experts exist -/

namespace Natten.Down

open Natten.Routed (word word_of)
open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the launch begins. -/
abbrev V (c : Dev nD) (b : Ref sig .tc) : Buf (Elt F) ((c : Thread nD τ).loc b) := m ((c : Thread nD τ).loc b)

/-- The program is the launch alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched table's contents. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table as words. -/
abbrev words : S161.Idx → BitVec 32 := tbl m 0

/-- Every block the launch asks for lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table's half that the body is lent. -/
theorem table_half (c : Dev nD) : (Pipeline.ΦT pre0 (tbl m) c : sProp 𝕄) = iprop(tabAt c tab (words m)) := by
  unfold Pipeline.ΦT Pipeline.prefHeld
  rw [show (Finset.univ : Finset (Fin 1)) = {(0 : Fin 1)} from by decide, bigSep_singleton]
  rfl

/-- The block of the weights at a grid point: the expert's, and the point's column block. -/
theorem weights_index (pf : pre0.Contents (Elt F)) (i : grid0.Coords) :
    cc0_transform_4 k0_off1_inb numel1_S1 pf i = ![0, (word (pf 0) (i 1).val).toNat, 0, (i 0).val] := by
  have h : (i 1).val < 160 := (i 1).isLt
  have h' : (i 0).val < 1 := (i 0).isLt
  have hw : pf.at 0 (Rect.unit (s := S161) (k0_off1 i) S1.size (k0_off1_inb i)) numel1_S1 = word (pf 0) (i 1).val := by
    refine Eq.trans (congrArg (pf 0) (funext fun a => Fin.ext ?_)) (word_of (pf 0) (by omega)).symm
    fin_cases a
    exact Routed.offset_this h
  have hj : (BitVec.ofNat 32 (i 0).val).toNat = (i 0).val := by rw [BitVec.toNat_ofNat]; exact Nat.mod_eq_of_lt (by omega)
  funext a
  fin_cases a
  · rfl
  · exact congrArg BitVec.toNat hw
  · rfl
  · exact hj

/-- The output's block is stored at every grid point. -/
theorem never_idle (hO : Ok m) (i : (cfgM m hO).grid.Coords) : (cfgM m hO).idle 5 i = false := by
  have hw : (tbl m).atD 0 ![160] = word (words m) 160 := by
    refine Eq.trans (dif_pos (by decide)) ((congrArg (tbl m 0) (funext fun a => Fin.ext ?_)).trans (word_of (words m) (by omega)).symm)
    fin_cases a
    rfl
  change idle0 (tbl m) 5 i = false
  dsimp only [idle0]
  rw [hw]
  have p0 := part0_iff (words m) i
  have p1 := part1_iff (words m) i
  have p2 := part2_iff (words m) i
  have p3 := part3_iff (words m) i
  have pd := dead_iff (words m) i
  have h : (i 1).val < 160 := (i 1).isLt
  simp only [Bool.and_eq_false_iff, Bool.not_eq_false', beq_iff_eq, p0, p1, p2, p3, pd]
  omega

/-- Window `w`'s block of its array at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The weights' block, element by element. -/
theorem weights_at (hO : Ok m) (c : Dev nD) (t : Fin (cfgM m hO).N) (y : S1x1x1024x4096.Idx) (z : S2x16x1024x4096.Idx)
    (hz : ∀ a, (z a).val = ![0, (word (words m) (grid0.coords t 1).val).toNat, 0, (grid0.coords t 0).val] a * S1x1x1024x4096.size a + (y a).val) :
    iblk m hO c 4 t y = V m c main_arg5 z := by
  refine congrArg (V m c main_arg5) (funext fun a => Fin.ext ?_)
  rw [hz a, ← weights_index (tbl m) (grid0.coords t)]
  blk_simp
  rfl

/-- Point `t`'s block of the weights, cast. -/
abbrev down (hO : Ok m) (c : Dev nD) (t : Fin (cfgM m hO).N) : Vec F S1024x4096 .bf16 := k0_pay2 (iblk m hO c 4 t)

/-- Point `t`'s rows: the block of the part that holds them. -/
abbrev rows (hO : Ok m) (c : Dev nD) (t : Fin (cfgM m hO).N) : Vec F S256x1024 .bf16 :=
  pick (grid0.coords t 1).val (iblk m hO c 0 t : Vec F S256x1024 .bf16) (iblk m hO c 1 t) (iblk m hO c 2 t) (iblk m hO c 3 t)

/-- What point `t` leaves in the output's block. -/
def out (hO : Ok m) (c : Dev nD) (t : Fin (cfgM m hO).N) : Vec F S256x4096 .bf16 :=
  leave (words m) (grid0.coords t) (k0_pay3 (rows m hO c t) (down m hO c t))

/-- Before point `n` the scratch holds the cast block of the point before. -/
def Held (hO : Ok m) (c : Dev nD) (n : ℕ) (s0 : Vec F S1024x4096 .bf16) : Prop :=
  ∀ t : Fin (cfgM m hO).N, t.val + 1 = n → s0 = down m hO c t

/-- A point that casts no new block finds the scratch at its own block: the point before read the same one. -/
theorem held_keep (hO : Ok m) (c : Dev nD) (t : Fin (cfgM m hO).N) {s0 : Vec F S1024x4096 .bf16} (h : Held m hO c t.val s0) :
    keep (words m) (grid0.coords t) (down m hO c t) s0 = down m hO c t := by
  unfold keep
  by_cases hf : Fresh (words m) (grid0.coords t)
  · rw [if_pos hf]
  rw [if_neg hf]
  have hN : t.val < 160 := lt_of_lt_of_eq t.isLt N_0
  have e0 : ∀ u : Fin grid0.N, (grid0.coords u 0).val = u.val / 160 % 1 := fun u => Pipeline.Grid.coords_val u 0 (by decide) rfl
  have e1 : ∀ u : Fin grid0.N, (grid0.coords u 1).val = u.val / 1 % 160 := fun u => Pipeline.Grid.coords_val u 1 (by decide) rfl
  obtain ⟨hz, hw⟩ := not_or.mp hf
  rw [e1] at hz
  let u : Fin (cfgM m hO).N := ⟨t.val - 1, lt_of_le_of_lt (Nat.sub_le _ _) t.isLt⟩
  have hu : u.val = t.val - 1 := rfl
  have h0 := h u (by omega)
  have c0 : (grid0.coords u 0).val = (grid0.coords t 0).val := by rw [e0, e0, hu]; omega
  have c1 : (grid0.coords u 1).val = (grid0.coords t 1).val - 1 := by rw [e1, e1, hu]; omega
  have cw : word (words m) (grid0.coords u 1).val = word (words m) (grid0.coords t 1).val := by
    rw [c1]; exact (not_not.mp hw).symm
  refine h0.trans (congrArg k0_pay2 (funext fun y => ?_))
  have hz : ∀ a, ((((cfgM m hO).win 4).blk t).view.emb y a).val
      = ![0, (word (words m) (grid0.coords t 1).val).toNat, 0, (grid0.coords t 0).val] a * S1x1x1024x4096.size a + (y a).val := fun a => by
    rw [← weights_index (tbl m) (grid0.coords t)]; blk_simp; rfl
  rw [weights_at m hO c t y _ hz, weights_at m hO c u y _ (by rw [cw, c0]; exact hz)]

/-- The weight scratch. -/
abbrev scr0 : Memref sig .tc .vmem S1024x4096 .bf16 := Memref.whole cc0_scratch0

/-- What is not windows' at a launch's ends: the scratch at any contents, and the generator. -/
theorem rest_eq (c : Dev nD) :
    (Pipeline.ΦA spec0 c : sProp 𝕄)
      = iprop((∃ d, owns (c : Thread nD τ) scr0 fullShare d) ∗ (∃ r, prngReg c r)) := by
  unfold Pipeline.ΦA; rw [scopedRest0_eq]; simp only [scr0, owns_whole]; try rfl

/-- The invariant between points. -/
def between (hO : Ok m) (c : Dev nD) (n : ℕ) : sProp 𝕄 :=
  iprop((∃ s0, ⌜Held m hO c n s0⌝ ∗ owns (c : Thread nD τ) scr0 fullShare s0)
    ∗ (∃ r, prngReg c r) ∗ tabAt c tab (words m))

/-- The launch's proof data: the inputs' blocks stay, the output's block is left at `out`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out m hO c t
  Φ n := between m hO c n.val
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = out m hO c t := by dsimp only [dats]; try rfl

theorem inv_eq (hO : Ok m) (c : Dev nD) (n) : (dats m hO 0 c).Φ n = between m hO c n.val := by dsimp only [dats]

/-- Each input's current buffer holds its block at every point. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- Each window's current staging memref. -/
abbrev ms0 (hO : Ok m) (t : Fin (cfgM m hO).N) : Memref sig .tc .vmem S256x1024 .bf16 := spec0_0.stage ((cfgM m hO).slots t 0)
abbrev ms1 (hO : Ok m) (t : Fin (cfgM m hO).N) : Memref sig .tc .vmem S256x1024 .bf16 := spec0_1.stage ((cfgM m hO).slots t 1)
abbrev ms2 (hO : Ok m) (t : Fin (cfgM m hO).N) : Memref sig .tc .vmem S256x1024 .bf16 := spec0_2.stage ((cfgM m hO).slots t 2)
abbrev ms3 (hO : Ok m) (t : Fin (cfgM m hO).N) : Memref sig .tc .vmem S256x1024 .bf16 := spec0_3.stage ((cfgM m hO).slots t 3)
abbrev ms4 (hO : Ok m) (t : Fin (cfgM m hO).N) : Memref sig .tc .vmem S1x1x1024x4096 .f32 := spec0_4.stage ((cfgM m hO).slots t 4)
abbrev ms5 (hO : Ok m) (t : Fin (cfgM m hO).N) : Memref sig .tc .vmem S256x4096 .bf16 := spec0_5.stage ((cfgM m hO).slots t 5)

/-- The body at point `t`. -/
abbrev bodyAt (hO : Ok m) (t : Fin (cfgM m hO).N) : Prog (TpuEff nD τ sig (Elt F) Λ₀ .tc) PUnit :=
  cc0_moe_down (grid0.coords t) tab (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    scr0 (Memref.isWhole_whole _)

/-- What the body is given at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it gives back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [inv_eq, inv_eq, Fin.val_succ, Fin.val_castSucc,
    show (dats m hO 0 c).owesAt () t.succ = (dats m hO 0 c).owesAt () t.castSucc from rfl,
    after0, after1, after2, after3, after4, after5]
  unfold between
  iintro ⟨⟨⟨%s0, %hs, HS0⟩, Hg, HT0⟩, Ho, ⟨%d0, H0⟩, ⟨%d1, H1⟩, ⟨%d2, H2⟩, ⟨%d3, H3⟩, ⟨%d4, H4⟩, ⟨%d5, H5⟩⟩
  iapply ((run c (grid0.coords t) _ _ _ _ _ _ _ _ _ _ _ _ _ _ (iblk m hO c 0 t) (iblk m hO c 1 t) (iblk m hO c 2 t) (iblk m hO c 3 t) (iblk m hO c 4 t) s0 (words m)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HT0]; · iexact HT0
  rw [held_keep m hO c t hs]
  iintro ⟨H0, H1, H2, H3, H4, H5, HS0, HT0⟩
  isplitl [HS0 Hg HT0]
  · isplitl [HS0]
    · iexists _
      isplitr; swap
      · iexact HS0
      ipureintro
      intro u hu
      obtain rfl : u = t := Fin.ext (by omega)
      rfl
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexact H4
  iexact H5

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The launch's obligation of its body. -/
theorem body_obligation (hO : Ok m) (c : Dev nD) : BodyObligation (dats (F := F) m hO 0 c) (defs₀ (F := F)) Variants.none () Set.univ := fun t => by
  rw [bigSep_W0, bigSep_W0, defs₀_row m hO]
  simp only [never_idle m hO]
  exact triple_restated (sound_body m hO c t) rfl .rfl fun _ => by
    rw [show idle0 (tbl m) 5 ((pcfg0.gridAt (tbl m)).coords t) = false from never_idle m hO _]; exact .rfl

-- the launch theorem's implicit arguments are read off its conclusion, through plain definitions
set_option backward.isDefEq.respectTransparency.types false in
/-- THE LAUNCH: it ends with every array at its named contents and every counter at zero. -/
theorem launched (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) (hQ' := fun _ h => h) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => by
      rw [rest_eq, table_half]
      show _ ⊢ between m hO c 0
      unfold between
      iintro ⟨⟨⟨%s0, HS0⟩, Hg⟩, HT0⟩
      isplitl [HS0]
      · iexists s0
        isplitr; swap
        · iexact HS0
        ipureintro
        intro u hu
        omega
      isplitl [Hg]; · iexact Hg
      iexact HT0)
    (hout := fun c => by
      rw [rest_eq]
      show between m hO c _ ⊢ _
      unfold between
      iintro ⟨⟨%s0, %hs, HS0⟩, Hg, HT0⟩
      isplitl [HS0]
      · iexists s0; iexact HS0
      iexact Hg)

end Natten.Down
end
-- ==== Proof.DownRead.lean ====
module
/- The experts' second product as the reference writes it, read at one index. -/
public import proofs.«01_k».proof.Proof.Take
public import proofs.«01_k».proof.Proof.DownRun
public import proofs.«01_k».proof.Proof.Gen.ReferenceDownIdeal
public import proofs.«01_k».proof.Proof.Gen.ReferenceDownIdeal.Run
public import Idealize.ShloMosaic.Lib.Pipeline.ValueKit
@[expose] public section
set_option maxRecDepth 16384
noncomputable section
namespace Natten.Down
open Natten.Routed (InRange expert expert_of word word_of)
open Cert.ReferenceDownIdeal Cert.ReferenceDownIdeal.Gen
open Idealize.ShloMosaic Idealize.ShloMosaic.TcCoe Idealize.ShloMosaic.WordCmp

/-- Entry `(p, f)` of the four parts laid one under the other. -/
def stacked (h0 h1 h2 h3 : FVec Ideal S10240x1024 .bf16) (p : Fin 40960) (f : Fin 1024) : EReal :=
  pick (p.val / 256) h0 h1 h2 h3 (ix2 ⟨p.val % 10240, Nat.mod_lt _ (by decide)⟩ f)

/-- Row `p` of the four parts through column `q` of its group's expert. -/
def dotRow (te : IVec S161 32) (h0 h1 h2 h3 : FVec Ideal S10240x1024 .bf16) (w : FVec Ideal S2x16x1024x4096 .f32) (p : Fin 40960) (q : Fin 4096) : EReal :=
  ∑ f : Fin 1024, stacked h0 h1 h2 h3 p f * w (ix4 0 (expert te (p.val / 256)) f q)

/-- The product of the rows and their experts' weights, zero in the groups not in use. -/
def projected (te : IVec S161 32) (h0 h1 h2 h3 : FVec Ideal S10240x1024 .bf16) (w : FVec Ideal S2x16x1024x4096 .f32) : FVec Ideal S40960x4096 .bf16 := fun y =>
  if (((y 0).val / 256 : ℕ) : ℤ) < (word te 160).toInt then dotRow te h0 h1 h2 h3 w (y 0) (y 1) else 0

/-- The parts laid one under the other by the reference. -/
def joined (h0 h1 h2 h3 : FVec Ideal S10240x1024 .bf16) : FVec Ideal S40960x1024 .bf16 :=
  concatenate S40960x1024 0 [⟨S10240x1024, h0⟩, ⟨S10240x1024, h1⟩, ⟨S10240x1024, h2⟩, ⟨S10240x1024, h3⟩]
    concatenates_S10240x1024_S10240x1024_S10240x1024_S10240x1024_S40960x1024_d0

theorem joined_at (h0 h1 h2 h3 : FVec Ideal S10240x1024 .bf16) (p : Fin 40960) (f : Fin 1024) :
    joined h0 h1 h2 h3 (ix2 p f) = stacked h0 h1 h2 h3 p f := by
  unfold joined stacked pick
  pointwise []
  have e0 : p.val / 256 < 40 ↔ p.val < 10240 := by omega
  have e1 : p.val / 256 < 80 ↔ p.val - 10240 < 10240 := by omega
  have e2 : p.val / 256 < 120 ↔ p.val - 10240 - 10240 < 10240 := by omega
  have same : ∀ (h : FVec Ideal S10240x1024 .bf16) (a b : Fin 10240), a.val = b.val → h (ix2 a f) = h (ix2 b f) :=
    fun h a b hab => congrArg h (congrArg (ix2 · f) (Fin.ext hab))
  by_cases c0 : p.val < 10240
  · rw [dif_pos c0, if_pos (e0.mpr c0)]
    exact same _ _ _ (by show p.val = p.val % 10240; omega)
  rw [dif_neg c0, if_neg fun c => c0 (e0.mp c)]
  by_cases c1 : p.val - 10240 < 10240
  · rw [dif_pos c1, if_pos (e1.mpr c1)]
    exact same _ _ _ (by show p.val - 10240 = p.val % 10240; omega)
  rw [dif_neg c1, if_neg fun c => c1 (e1.mp c)]
  by_cases c2 : p.val - 10240 - 10240 < 10240
  · rw [dif_pos c2, if_pos (e2.mpr c2)]
    exact same _ _ _ (by show p.val - 10240 - 10240 = p.val % 10240; omega)
  rw [dif_neg c2, if_neg fun c => c2 (e2.mp c)]
  exact same _ _ _ (by show p.val - 10240 - 10240 - 10240 = p.val % 10240; omega)

/-- The experts of the groups as the reference's start indices. -/
def starts (te : IVec S161 32) : IVec S160x1 32 :=
  broadcastInDim S160x1 ![0] bcast_S160_S160x1_0 (select (cmpi .slt (extractStridedSlice S160 ![0] te slices_S161_S160_0)
      (broadcastInDim S160 ![] bcast_S_S160 (constantI S_ 32 0#32)))
    (addi (extractStridedSlice S160 ![0] te slices_S161_S160_0) (broadcastInDim S160 ![] bcast_S_S160 (constantI S_ 32 16#32)))
    (extractStridedSlice S160 ![0] te slices_S161_S160_0))

theorem starts_at {te : IVec S161 32} (h : InRange te) (k : Fin 160) : starts te (ix2 k 0) = word te k.val := by
  unfold starts
  pointwise []
  rw [word_of te (show k.val < 161 by omega)]
  have h0 := (h k.val (by omega)).1
  rw [word_of te (show k.val < 161 by omega)] at h0
  refine if_neg fun hc => ?_
  rw [cmpi_slt_eq] at hc
  exact absurd ((ofBool_decide_eq_one_iff _).mp hc) (not_lt.mpr h0)

/-- One group's product with its expert's weights. -/
def groupDot (te : IVec S161 32) (x : FVec Ideal S40960x1024 .bf16) (w : FVec Ideal S2x16x1024x4096 .f32) : FVec Ideal S160x256x4096 .f32 :=
  Host.dotGeneral (φ₁ := .f32) (φ₂ := .f32) dot_S160x256x1024_S160x1024x4096_S160x256x4096_2_1_1_2_0_0 none
    (shapeCast _ (extf .f32 x bitsLt_bf16_f32) shapeCasts_S40960x1024_S160x256x1024)
    (Host.gather gather_S16x1024x4096_S160x1_S160x1024x4096_12_0_n_n_0_1_110244096
      (shapeCast _ (extractStridedSlice S1x16x1024x4096 ![0, 0, 0, 0] w slices_S2x16x1024x4096_S1x16x1024x4096_0_0_0_0)
        shapeCasts_S1x16x1024x4096_S16x1024x4096) (starts te))

theorem rows_at (te : IVec S161 32) (h : InRange te) (w : FVec Ideal S16x1024x4096 .f32) (k : Fin 160) (d : Fin 1024) (q : Fin 4096) :
    Host.gather gather_S16x1024x4096_S160x1_S160x1024x4096_12_0_n_n_0_1_110244096 w (starts te) (ix3 k d q) = w (ix3 (expert te k.val) d q) := by
  refine Take.gather_at _ w _ _ _ fun a => ?_
  change Fin 3 at a
  fin_cases a
  · show GatherDims.start _ _ _ 0 + 0 + 0 = (expert te k.val).val
    rw [Take.start_at _ _ _ 0 (by decide) (ix2 k 0) (fun b => by change Fin 2 at b; fin_cases b <;> rfl), starts_at h, (expert_of h (by omega)).2]
    have := (expert te k.val).isLt
    show min _ (16 - 1) + 0 + 0 = _
    omega
  · show 0 + 0 + d.val = d.val; omega
  · show 0 + 0 + q.val = q.val; omega

theorem groupDot_at {te : IVec S161 32} (h : InRange te) (h0 h1 h2 h3 : FVec Ideal S10240x1024 .bf16) (w : FVec Ideal S2x16x1024x4096 .f32)
    (k : Fin 160) (r : Fin 256) (q : Fin 4096) (p : Fin 40960) (hp : p.val = k.val * 256 + r.val) :
    groupDot te (joined h0 h1 h2 h3) w (ix3 k r q) = dotRow te h0 h1 h2 h3 w p q := by
  have hk : p.val / 256 = k.val := by omega
  unfold groupDot dotRow
  pointwise []
  refine Finset.sum_congr rfl fun d _ => ?_
  rw [rows_at te h, hk, ← joined_at]
  refine congrArg₂ (· * ·) (congrArg (joined h0 h1 h2 h3) (congrArg (ix2 · d) (Fin.ext hp.symm))) ?_
  pointwise []
  all_goals rfl

/-- The groups in use, as the reference's mask over one axis. -/
def live (te : IVec S161 32) : IVec S160x256x4096 1 :=
  broadcastInDim S160x256x4096 ![0, 1, 2] bcast_S160x1x1_S160x256x4096_0_1_2 (broadcastInDim S160x1x1 ![0] bcast_S160_S160x1x1_0
    (cmpi .slt (iotaInDim S160 32 0) (broadcastInDim S160 ![] bcast_S_S160
      (shapeCast _ (extractStridedSlice S1 ![160] te slices_S161_S1_160) shapeCasts_S1_S_))))

theorem live_at (te : IVec S161 32) (k : Fin 160) (r : Fin 256) (q : Fin 4096) :
    live te (ix3 k r q) = 1#1 ↔ (k.val : ℤ) < (word te 160).toInt := by
  unfold live
  pointwise []
  rw [cmpi_slt_eq, ofBool_decide_eq_one_iff, toInt_ofNat_of_lt (by omega), word_of te (by omega)]
  exact Iff.rfl

/-- The reference's result, as its run writes it. -/
def grouped (te : IVec S161 32) (h0 h1 h2 h3 : FVec Ideal S10240x1024 .bf16) (w : FVec Ideal S2x16x1024x4096 .f32) : FVec Ideal S40960x4096 .bf16 :=
  shapeCast _ (truncf .bf16 (select (live te) (groupDot te (joined h0 h1 h2 h3) w)
    (broadcastInDim S160x256x4096 ![] bcast_S_S160x256x4096 (id (constant (F := Ideal) S_ .f32 0x00000000#32)))) bitsLt_bf16_f32)
    shapeCasts_S160x256x4096_S40960x4096

theorem grouped_at {te : IVec S161 32} (h : InRange te) (h0 h1 h2 h3 : FVec Ideal S10240x1024 .bf16) (w : FVec Ideal S2x16x1024x4096 .f32) (p : Fin 40960) (q : Fin 4096) :
    grouped te h0 h1 h2 h3 w (ix2 p q) = projected te h0 h1 h2 h3 w (ix2 p q) := by
  unfold grouped projected
  pointwise []
  rw [groupDot_at h h0 h1 h2 h3 w _ _ q p (by show p.val = p.val / 256 * 256 + p.val % 256; omega)]
  refine if_congr (live_at te _ _ q) rfl ?_
  rw [id_eq]
  pointwise []

/-- The reference's result is that product. -/
theorem grouped_eq {te : IVec S161 32} (h : InRange te) (h0 h1 h2 h3 : FVec Ideal S10240x1024 .bf16) (w : FVec Ideal S2x16x1024x4096 .f32) :
    grouped te h0 h1 h2 h3 w = projected te h0 h1 h2 h3 w := by
  funext y
  have hy : ix2 (n0 := 40960) (n1 := 4096) (y 0) (y 1) = y := funext fun a => by
    change Fin 2 at a; fin_cases a <;> rfl
  rw [← hy]
  exact grouped_at h h0 h1 h2 h3 w _ _

end Natten.Down
-- ==== Proof.DownValue.lean ====
module
/- The experts' second product: the launch's result array is the product the reference writes. -/
public import proofs.«01_k».proof.Proof.DownFrame
public import proofs.«01_k».proof.Proof.DownRead
public import Idealize.ShloMosaic.Lib.Pipeline.Covers
@[expose] public section
set_option maxRecDepth 16384
noncomputable section
namespace Natten.Down
open Natten.Routed (InRange expert expert_of word)
open Cert.KernelDownIdeal Cert.KernelDownIdeal.Gen
open Idealize.ShloMosaic Idealize.ShloMosaic.TcCoe Idealize.SL.Sem

section anyFloat
variable {F : FTy → Type} [FloatOps F] (m : (ℓ : Loc nD τ sig) → Buf (Elt F) ℓ)

/-- A table whose experts exist asks only for blocks that lie in the weights. -/
theorem ok_of_range (h : InRange (words m)) : Ok m := by
  have inside : ∀ (i : grid0.Coords) a, (cc0_transform_4 k0_off1_inb numel1_S1 (tbl m) i a + 1) * S1x1x1024x4096.size a ≤ S2x16x1024x4096.size a := fun i a => by
    have hk : (i 1).val < 160 := (i 1).isLt
    have hj : (i 0).val < 1 := (i 0).isLt
    rw [weights_index, (expert_of h (by omega)).1]
    have he := (expert (words m) (i 1).val).isLt
    change Fin 4 at a
    fin_cases a
    · show (0 + 1) * 1 ≤ 2; omega
    · show ((expert (words m) (i 1).val).val + 1) * 1 ≤ 16; omega
    · show (0 + 1) * 1024 ≤ 1024; omega
    · show ((i 0).val + 1) * 4096 ≤ 4096; omega
  exact fun i => ⟨inside i, .inl rfl⟩

/-- The arguments end as they were. -/
theorem kept (hO : Ok m) (r) (hr : Pipeline.FramePost (Pipeline.pin pcfgs fun _ => adm m hO) (dats m hO) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨(hr c).2 main_arg0 (by decide : main_arg0 ∈ Pipeline.restRefs sig spec0),
    ((hr c).1 0).trans (((dats m hO 0 c).arrAt_in 0 rfl _).trans (A_eq m hO c 0)),
    ((hr c).1 1).trans (((dats m hO 0 c).arrAt_in 1 rfl _).trans (A_eq m hO c 1)),
    ((hr c).1 2).trans (((dats m hO 0 c).arrAt_in 2 rfl _).trans (A_eq m hO c 2)),
    ((hr c).1 3).trans (((dats m hO 0 c).arrAt_in 3 rfl _).trans (A_eq m hO c 3)),
    ((hr c).1 4).trans (((dats m hO 0 c).arrAt_in 4 rfl _).trans (A_eq m hO c 4))⟩

/-- The launch runs, and leaves its arguments and counters as they were. -/
theorem frame (ρ : Dev nD → PrngReg) (h : InRange (words m)) : θ_run defs (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) ∧ r.2.sem = fun _ => 0) :=
  (θ_run defs _ _).mono (fun r hr => ⟨kept m (ok_of_range m h) r hr.1, hr.2⟩) (launched m ρ (ok_of_range m h))
end anyFloat

/-- A cast block of the weights. -/
theorem cast_at (w : Vec Ideal S1x1x1024x4096 .f32) (f : Fin 1024) (j : Fin 4096) : k0_pay2 w (ix2 f j) = w (ix4 0 0 f j) := by
  pointwise [k0_pay2]

/-- One block of the product. -/
theorem payload_at (x : Vec Ideal S256x1024 .bf16) (w : Vec Ideal S1024x4096 .bf16) (i : Fin 256) (j : Fin 4096) :
    k0_pay3 x w (ix2 i j) = ∑ f : Fin 1024, x (ix2 i f) * w (ix2 f j) := by
  pointwise [k0_pay3]

theorem zero_at (i : Fin 256) (j : Fin 4096) : (k0_pay1 : FVec Ideal S256x4096 .bf16) (ix2 i j) = 0 := by
  pointwise [k0_pay1]

variable (m : (ℓ : Loc nD τ sig) → Buf (Elt Ideal) ℓ) (hO : Ok m) (c : Dev nD)

/-- A part's block index: the group's place in the part, for a group whose rows the part holds. -/
theorem place : ∀ (p : Fin 4) (n : Fin 40), (Scalar.minsi 39#32 (Scalar.maxsi 0#32
    (Scalar.subi (BitVec.ofNat 32 (40 * p.val + n.val)) (BitVec.ofNat 32 (40 * p.val))))).toNat = n.val := by decide

theorem place_of (p : Fin 4) {k : ℕ} (h0 : 40 * p.val ≤ k) (h1 : k < 40 * p.val + 40) : (Scalar.minsi 39#32 (Scalar.maxsi 0#32
    (Scalar.subi (BitVec.ofNat 32 k) (BitVec.ofNat 32 (40 * p.val))))).toNat = k - 40 * p.val := by
  have e := place p ⟨k - 40 * p.val, by omega⟩
  rwa [show 40 * p.val + (⟨k - 40 * p.val, by omega⟩ : Fin 40).val = k from by show 40 * p.val + (k - 40 * p.val) = k; omega] at e

theorem result_index (i : grid0.Coords) : cc0_transform_5 i = ![(i 1).val, (i 0).val] := by
  have h : (i 1).val < 160 := (i 1).isLt
  have h' : (i 0).val < 1 := (i 0).isLt
  funext a
  fin_cases a
  · show (BitVec.ofNat 32 (i 1).val).toNat = (i 1).val
    rw [BitVec.toNat_ofNat]; exact Nat.mod_eq_of_lt (by omega)
  · show (BitVec.ofNat 32 (i 0).val).toNat = (i 0).val
    rw [BitVec.toNat_ofNat]; exact Nat.mod_eq_of_lt (by omega)

/-- A part read through one of its blocks. -/
theorem part_at (x : FVec Ideal S10240x1024 .bf16) (ix : Fin 2 → ℕ) (z : S10240x1024.Idx) (i : Fin 256) (f : Fin 1024)
    (hz : ∀ a : Fin 2, (z a).val = ix a * S256x1024.size a + (ix2 (n0 := 256) (n1 := 1024) i f a).val) (h1 : ix 1 = 0)
    (n : ℕ) (hn : n % 10240 = ix 0 * 256 + i.val) : x z = x (ix2 ⟨n % 10240, Nat.mod_lt _ (by decide)⟩ f) := by
  refine congrArg x (funext fun a => Fin.ext ?_)
  refine (hz a).trans ?_
  fin_cases a
  · exact hn.symm
  · show ix 1 * 1024 + f.val = f.val
    rw [h1]; omega

/-- Point `t`'s rows are rows of the four parts laid one under the other. -/
theorem rows_of (t : Fin (cfgM m hO).N) (i : Fin 256) (f : Fin 1024) (n : Fin 40960) (hn : n.val = (grid0.coords t 1).val * 256 + i.val) :
    rows m hO c t (ix2 i f) = stacked (V m c main_arg1) (V m c main_arg2) (V m c main_arg3) (V m c main_arg4) n f := by
  have ht : (grid0.coords t 1).val < 160 := (grid0.coords t 1).isLt
  unfold rows stacked
  rw [show n.val / 256 = (grid0.coords t 1).val by omega]
  refine pick_rel ht (fun (a : Vec Ideal S256x1024 .bf16) (b : FVec Ideal S10240x1024 .bf16) =>
    a (ix2 i f) = b (ix2 ⟨n.val % 10240, Nat.mod_lt _ (by decide)⟩ f)) ?_ ?_ ?_ ?_ <;> intro lo hi
  · refine part_at _ (cc0_transform_0 (grid0.coords t)) _ i f (fun a => by blk_simp; rfl) rfl n ?_
    rw [show cc0_transform_0 (grid0.coords t) 0 = _ from place_of 0 lo hi]
    show n.val % 10240 = ((grid0.coords t 1).val - 0) * 256 + i.val
    omega
  · refine part_at _ (cc0_transform_1 (grid0.coords t)) _ i f (fun a => by blk_simp; rfl) rfl n ?_
    rw [show cc0_transform_1 (grid0.coords t) 0 = _ from place_of 1 lo hi]
    show n.val % 10240 = ((grid0.coords t 1).val - 40) * 256 + i.val
    omega
  · refine part_at _ (cc0_transform_2 (grid0.coords t)) _ i f (fun a => by blk_simp; rfl) rfl n ?_
    rw [show cc0_transform_2 (grid0.coords t) 0 = _ from place_of 2 lo hi]
    show n.val % 10240 = ((grid0.coords t 1).val - 80) * 256 + i.val
    omega
  · refine part_at _ (cc0_transform_3 (grid0.coords t)) _ i f (fun a => by blk_simp; rfl) rfl n ?_
    rw [show cc0_transform_3 (grid0.coords t) 0 = _ from place_of 3 lo hi]
    show n.val % 10240 = ((grid0.coords t 1).val - 120) * 256 + i.val
    omega

/-- What a point leaves in the result's block. -/
theorem block_at (h : InRange (words m)) (t : Fin (cfgM m hO).N) (i : Fin 256) (j : Fin 4096) (n : Fin 40960) (k : Fin 4096)
    (hn : n.val = (grid0.coords t 1).val * 256 + i.val) (hk : k.val = (grid0.coords t 0).val * 4096 + j.val) :
    out m hO c t (ix2 i j) = projected (words m) (V m c main_arg1) (V m c main_arg2) (V m c main_arg3) (V m c main_arg4) (V m c main_arg5) (ix2 n k) := by
  have ht : (grid0.coords t 1).val < 160 := (grid0.coords t 1).isLt
  have hg : n.val / 256 = (grid0.coords t 1).val := by omega
  have hz : ∀ (f : Fin 1024) a, (ix4 (n0 := 2) (n1 := 16) (n2 := 1024) (n3 := 4096) 0 (expert (words m) (grid0.coords t 1).val) f k a).val
      = ![0, (word (words m) (grid0.coords t 1).val).toNat, 0, (grid0.coords t 0).val] a * S1x1x1024x4096.size a
        + (ix4 (n0 := 1) (n1 := 1) (n2 := 1024) (n3 := 4096) 0 0 f j a).val := fun f a => by
    rw [(expert_of h (by omega)).1]
    change Fin 4 at a
    fin_cases a
    · rfl
    · show (expert (words m) (grid0.coords t 1).val).val = (expert (words m) (grid0.coords t 1).val).val * 1 + 0; omega
    · show f.val = 0 * 1024 + f.val; omega
    · exact hk
  have e : ∑ f : Fin 1024, rows m hO c t (ix2 i f) * down m hO c t (ix2 f j) = dotRow (words m) (V m c main_arg1) (V m c main_arg2) (V m c main_arg3) (V m c main_arg4) (V m c main_arg5) n k :=
    Finset.sum_congr rfl fun f _ => by
      rw [rows_of m hO c t i f n hn, show down m hO c t (ix2 f j) = _ from cast_at _ f j, weights_at m hO c t _ _ (hz f), hg]
  unfold out leave projected
  by_cases hl : Live (words m) (grid0.coords t)
  · rw [if_pos hl]
    refine ((payload_at (rows m hO c t) (down m hO c t) i j).trans e).trans (if_pos ?_).symm
    show ((n.val / 256 : ℕ) : ℤ) < _
    rw [hg]; exact hl
  · rw [if_neg hl, zero_at]
    refine (if_neg ?_).symm
    show ¬ ((n.val / 256 : ℕ) : ℤ) < _
    rw [hg]; exact hl

/-- THE RESULT ARRAY after the launch. -/
theorem array_eq (h : InRange (words m)) : (dats m hO 0 c).arrAt 5 (cfgM m hO).N = projected (words m) (V m c main_arg1) (V m c main_arg2) (V m c main_arg3) (V m c main_arg4) (V m c main_arg5) := by
  refine (dats m hO 0 c).arrAt_eq_of_covers 5 _
    (((cfgM m hO).win 5).covers_of_indexMap_surj rfl (show ∀ a : Fin 2, 0 < S256x4096.size a by decide) fun β => ?_) fun t hf y => ?_
  · have width : ((cfgM m hO).win 5).nblk (1 : Fin 2) = 1 := by
      show (S40960x4096.size 1 + S256x4096.size 1 - 1) / S256x4096.size 1 = 1; decide
    have height : ((cfgM m hO).win 5).nblk (0 : Fin 2) = 160 := by
      show (S40960x4096.size 0 + S256x4096.size 0 - 1) / S256x4096.size 0 = 160; decide
    let i : grid0.Coords := fun a => match a with | 0 => (β (1 : Fin 2)).cast width | 1 => (β (0 : Fin 2)).cast height
    refine ⟨i, fun a => ?_⟩
    show cc0_transform_5 i a = _
    rw [result_index]
    change Fin 2 at a
    fin_cases a <;> rfl
  · let z : S40960x4096.Idx := (((cfgM m hO).win 5).blk t).view.emb y
    let x : S256x4096.Idx := y
    have e : ∀ a : Fin 2, (z a).val = ![(grid0.coords t 1).val, (grid0.coords t 0).val] a * S256x4096.size a + (x a).val := fun a => by
      rw [← result_index]
      show ((((cfgM m hO).win 5).blk t).view.emb y a : ℕ) = _
      blk_simp
      rfl
    have ex : x = ix2 (x 0) (x 1) := funext fun a => by change Fin 2 at a; fin_cases a <;> rfl
    have ez : z = ix2 (z 0) (z 1) := funext fun a => by change Fin 2 at a; fin_cases a <;> rfl
    have h3 : out m hO c t x = projected (words m) (V m c main_arg1) (V m c main_arg2) (V m c main_arg3) (V m c main_arg4) (V m c main_arg5) z := by
      rw [ex, ez]
      exact block_at m hO c h t (x 0) (x 1) (z 0) (z 1) (e 0) (e 1)
    blk_simp
    rw [after5]
    exact h3

/-- The launch's run: the result is the product, the arguments and counters are as they were. -/
theorem run_blocks (ρ : Dev nD → PrngReg) (h : InRange (words m)) : θ_run defs (onTc (τ := τ) (main (F := Ideal))) (s₀ m ρ) (fun r => ∀ c : Dev nD,
    r.2.mem ((c : Thread nD τ).loc main_v0) = projected (words m) (V m c main_arg1) (V m c main_arg2) (V m c main_arg3) (V m c main_arg4) (V m c main_arg5)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) :=
  (θ_run defs _ _).mono (fun r hr c => ⟨((hr.1 c).1 5).trans (array_eq m _ c h), kept m (ok_of_range m h) r hr.1 c⟩) (launched m ρ (ok_of_range m h))

end Natten.Down
-- ==== Proof.DownPre.lean ====
module
/- What the precondition on the experts says, and the printed program as the idealized one's text. -/
public import proofs.«01_k».proof.Proof.DownValue
public import proofs.«01_k».proof.Proof.Gen.Pre_all_experts
public import proofs.«01_k».proof.Proof.Gen.KernelDown.Skeleton
public import Idealize.ShloMosaic.Lib.ReduceAll
@[expose] public section
noncomputable section
namespace Natten.Down
open Natten.Routed (InRange word word_of)
open Idealize.ShloMosaic Idealize.ShloMosaic.TcCoe Idealize.ShloMosaic.WordCmp Idealize.SL.Sem

variable {F : FTy → Type} [FloatOps F]

section range
open Cert.Pre_all_experts

/-- The words the precondition reads are the groups' experts, and each is in range. -/
theorem inRange_of (te : IVec S161 32) (h0 h1 h2 h3 : FVec F S10240x1024 .bf16) (w : FVec F S2x16x1024x4096 .f32)
    (hp : Cert.Pre_all_experts.fn (F := F) te h0 h1 h2 h3 w = fun _ => 1#1) : InRange te := by
  intro k hk
  have e0 := congrFun hp (fun a => a.elim0)
  haveI : Subsingleton S_.Idx := ⟨fun a b => funext fun k => k.elim0⟩
  have e1 := Host.reduce_andi_all _ _ _ _ _ e0 (ix1 ⟨k, by omega⟩)
  obtain ⟨lo, hi⟩ := IntOp.andi_eq_one.1 e1
  have e : word te k = extractStridedSlice S160 ![0] te Gen.slices_S161_S160_0 (ix1 ⟨k, by omega⟩) := by
    rw [word_of te (by omega : k < 161)]
    pointwise []
  rw [e]
  exact ⟨IntOp.cmpi_sge.1 lo, IntOp.cmpi_slt.1 hi⟩
end range

section text
set_option maxRecDepth 65536

/-- The printed program's body table is the idealized program's, -/
theorem text_defs₀ : Cert.KernelDown.defs₀ (F := F) = Cert.KernelDownIdeal.defs₀ (F := F) := by
  unfold Cert.KernelDown.defs₀ Cert.KernelDownIdeal.defs₀
  congr 1
  funext l
  match l with | 0 => rfl

/-- its table with the launch too, -/
theorem text_defs : Cert.KernelDown.defs (F := F) = Cert.KernelDownIdeal.defs (F := F) := by
  unfold Cert.KernelDown.defs Cert.KernelDownIdeal.defs
  rw [text_defs₀]
  rfl

/-- and its main. -/
theorem text_main : Cert.KernelDown.main (F := F) = Cert.KernelDownIdeal.main (F := F) := rfl
end text

end Natten.Down
-- ==== Proof.Out.lean ====
module
/- The output projection with its gate and residual: what its launch writes, block by block. -/
public import proofs.«01_k».proof.Proof.Gen.KernelOutIdeal
public import proofs.«01_k».proof.Proof.Gen.KernelOutIdeal.Frame
public import proofs.«01_k».proof.Proof.Gen.KernelOutIdeal.Value
public import Idealize.ShloMosaic.Lib.Pipeline.ValueKit
public import Idealize.ShloMosaic.Lib.Pipeline.Covers
@[expose] public section
set_option maxRecDepth 16384
noncomputable section
namespace Natten.Out
open Cert.KernelOutIdeal Cert.KernelOutIdeal.Gen Cert.KernelOutIdeal.Value
open Idealize.ShloMosaic Idealize.ShloMosaic.TcCoe Idealize.SL.Sem Idealize.ShloMosaic.WordCmp

/-- Token `r` of sample `b` through column `q` of the layer's weights: group A's features through the upper half of the
    rows, group B's through the lower. -/
def mixed (ya yb : Vec Ideal S8x2304x2048 .bf16) (w : Vec Ideal S2x4096x4096 .f32) (b : Fin 8) (r : Fin 2304) (q : Fin 4096) : EReal :=
  (∑ d : Fin 2048, ya (ix3 b r d) * w (ix3 0 ⟨d.val, by omega⟩ q))
    + ∑ d : Fin 2048, yb (ix3 b r d) * w (ix3 0 ⟨2048 + d.val, by omega⟩ q)

/-- The gate of token `r` of sample `b`: the context's for the first 256 tokens, the sample's for the others. -/
def gate (mod : Vec Ideal S16x6x4096 .f32) (b : Fin 8) (r : Fin 2304) (q : Fin 4096) : EReal :=
  if r.val < 256 then mod (ix3 8 2 q) else mod (ix3 ⟨b.val, by omega⟩ 2 q)

/-- The token plus its gated projection. -/
def updated (ya yb : Vec Ideal S8x2304x2048 .bf16) (w : Vec Ideal S2x4096x4096 .f32) (x : Vec Ideal S8x2304x4096 .f32)
    (mod : Vec Ideal S16x6x4096 .f32) (b : Fin 8) (r : Fin 2304) (q : Fin 4096) : EReal :=
  x (ix3 b r q) + gate mod b r q * mixed ya yb w b r q

/-- The samples' updated tokens one under the other. -/
def rows (ya yb : Vec Ideal S8x2304x2048 .bf16) (w : Vec Ideal S2x4096x4096 .f32) (x : Vec Ideal S8x2304x4096 .f32)
    (mod : Vec Ideal S16x6x4096 .f32) : Vec Ideal S18432x4096 .f32 := fun y =>
  updated ya yb w x mod ⟨(y 0).val / 2304, by have : (y 0).val < 18432 := (y 0).isLt; omega⟩
    ⟨(y 0).val % 2304, Nat.mod_lt _ (by decide)⟩ (y 1)

/-- The first row of a block within its sample, as the kernel computes it from the grid point. -/
def firstRow (a : BitVec 32) : BitVec 32 :=
  let v12 := Scalar.select (Scalar.cmpi .eq 2#32 0#32) 1#32 2#32
  let v13 := Scalar.remsi a v12
  Scalar.muli (Scalar.select (Scalar.andi (Scalar.xori (Scalar.cmpi .slt v13 0#32) (Scalar.cmpi .slt v12 0#32)) (Scalar.cmpi .ne v13 0#32))
    (Scalar.addi v13 v12) v13) 1152#32

theorem firstRow_eq : ∀ n : Fin 16, firstRow (BitVec.ofNat 32 n.val) = BitVec.ofNat 32 (n.val % 2 * 1152) := by decide +kernel

/-- The kernel's mask says which rows of a block are the context's. -/
theorem context_at (i : grid0.Coords) (r : Fin 1152) (q : Fin 512) :
    k0_pay3 i (ix2 r q) = 1#1 ↔ (i 0).val % 2 * 1152 + r.val < 256 := by
  have h : k0_pay3 i (ix2 r q) = IntOp.cmpi .slt (IntOp.addi (firstRow (BitVec.ofNat 32 (i 0).val)) (BitVec.ofNat 32 r.val)) 256#32 := by
    pointwise [k0_pay3, firstRow]
  have hi : (i 0).val < 16 := (i 0).isLt
  have ha : IntOp.addi (BitVec.ofNat 32 ((i 0).val % 2 * 1152)) (BitVec.ofNat 32 r.val) = BitVec.ofNat 32 ((i 0).val % 2 * 1152 + r.val) :=
    (BitVec.ofNat_add _ _).symm
  rw [h, firstRow_eq ⟨(i 0).val, hi⟩]
  show IntOp.cmpi .slt (IntOp.addi (BitVec.ofNat 32 ((i 0).val % 2 * 1152)) _) _ = _ ↔ _
  rw [ha, cmpi_slt_eq, ofBool_decide_eq_one_iff, toInt_ofNat_of_lt (by omega), show (256#32).toInt = 256 from rfl]
  omega

/-- One block of the projection. -/
theorem dots_at (a : Vec Ideal S1152x2048 .bf16) (wa : Vec Ideal S1x2048x512 .bf16) (b : Vec Ideal S1152x2048 .bf16) (wb : Vec Ideal S1x2048x512 .bf16)
    (r : Fin 1152) (q : Fin 512) :
    k0_pay2 a wa b wb (ix2 r q) = (∑ d : Fin 2048, a (ix2 r d) * wa (ix3 0 d q)) + ∑ d : Fin 2048, b (ix2 r d) * wb (ix3 0 d q) := by
  pointwise [k0_pay2]

/-- One block of the result, from the block of the projection. -/
theorem payload_at (p : FVec Ideal S1152x512 .f32) (i : grid0.Coords) (ml mc : Vec Ideal S1x1x512 .f32) (x : Vec Ideal S1152x512 .f32)
    (r : Fin 1152) (q : Fin 512) :
    k0_pay1 p (k0_pay3 i) (k0_pay4 ml) (k0_pay5 mc) x (ix2 r q)
      = x (ix2 r q) + (if (i 0).val % 2 * 1152 + r.val < 256 then mc (ix3 0 0 q) else ml (ix3 0 0 q)) * p (ix2 r q) := by
  have h : k0_pay1 p (k0_pay3 i) (k0_pay4 ml) (k0_pay5 mc) x (ix2 r q)
      = x (ix2 r q) + (if k0_pay3 i (ix2 r q) = 1#1 then mc (ix3 0 0 q) else ml (ix3 0 0 q)) * p (ix2 r q) := by
    pointwise [k0_pay1, k0_pay4, k0_pay5]
    rfl
  rw [h]
  exact congrArg (fun e => x (ix2 r q) + e * p (ix2 r q)) (if_congr (context_at i r q) rfl rfl)

variable (m : (ℓ : Loc nD τ sig) → Buf (Elt Ideal) ℓ) (c : Dev nD)

theorem index0 : ∀ t : Fin grid0.N, win0_0.index t = ![t.val / 8, 0] := by decide +kernel
theorem index1 : ∀ t : Fin grid0.N, win0_1.index t = ![t.val / 8, 0] := by decide +kernel
theorem index2 : ∀ t : Fin grid0.N, win0_2.index t = ![0, 0, t.val % 8] := by decide +kernel
theorem index3 : ∀ t : Fin grid0.N, win0_3.index t = ![0, 1, t.val % 8] := by decide +kernel
theorem index4 : ∀ t : Fin grid0.N, win0_4.index t = ![t.val / 8, t.val % 8] := by decide +kernel
theorem index5 : ∀ t : Fin grid0.N, win0_5.index t = ![t.val / 16, 0, t.val % 8] := by decide +kernel
theorem index6 : ∀ t : Fin grid0.N, win0_6.index t = ![8, 0, t.val % 8] := by decide +kernel
theorem index7 : ∀ t : Fin grid0.N, win0_7.index t = ![t.val / 8, t.val % 8] := by decide +kernel
theorem coord0 : ∀ t : Fin grid0.N, (grid0.coords t 0).val = t.val / 8 := by decide +kernel

/-- Row `n` of the samples laid one under the other. -/
theorem flat_features (x : FVec Ideal S8x2304x2048 .bf16) (n : Fin 18432) (d : Fin 2048) (b : Fin 8) (r : Fin 2304) (hn : n.val = b.val * 2304 + r.val) :
    shapeCast S18432x2048 x shapeCasts_S8x2304x2048_S18432x2048 (ix2 n d) = x (ix3 b r d) := by
  pointwise []
  congr 2 <;> exact Fin.ext (by simp only; omega)

theorem flat_tokens (x : FVec Ideal S8x2304x4096 .f32) (n : Fin 18432) (d : Fin 4096) (b : Fin 8) (r : Fin 2304) (hn : n.val = b.val * 2304 + r.val) :
    shapeCast S18432x4096 x shapeCasts_S8x2304x4096_S18432x4096 (ix2 n d) = x (ix3 b r d) := by
  pointwise []
  congr 2 <;> exact Fin.ext (by simp only; omega)

/-- The host's arrays: the samples laid one under the other, and the cast weights. -/
theorem host_w : (V m c main_v0 : Vec Ideal S2x4096x4096 .bf16) = V m c main_arg2 := by
  rw [V_main_arg2]
  unfold_abbrev_sides
  simp only [hostOps0]
  after_results
  rfl

theorem host_a (n : Fin 18432) (d : Fin 2048) (b : Fin 8) (r : Fin 2304) (hn : n.val = b.val * 2304 + r.val) :
    (V m c main_v1 : Vec Ideal S18432x2048 .bf16) (ix2 n d) = (V m c main_arg0 : Vec Ideal S8x2304x2048 .bf16) (ix3 b r d) := by
  have h : (V m c main_v1 : Vec Ideal S18432x2048 .bf16) = shapeCast S18432x2048
      (m ((c : Thread nD τ).loc main_arg0) : Vec Ideal S8x2304x2048 .bf16) shapeCasts_S8x2304x2048_S18432x2048 := by
    unfold_abbrev_sides
    simp only [hostOps0]
    after_results
    rfl
  rw [h, V_main_arg0]
  exact flat_features _ n d b r hn

theorem host_b (n : Fin 18432) (d : Fin 2048) (b : Fin 8) (r : Fin 2304) (hn : n.val = b.val * 2304 + r.val) :
    (V m c main_v2 : Vec Ideal S18432x2048 .bf16) (ix2 n d) = (V m c main_arg1 : Vec Ideal S8x2304x2048 .bf16) (ix3 b r d) := by
  have h : (V m c main_v2 : Vec Ideal S18432x2048 .bf16) = shapeCast S18432x2048
      (m ((c : Thread nD τ).loc main_arg1) : Vec Ideal S8x2304x2048 .bf16) shapeCasts_S8x2304x2048_S18432x2048 := by
    unfold_abbrev_sides
    simp only [hostOps0]
    after_results
    rfl
  rw [h, V_main_arg1]
  exact flat_features _ n d b r hn

theorem host_x (n : Fin 18432) (q : Fin 4096) (b : Fin 8) (r : Fin 2304) (hn : n.val = b.val * 2304 + r.val) :
    (V m c main_v3 : Vec Ideal S18432x4096 .f32) (ix2 n q) = (V m c main_arg3 : Vec Ideal S8x2304x4096 .f32) (ix3 b r q) := by
  have h : (V m c main_v3 : Vec Ideal S18432x4096 .f32) = shapeCast S18432x4096
      (m ((c : Thread nD τ).loc main_arg3) : Vec Ideal S8x2304x4096 .f32) shapeCasts_S8x2304x4096_S18432x4096 := by
    unfold_abbrev_sides
    simp only [hostOps0]
    after_results
    rfl
  rw [h, V_main_arg3]
  exact flat_tokens _ n q b r hn

/-- The blocks of a grid point, in the arrays they are copied from. -/
theorem block0 (t : Fin cfg0.N) (i : Fin 1152) (d : Fin 2048) (n : Fin 18432) (hn : n.val = t.val / 8 * 1152 + i.val) :
    iblk m c 0 t (ix2 i d) = V m c main_v1 (ix2 n d) := by
  refine congrArg (V m c main_v1) (funext fun a => Fin.ext ?_)
  blk_simp [index0]
  change Fin 2 at a
  fin_cases a
  · show t.val / 8 * 1152 + i.val = n.val; omega
  · show 0 * 2048 + d.val = d.val; omega

theorem block1 (t : Fin cfg0.N) (i : Fin 1152) (d : Fin 2048) (n : Fin 18432) (hn : n.val = t.val / 8 * 1152 + i.val) :
    iblk m c 1 t (ix2 i d) = V m c main_v2 (ix2 n d) := by
  refine congrArg (V m c main_v2) (funext fun a => Fin.ext ?_)
  blk_simp [index1]
  change Fin 2 at a
  fin_cases a
  · show t.val / 8 * 1152 + i.val = n.val; omega
  · show 0 * 2048 + d.val = d.val; omega

theorem block2 (t : Fin cfg0.N) (d : Fin 2048) (j : Fin 512) (e q : Fin 4096) (he : e.val = d.val) (hq : q.val = t.val % 8 * 512 + j.val) :
    iblk m c 2 t (ix3 0 d j) = V m c main_v0 (ix3 0 e q) := by
  refine congrArg (V m c main_v0) (funext fun a => Fin.ext ?_)
  blk_simp [index2]
  change Fin 3 at a
  fin_cases a
  · show 0 * 1 + 0 = 0; omega
  · show 0 * 2048 + d.val = e.val; omega
  · show t.val % 8 * 512 + j.val = q.val; omega

theorem block3 (t : Fin cfg0.N) (d : Fin 2048) (j : Fin 512) (e q : Fin 4096) (he : e.val = 2048 + d.val) (hq : q.val = t.val % 8 * 512 + j.val) :
    iblk m c 3 t (ix3 0 d j) = V m c main_v0 (ix3 0 e q) := by
  refine congrArg (V m c main_v0) (funext fun a => Fin.ext ?_)
  blk_simp [index3]
  change Fin 3 at a
  fin_cases a
  · show 0 * 1 + 0 = 0; omega
  · show 1 * 2048 + d.val = e.val; omega
  · show t.val % 8 * 512 + j.val = q.val; omega

theorem block4 (t : Fin cfg0.N) (i : Fin 1152) (j : Fin 512) (n : Fin 18432) (q : Fin 4096) (hn : n.val = t.val / 8 * 1152 + i.val)
    (hq : q.val = t.val % 8 * 512 + j.val) : iblk m c 4 t (ix2 i j) = V m c main_v3 (ix2 n q) := by
  refine congrArg (V m c main_v3) (funext fun a => Fin.ext ?_)
  blk_simp [index4]
  change Fin 2 at a
  fin_cases a
  · show t.val / 8 * 1152 + i.val = n.val; omega
  · show t.val % 8 * 512 + j.val = q.val; omega

theorem block5 (t : Fin cfg0.N) (j : Fin 512) (b : Fin 16) (q : Fin 4096) (hb : b.val = t.val / 16) (hq : q.val = t.val % 8 * 512 + j.val) :
    iblk m c 5 t (ix3 0 2 j) = V m c main_arg4 (ix3 b 2 q) := by
  refine congrArg (V m c main_arg4) (funext fun a => Fin.ext ?_)
  blk_simp [index5]
  change Fin 3 at a
  fin_cases a
  · show t.val / 16 * 1 + 0 = b.val; omega
  · show 0 * 6 + 2 = 2; omega
  · show t.val % 8 * 512 + j.val = q.val; omega

theorem block6 (t : Fin cfg0.N) (j : Fin 512) (q : Fin 4096) (hq : q.val = t.val % 8 * 512 + j.val) :
    iblk m c 6 t (ix3 0 2 j) = V m c main_arg4 (ix3 8 2 q) := by
  refine congrArg (V m c main_arg4) (funext fun a => Fin.ext ?_)
  blk_simp [index6]
  change Fin 3 at a
  fin_cases a
  · show 8 * 1 + 0 = 8; omega
  · show 0 * 6 + 2 = 2; omega
  · show t.val % 8 * 512 + j.val = q.val; omega

/-- What a point leaves in the result's block. -/
theorem block_at (t : Fin cfg0.N) (i : Fin 1152) (j : Fin 512) (n : Fin 18432) (q : Fin 4096) (hn : n.val = t.val / 8 * 1152 + i.val)
    (hq : q.val = t.val % 8 * 512 + j.val) :
    out0_7 (grid0.coords t) (iblk m c 0 t) (iblk m c 1 t) (iblk m c 2 t) (iblk m c 3 t) (iblk m c 4 t) (iblk m c 5 t) (iblk m c 6 t) (ix2 i j)
      = rows (V m c main_arg0) (V m c main_arg1) (V m c main_arg2) (V m c main_arg3) (V m c main_arg4) (ix2 n q) := by
  have ht : t.val < 128 := lt_of_lt_of_eq t.isLt N_0
  obtain ⟨b, hb⟩ : ∃ b : Fin 8, b.val = n.val / 2304 := ⟨⟨n.val / 2304, by omega⟩, rfl⟩
  obtain ⟨r, hr⟩ : ∃ r : Fin 2304, r.val = n.val % 2304 := ⟨⟨n.val % 2304, by omega⟩, rfl⟩
  have hbr : n.val = b.val * 2304 + r.val := by omega
  have hrow : rows (V m c main_arg0) (V m c main_arg1) (V m c main_arg2) (V m c main_arg3) (V m c main_arg4) (ix2 n q)
      = updated (V m c main_arg0) (V m c main_arg1) (V m c main_arg2) (V m c main_arg3) (V m c main_arg4) b r q :=
    congrArg₂ (fun b r => updated (V m c main_arg0) (V m c main_arg1) (V m c main_arg2) (V m c main_arg3) (V m c main_arg4) b r q)
      (Fin.ext hb.symm) (Fin.ext hr.symm)
  have hl : ∀ X : Vec Ideal S1x6x512 .f32, View.ld (Val := Elt Ideal) X r0_2 (ix3 0 0 j) = X (ix3 0 2 j) := fun X =>
    View.ld_unit_apply_of _ _ _ _ _ _ fun a => by fin_cases a <;> simp
  rw [hrow]
  unfold out0_7
  rw [View.canon_cons_unit_lit _ _ _ (by decide), payload_at, hl, hl, View.ld_unit_lit _ _ (by decide), View.ld_unit_lit _ _ (by decide),
    View.ld_unit_lit _ _ (by decide), View.ld_unit_lit _ _ (by decide), View.ld_unit_lit _ _ (by decide), dots_at, coord0,
    block4 m c t i j n q hn hq, host_x m c n q b r hbr, block5 m c t j ⟨b.val, by omega⟩ q (by show b.val = _; omega) hq, block6 m c t j q hq]
  unfold updated gate mixed
  refine congrArg₂ (· + ·) rfl (congrArg₂ (· * ·) (if_congr (by omega) rfl rfl) (congrArg₂ (· + ·) ?_ ?_))
  · refine Finset.sum_congr rfl fun d _ => ?_
    rw [block0 m c t i d n hn, host_a m c n d b r hbr, block2 m c t d j ⟨d.val, by omega⟩ q rfl hq, host_w]
  · refine Finset.sum_congr rfl fun d _ => ?_
    rw [block1 m c t i d n hn, host_b m c n d b r hbr, block3 m c t d j ⟨2048 + d.val, by omega⟩ q rfl hq, host_w]

/-- THE RESULT ARRAY after the launch. -/
theorem array_eq : (dats m 0 c).arrAt 7 cfg0.N
    = rows (V m c main_arg0) (V m c main_arg1) (V m c main_arg2) (V m c main_arg3) (V m c main_arg4) := by
  refine (dats m 0 c).arrAt_eq_of_covers 7 _
    ((cfg0.win 7).covers_of_indexMap_surj rfl (by decide) fun β => ?_) fun t hf y => ?_
  · refine ⟨fun a => match a with | 0 => β 0 | 1 => β 1, fun a => ?_⟩
    change Fin 2 at a
    have h0 : (β 0).val < 16 := (β 0).isLt
    have h1 : (β 1).val < 8 := (β 1).isLt
    fin_cases a
    · show (BitVec.ofNat 32 (β 0).val).toNat = _; rw [BitVec.toNat_ofNat]; exact Nat.mod_eq_of_lt (by omega)
    · show (BitVec.ofNat 32 (β 1).val).toNat = _; rw [BitVec.toNat_ofNat]; exact Nat.mod_eq_of_lt (by omega)
  · have e0 : ((((win0_7.blk t).view.emb y) 0 : Fin _) : ℕ) = t.val / 8 * 1152 + (y 0).val := by
      blk_simp [index7]
    have e1 : ((((win0_7.blk t).view.emb y) 1 : Fin _) : ℕ) = t.val % 8 * 512 + (y 1).val := by
      blk_simp [index7]
    blk_simp
    rw [after0_7]
    have hy : (fun a => y a : S1152x512.Idx) = ix2 (n0 := 1152) (n1 := 512) (y 0) (y 1) := by
      funext a
      fin_cases a <;> rfl
    refine (congrArg (out0_7 (grid0.coords t) (iblk m c 0 t) (iblk m c 1 t) (iblk m c 2 t) (iblk m c 3 t) (iblk m c 4 t) (iblk m c 5 t)
      (iblk m c 6 t)) hy).trans ?_
    rw [block_at m c t (y 0) (y 1) ((win0_7.blk t).view.emb y 0) ((win0_7.blk t).view.emb y 1) e0 e1]
    refine congrArg (rows _ _ _ _ _) (funext fun a => ?_)
    change Fin 2 at a
    fin_cases a <;> rfl

end Natten.Out
-- ==== Proof.OutRead.lean ====
module
/- The output projection as the reference writes it, read at one index. -/
public import proofs.«01_k».proof.Proof.Out
public import proofs.«01_k».proof.Proof.Gen.ReferenceOutIdeal
public import proofs.«01_k».proof.Proof.Gen.ReferenceOutIdeal.Run
@[expose] public section
set_option maxRecDepth 16384
noncomputable section
namespace Natten.Out
open Cert.ReferenceOutIdeal Cert.ReferenceOutIdeal.Gen
open Idealize.ShloMosaic Idealize.ShloMosaic.TcCoe

/-- The two groups' features side by side. -/
def joined (ya yb : FVec Ideal S8x2304x2048 .bf16) : FVec Ideal S8x2304x4096 .f32 :=
  extf .f32 (concatenate S8x2304x4096 2 [⟨S8x2304x2048, ya⟩, ⟨S8x2304x2048, yb⟩]
    concatenates_S8x2304x2048_S8x2304x2048_S8x2304x4096_d2) bitsLt_bf16_f32

theorem joined_left (ya yb : FVec Ideal S8x2304x2048 .bf16) (b : Fin 8) (r : Fin 2304) (d : Fin 2048) (e : Fin 4096) (he : e.val = d.val) :
    joined ya yb (ix3 b r e) = ya (ix3 b r d) := by
  unfold joined
  pointwise []
  rw [dif_pos (by omega)]
  exact congrArg (fun k => ya (ix3 b r k)) (Fin.ext he)

theorem joined_right (ya yb : FVec Ideal S8x2304x2048 .bf16) (b : Fin 8) (r : Fin 2304) (d : Fin 2048) (e : Fin 4096) (he : e.val = 2048 + d.val) :
    joined ya yb (ix3 b r e) = yb (ix3 b r d) := by
  unfold joined
  pointwise []
  rw [dif_neg (by omega)]
  exact congrArg (fun k => yb (ix3 b r k)) (Fin.ext (by show e.val - 2048 = d.val; omega))

/-- The product over all features is the sum of the products over each group's. -/
theorem dot_split (ya yb : FVec Ideal S8x2304x2048 .bf16) (w : FVec Ideal S2x4096x4096 .f32) (b : Fin 8) (r : Fin 2304) (q : Fin 4096) :
    ∑ e : Fin 4096, joined ya yb (ix3 b r e) * w (ix3 0 e q) = mixed ya yb w b r q := by
  refine (Fin.sum_univ_add (M := EReal) (a := 2048) (b := 2048) fun e => joined ya yb (ix3 b r e) * w (ix3 0 e q)).trans ?_
  unfold mixed
  refine congrArg₂ (· + ·) (Finset.sum_congr rfl fun d _ => ?_) (Finset.sum_congr rfl fun d _ => ?_)
  · rw [joined_left ya yb b r d _ rfl]; rfl
  · rw [joined_right ya yb b r d _ rfl]; rfl

/-- The layer's weights. -/
def weights (w : FVec Ideal S2x4096x4096 .f32) : FVec Ideal S4096x4096 .f32 :=
  shapeCast _ (extractStridedSlice S1x4096x4096 ![0, 0, 0] w slices_S2x4096x4096_S1x4096x4096_0_0_0) shapeCasts_S1x4096x4096_S4096x4096

/-- The context's tokens, updated. -/
def context (ya yb : FVec Ideal S8x2304x2048 .bf16) (w : FVec Ideal S2x4096x4096 .f32) (x : FVec Ideal S8x2304x4096 .f32)
    (mod : FVec Ideal S16x6x4096 .f32) : FVec Ideal S8x256x4096 .f32 :=
  addf (extractStridedSlice S8x256x4096 ![0, 0, 0] x slices_S8x2304x4096_S8x256x4096_0_0_0)
    (mulf (broadcastInDim S8x256x4096 ![0, 1, 2] bcast_S1x1x4096_S8x256x4096_0_1_2 (broadcastInDim S1x1x4096 ![2] bcast_S4096_S1x1x4096_2
        (shapeCast _ (extractStridedSlice S1x1x4096 ![8, 2, 0] mod slices_S16x6x4096_S1x1x4096_8_2_0) shapeCasts_S1x1x4096_S4096)))
      (Host.dotGeneral (φ₁ := .f32) (φ₂ := .f32) dot_S8x256x4096_S4096x4096_S8x256x4096_2_0_01_1_n_n none
        (extractStridedSlice S8x256x4096 ![0, 0, 0] (joined ya yb) slices_S8x2304x4096_S8x256x4096_0_0_0) (weights w)))

theorem context_row (ya yb : FVec Ideal S8x2304x2048 .bf16) (w : FVec Ideal S2x4096x4096 .f32) (x : FVec Ideal S8x2304x4096 .f32)
    (mod : FVec Ideal S16x6x4096 .f32) (b : Fin 8) (k : Fin 256) (q : Fin 4096) (r : Fin 2304) (hr : r.val = k.val) :
    context ya yb w x mod (ix3 b k q) = updated ya yb w x mod b r q := by
  obtain rfl : r = ⟨k.val, k.isLt.trans (by decide)⟩ := Fin.ext hr
  unfold updated gate
  rw [if_pos k.isLt, ← dot_split]
  unfold context weights
  pointwise []
  all_goals rfl

/-- The latent tokens, updated. -/
def latent (ya yb : FVec Ideal S8x2304x2048 .bf16) (w : FVec Ideal S2x4096x4096 .f32) (x : FVec Ideal S8x2304x4096 .f32)
    (mod : FVec Ideal S16x6x4096 .f32) : FVec Ideal S8x2048x4096 .f32 :=
  addf (extractStridedSlice S8x2048x4096 ![0, 256, 0] x slices_S8x2304x4096_S8x2048x4096_0_256_0)
    (mulf (broadcastInDim S8x2048x4096 ![0, 1, 2] bcast_S8x1x4096_S8x2048x4096_0_1_2 (broadcastInDim S8x1x4096 ![0, 2] bcast_S8x4096_S8x1x4096_0_2
        (shapeCast _ (extractStridedSlice S8x1x4096 ![0, 2, 0] mod slices_S16x6x4096_S8x1x4096_0_2_0) shapeCasts_S8x1x4096_S8x4096)))
      (Host.dotGeneral (φ₁ := .f32) (φ₂ := .f32) dot_S8x2048x4096_S4096x4096_S8x2048x4096_2_0_01_1_n_n none
        (extractStridedSlice S8x2048x4096 ![0, 256, 0] (joined ya yb) slices_S8x2304x4096_S8x2048x4096_0_256_0) (weights w)))

theorem latent_row (ya yb : FVec Ideal S8x2304x2048 .bf16) (w : FVec Ideal S2x4096x4096 .f32) (x : FVec Ideal S8x2304x4096 .f32)
    (mod : FVec Ideal S16x6x4096 .f32) (b : Fin 8) (k : Fin 2048) (q : Fin 4096) (r : Fin 2304) (hr : r.val = 256 + k.val) :
    latent ya yb w x mod (ix3 b k q) = updated ya yb w x mod b r q := by
  obtain rfl : r = ⟨256 + k.val, Nat.add_lt_add_left k.isLt 256⟩ := Fin.ext hr
  unfold updated gate
  rw [if_neg (by show ¬(256 + k.val < 256); omega), ← dot_split]
  unfold latent weights
  pointwise []
  all_goals rfl

/-- The reference's result, as its run writes it. -/
def result (ya yb : FVec Ideal S8x2304x2048 .bf16) (w : FVec Ideal S2x4096x4096 .f32) (x : FVec Ideal S8x2304x4096 .f32)
    (mod : FVec Ideal S16x6x4096 .f32) : FVec Ideal S18432x4096 .f32 :=
  shapeCast _ (concatenate S8x2304x4096 1 [⟨S8x256x4096, context ya yb w x mod⟩, ⟨S8x2048x4096, latent ya yb w x mod⟩]
    concatenates_S8x256x4096_S8x2048x4096_S8x2304x4096_d1) shapeCasts_S8x2304x4096_S18432x4096

theorem result_at (ya yb : FVec Ideal S8x2304x2048 .bf16) (w : FVec Ideal S2x4096x4096 .f32) (x : FVec Ideal S8x2304x4096 .f32)
    (mod : FVec Ideal S16x6x4096 .f32) (p : Fin 18432) (q : Fin 4096) : result ya yb w x mod (ix2 p q) = rows ya yb w x mod (ix2 p q) := by
  unfold result rows
  pointwise []
  by_cases h : p.val % 2304 < 256
  · rw [dif_pos h]
    exact context_row ya yb w x mod _ _ q _ rfl
  · rw [dif_neg h]
    exact latent_row ya yb w x mod _ _ q _ (by show p.val % 2304 = 256 + (p.val % 2304 - 256); omega)

/-- The reference's result is what the launch computes. -/
theorem result_eq (ya yb : FVec Ideal S8x2304x2048 .bf16) (w : FVec Ideal S2x4096x4096 .f32) (x : FVec Ideal S8x2304x4096 .f32)
    (mod : FVec Ideal S16x6x4096 .f32) : result ya yb w x mod = rows ya yb w x mod := by
  funext y
  have hy : ix2 (n0 := 18432) (n1 := 4096) (y 0) (y 1) = y := funext fun a => by
    change Fin 2 at a; fin_cases a <;> rfl
  rw [← hy]
  exact result_at ya yb w x mod _ _

end Natten.Out
-- ==== Proof.Gates.lean ====
module
/- The gate columns of the input projection. What the launch writes. -/
public import proofs.«01_k».proof.Proof.Gen.KernelGatesIdeal
public import proofs.«01_k».proof.Proof.Gen.KernelGatesIdeal.Frame
public import proofs.«01_k».proof.Proof.Gen.KernelGatesIdeal.Value
public import Idealize.ShloMosaic.Lib.Pipeline.ValueKit
public import Idealize.ShloMosaic.Lib.Pipeline.Covers
@[expose] public section
set_option maxRecDepth 16384
noncomputable section
namespace Natten.Gates
open Cert.KernelGatesIdeal Cert.KernelGatesIdeal.Gen Cert.KernelGatesIdeal.Value
open Idealize.ShloMosaic Idealize.ShloMosaic.TcCoe Idealize.SL.Sem

/-- The product of the tokens and the first layer's columns, which `w` holds as rows. -/
def product (a : Vec Ideal S18432x4096 .bf16) (w : Vec Ideal S2x128x4096 .bf16) : Vec Ideal S18432x128 .f32 := fun y =>
  ∑ d : Fin 4096, a (ix2 (y 0) d) * w (ix3 0 (y 1) d)

/-- One block of the product. -/
theorem payload_at (a : Vec Ideal S1024x4096 .bf16) (w : Vec Ideal S1x128x4096 .bf16) (i : Fin 1024) (j : Fin 128) :
    k0_pay1 a w (ix2 i j) = ∑ d : Fin 4096, a (ix2 i d) * w (ix3 0 j d) := by
  pointwise [k0_pay1]

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel

/-- The blocks of a grid point, in the arrays they are copied from. -/
theorem block0 (t : Fin cfg0.N) (i : Fin 1024) (d : Fin 4096) (n : Fin 18432) (hn : n.val = t.val * 1024 + i.val) :
    iblk m c 0 t (ix2 i d) = V m c main_arg0 (ix2 n d) := by
  refine congrArg (V m c main_arg0) (funext fun a => Fin.ext ?_)
  blk_simp [index0]
  change Fin 2 at a
  fin_cases a
  · show t.val * 1024 + i.val = n.val; omega
  · show 0 * 4096 + d.val = d.val; omega

theorem block1 (t : Fin cfg0.N) (j : Fin 128) (d : Fin 4096) : iblk m c 1 t (ix3 0 j d) = V m c main_arg1 (ix3 0 j d) := by
  refine congrArg (V m c main_arg1) (funext fun a => Fin.ext ?_)
  blk_simp [index1]
  change Fin 3 at a
  fin_cases a
  · show 0 * 1 + 0 = 0; omega
  · show 0 * 128 + j.val = j.val; omega
  · show 0 * 4096 + d.val = d.val; omega

/-- What a point leaves in the result's block. -/
theorem block_at (t : Fin cfg0.N) (i : Fin 1024) (j : Fin 128) (n : Fin 18432) (hn : n.val = t.val * 1024 + i.val) :
    out0_2 (iblk m c 0 t) (iblk m c 1 t) (ix2 i j) = product (V m c main_arg0) (V m c main_arg1) (ix2 n j) := by
  unfold out0_2
  rw [View.canon_cons_unit_lit _ _ _ (by decide), View.ld_unit_lit _ _ (by decide), View.ld_unit_lit _ _ (by decide), payload_at]
  unfold product
  refine Finset.sum_congr rfl fun d _ => ?_
  rw [block0 m c t i d n hn, block1]
  rfl

/-- THE RESULT ARRAY after the launch. -/
theorem array_eq : (dats m 0 c).arrAt 2 cfg0.N = product (V m c main_arg0) (V m c main_arg1) := by
  refine (dats m 0 c).arrAt_eq_of_covers 2 _
    ((cfg0.win 2).covers_of_indexMap_surj rfl (by decide) fun β => ?_) fun t hf y => ?_
  · refine ⟨fun a => match a with | 0 => β 1 | 1 => β 0, fun a => ?_⟩
    change Fin 2 at a
    have h0 : (β 0).val < 18 := (β 0).isLt
    have h1 : (β 1).val < 1 := (β 1).isLt
    fin_cases a
    · show (BitVec.ofNat 32 (β 0).val).toNat = _; rw [BitVec.toNat_ofNat]; exact Nat.mod_eq_of_lt (by omega)
    · show (BitVec.ofNat 32 (β 1).val).toNat = _; rw [BitVec.toNat_ofNat]; exact Nat.mod_eq_of_lt (by omega)
  · have e0 : ((((win0_2.blk t).view.emb y) 0 : Fin _) : ℕ) = t.val * 1024 + (y 0).val := by
      blk_simp [index2]
    have e1 : ((((win0_2.blk t).view.emb y) 1 : Fin _) : ℕ) = 0 * 128 + (y 1).val := by
      blk_simp [index2]
    blk_simp
    rw [after0_2]
    have hy : (fun a => y a : S1024x128.Idx) = ix2 (n0 := 1024) (n1 := 128) (y 0) (y 1) := by
      funext a
      fin_cases a <;> rfl
    refine (congrArg (out0_2 (iblk m c 0 t) (iblk m c 1 t)) hy).trans ?_
    rw [block_at m c t (y 0) (y 1) ((win0_2.blk t).view.emb y 0) e0]
    refine congrArg (product _ _) (funext fun a => ?_)
    change Fin 2 at a
    fin_cases a
    · rfl
    · exact Fin.ext (e1.trans (by omega : 0 * 128 + (y 1).val = (y 1).val)).symm

end Natten.Gates
-- ==== Proof.GatesRead.lean ====
module
/- The gate columns of the input projection as the reference writes them, read at one index. -/
public import proofs.«01_k».proof.Proof.Gates
public import proofs.«01_k».proof.Proof.Gen.ReferenceGatesIdeal
public import proofs.«01_k».proof.Proof.Gen.ReferenceGatesIdeal.Run
@[expose] public section
set_option maxRecDepth 16384
noncomputable section
namespace Natten.Gates
open Cert.ReferenceGatesIdeal Cert.ReferenceGatesIdeal.Gen
open Idealize.ShloMosaic Idealize.ShloMosaic.TcCoe

/-- The reference's columns, as its run writes them. -/
def columns (a : FVec Ideal S18432x4096 .bf16) (w : FVec Ideal S2x128x4096 .bf16) : FVec Ideal S18432x128 .f32 :=
  Host.dotGeneral (φ₁ := .f32) (φ₂ := .f32) dot_S18432x4096_S4096x128_S18432x128_1_0_0_1_n_n none (extf .f32 a bitsLt_bf16_f32)
    (extf .f32 (transpose S4096x128 [1, 0] (shapeCast _ (extractStridedSlice S1x128x4096 ![0, 0, 0] w slices_S2x128x4096_S1x128x4096_0_0_0)
      shapeCasts_S1x128x4096_S128x4096) transposes_S128x4096_S4096x128_1_0) bitsLt_bf16_f32)

theorem columns_at (a : FVec Ideal S18432x4096 .bf16) (w : FVec Ideal S2x128x4096 .bf16) (p : Fin 18432) (q : Fin 128) :
    columns a w (ix2 p q) = product a w (ix2 p q) := by
  unfold columns product
  pointwise []
  all_goals rfl

/-- The reference's columns are those the launch computes. -/
theorem columns_eq (a : FVec Ideal S18432x4096 .bf16) (w : FVec Ideal S2x128x4096 .bf16) : columns a w = product a w := by
  funext y
  have hy : ix2 (n0 := 18432) (n1 := 128) (y 0) (y 1) = y := funext fun a => by
    change Fin 2 at a; fin_cases a <;> rfl
  rw [← hy]
  exact columns_at a w _ _

end Natten.Gates
-- ==== Proof.Ada.lean ====
module
/- The modulation: the samples' conditions through the logistic gate and each layer's weights, plus its bias. What its launch
   writes. -/
public import proofs.«01_k».proof.Proof.Gen.KernelAdaIdeal
public import proofs.«01_k».proof.Proof.Gen.KernelAdaIdeal.Frame
public import proofs.«01_k».proof.Proof.Gen.KernelAdaIdeal.Value
public import Idealize.ShloMosaic.Lib.Pipeline.ValueKit
public import Idealize.ShloMosaic.Lib.Pipeline.Covers
@[expose] public section
set_option maxRecDepth 16384
noncomputable section
namespace Natten.Ada
open Cert.KernelAdaIdeal Cert.KernelAdaIdeal.Gen Cert.KernelAdaIdeal.Value
open Idealize.ShloMosaic Idealize.ShloMosaic.TcCoe Idealize.SL.Sem

/-- A number times its logistic. -/
def silu (g : EReal) : EReal := g * Ideal.div 1 (1 + Ideal.exp (-g))

/-- Layer `y 0`'s modulation of condition `y 1`. -/
def modulation (cc : Vec Ideal S16x4096 .f32) (w : Vec Ideal S2x4096x24576 .f32) (b : Vec Ideal S2x24576 .f32) :
    Vec Ideal S2x16x24576 .f32 := fun y =>
  (∑ d : Fin 4096, silu (cc (ix2 (y 1) d)) * w (ix3 (y 0) d (y 2))) + b (ix2 (y 0) (y 2))

/-- One block of the modulation. -/
theorem payload_at (cc : Vec Ideal S16x4096 .f32) (w : Vec Ideal S1x4096x512 .f32) (b : Vec Ideal S1x1x512 .f32) (i : Fin 16) (j : Fin 512) :
    k0_pay1 cc w b (ix3 0 i j) = (∑ d : Fin 4096, silu (cc (ix2 i d)) * w (ix3 0 d j)) + b (ix3 0 0 j) := by
  unfold silu
  simp only [← zero_sub]
  pointwise [k0_pay1]

variable (m : (ℓ : Loc nD τ sig) → Buf (Elt Ideal) ℓ) (c : Dev nD)

theorem index0 : ∀ t : Fin grid0.N, win0_0.index t = ![0, 0] := by decide +kernel
theorem index1 : ∀ t : Fin grid0.N, win0_1.index t = ![t.val / 48, 0, t.val % 48] := by decide +kernel
theorem index2 : ∀ t : Fin grid0.N, win0_2.index t = ![t.val / 48, 0, t.val % 48] := by decide +kernel
theorem index3 : ∀ t : Fin grid0.N, win0_3.index t = ![t.val / 48, 0, t.val % 48] := by decide +kernel

/-- The blocks of a grid point, in the arrays they are copied from. -/
theorem block0 (t : Fin cfg0.N) (i : Fin 16) (d : Fin 4096) : iblk m c 0 t (ix2 i d) = V m c main_arg0 (ix2 i d) := by
  refine congrArg (V m c main_arg0) (funext fun a => Fin.ext ?_)
  blk_simp [index0]
  change Fin 2 at a
  fin_cases a
  · show 0 * 16 + i.val = i.val; omega
  · show 0 * 4096 + d.val = d.val; omega

theorem block1 (t : Fin cfg0.N) (d : Fin 4096) (j : Fin 512) (l : Fin 2) (q : Fin 24576) (hl : l.val = t.val / 48)
    (hq : q.val = t.val % 48 * 512 + j.val) : iblk m c 1 t (ix3 0 d j) = V m c main_arg1 (ix3 l d q) := by
  refine congrArg (V m c main_arg1) (funext fun a => Fin.ext ?_)
  blk_simp [index1]
  change Fin 3 at a
  fin_cases a
  · show t.val / 48 * 1 + 0 = l.val; omega
  · show 0 * 4096 + d.val = d.val; omega
  · show t.val % 48 * 512 + j.val = q.val; omega

theorem block2 (t : Fin cfg0.N) (j : Fin 512) (l : Fin 2) (q : Fin 24576) (hl : l.val = t.val / 48)
    (hq : q.val = t.val % 48 * 512 + j.val) : iblk m c 2 t (ix3 0 0 j) = V m c main_v0 (ix3 l 0 q) := by
  refine congrArg (V m c main_v0) (funext fun a => Fin.ext ?_)
  blk_simp [index2]
  change Fin 3 at a
  fin_cases a
  · show t.val / 48 * 1 + 0 = l.val; omega
  · show 0 * 1 + 0 = 0; omega
  · show t.val % 48 * 512 + j.val = q.val; omega

theorem flat_bias (b : FVec Ideal S2x24576 .f32) (l : Fin 2) (q : Fin 24576) :
    shapeCast S2x1x24576 b shapeCasts_S2x24576_S2x1x24576 (ix3 l 0 q) = b (ix2 l q) := by
  pointwise []

/-- The host's bias. -/
theorem host_b (l : Fin 2) (q : Fin 24576) :
    (V m c main_v0 : Vec Ideal S2x1x24576 .f32) (ix3 l 0 q) = (V m c main_arg2 : Vec Ideal S2x24576 .f32) (ix2 l q) := by
  have h : (V m c main_v0 : Vec Ideal S2x1x24576 .f32) = shapeCast S2x1x24576
      (m ((c : Thread nD τ).loc main_arg2) : Vec Ideal S2x24576 .f32) shapeCasts_S2x24576_S2x1x24576 := by
    unfold_abbrev_sides
    simp only [hostOps0]
    after_results
    rfl
  rw [h, V_main_arg2]
  exact flat_bias _ l q

/-- What a point leaves in the result's block. -/
theorem block_at (t : Fin cfg0.N) (i : Fin 16) (j : Fin 512) (l : Fin 2) (q : Fin 24576) (hl : l.val = t.val / 48)
    (hq : q.val = t.val % 48 * 512 + j.val) :
    out0_3 (iblk m c 0 t) (iblk m c 1 t) (iblk m c 2 t) (ix3 0 i j)
      = modulation (V m c main_arg0) (V m c main_arg1) (V m c main_arg2) (ix3 l i q) := by
  unfold out0_3
  rw [View.canon_cons_unit_lit _ _ _ (by decide), payload_at, View.ld_unit_lit _ _ (by decide), View.ld_unit_lit _ _ (by decide),
    View.ld_unit_lit _ _ (by decide), block2 m c t j l q hl hq, host_b]
  unfold modulation
  refine congrArg₂ (· + ·) (Finset.sum_congr rfl fun d _ => ?_) rfl
  rw [block0, block1 m c t d j l q hl hq]
  rfl

/-- THE RESULT ARRAY after the launch. -/
theorem array_eq : (dats m 0 c).arrAt 3 cfg0.N = modulation (V m c main_arg0) (V m c main_arg1) (V m c main_arg2) := by
  refine (dats m 0 c).arrAt_eq_of_covers 3 _
    ((cfg0.win 3).covers_of_indexMap_surj rfl (by decide) fun β => ?_) fun t hf y => ?_
  · refine ⟨fun a => match a with | 0 => β 0 | 1 => β 2, fun a => ?_⟩
    change Fin 3 at a
    have h0 : (β 0).val < 2 := (β 0).isLt
    have h1 : (β 1).val < 1 := (β 1).isLt
    have h2 : (β 2).val < 48 := (β 2).isLt
    fin_cases a
    · show (BitVec.ofNat 32 (β 0).val).toNat = _; rw [BitVec.toNat_ofNat]; exact Nat.mod_eq_of_lt (by omega)
    · show (0#32).toNat = (β 1).val; exact (Nat.lt_one_iff.mp h1).symm
    · show (BitVec.ofNat 32 (β 2).val).toNat = _; rw [BitVec.toNat_ofNat]; exact Nat.mod_eq_of_lt (by omega)
  · have e0 : ((((win0_3.blk t).view.emb y) 0 : Fin _) : ℕ) = t.val / 48 * 1 + (y 0).val := by
      blk_simp [index3]
    have e1 : ((((win0_3.blk t).view.emb y) 1 : Fin _) : ℕ) = 0 * 16 + (y 1).val := by
      blk_simp [index3]
    have e2 : ((((win0_3.blk t).view.emb y) 2 : Fin _) : ℕ) = t.val % 48 * 512 + (y 2).val := by
      blk_simp [index3]
    have y0 : (y 0).val < 1 := (y 0).isLt
    blk_simp
    rw [after0_3]
    have hy : (fun a => y a : S1x16x512.Idx) = ix3 (n0 := 1) (n1 := 16) (n2 := 512) 0 (y 1) (y 2) := by
      funext a
      fin_cases a
      · exact Fin.ext (Nat.lt_one_iff.mp y0)
      · rfl
      · rfl
    refine (congrArg (out0_3 (iblk m c 0 t) (iblk m c 1 t) (iblk m c 2 t)) hy).trans ?_
    rw [block_at m c t (y 1) (y 2) ((win0_3.blk t).view.emb y 0) ((win0_3.blk t).view.emb y 2) (by omega) e2]
    refine congrArg (modulation _ _ _) (funext fun a => ?_)
    change Fin 3 at a
    fin_cases a
    · rfl
    · exact Fin.ext (e1.trans (by omega : 0 * 16 + (y 1).val = (y 1).val)).symm
    · rfl

end Natten.Ada
-- ==== Proof.AdaRead.lean ====
module
/- The modulation as the reference writes it, read at one index. -/
public import proofs.«01_k».proof.Proof.Ada
public import proofs.«01_k».proof.Proof.Gen.ReferenceAdaIdeal
public import proofs.«01_k».proof.Proof.Gen.ReferenceAdaIdeal.Run
@[expose] public section
set_option maxRecDepth 16384
noncomputable section
namespace Natten.Ada
open Cert.ReferenceAdaIdeal Cert.ReferenceAdaIdeal.Gen
open Idealize.ShloMosaic Idealize.ShloMosaic.TcCoe

/-- The conditions times their logistics, as the reference writes them. -/
def gated (cc : FVec Ideal S16x4096 .f32) : FVec Ideal S16x4096 .f32 :=
  mulf cc (Host.divf (broadcastInDim S16x4096 ![] bcast_S_S16x4096 (constant S_ .f32 0x3F800000#32))
    (addf (broadcastInDim S16x4096 ![] bcast_S_S16x4096 (constant S_ .f32 0x3F800000#32)) (Host.exp (Host.negf cc))))

/-- The first layer's modulation, as the reference writes it, -/
def first (cc : FVec Ideal S16x4096 .f32) (w : FVec Ideal S2x4096x24576 .f32) (b : FVec Ideal S2x24576 .f32) : FVec Ideal S1x16x24576 .f32 :=
  broadcastInDim S1x16x24576 ![1, 2] bcast_S16x24576_S1x16x24576_1_2
    (addf (Host.dotGeneral (φ₁ := .f32) (φ₂ := .f32) dot_S16x4096_S4096x24576_S16x24576_1_0_0_1_n_n none (gated cc)
        (shapeCast _ (extractStridedSlice S1x4096x24576 ![0, 0, 0] w slices_S2x4096x24576_S1x4096x24576_0_0_0) shapeCasts_S1x4096x24576_S4096x24576))
      (broadcastInDim S16x24576 ![0, 1] bcast_S1x24576_S16x24576_0_1 (broadcastInDim S1x24576 ![1] bcast_S24576_S1x24576_1
        (shapeCast _ (extractStridedSlice S1x24576 ![0, 0] b slices_S2x24576_S1x24576_0_0) shapeCasts_S1x24576_S24576))))

/-- and the second's. -/
def second (cc : FVec Ideal S16x4096 .f32) (w : FVec Ideal S2x4096x24576 .f32) (b : FVec Ideal S2x24576 .f32) : FVec Ideal S1x16x24576 .f32 :=
  broadcastInDim S1x16x24576 ![1, 2] bcast_S16x24576_S1x16x24576_1_2
    (addf (Host.dotGeneral (φ₁ := .f32) (φ₂ := .f32) dot_S16x4096_S4096x24576_S16x24576_1_0_0_1_n_n none (gated cc)
        (shapeCast _ (extractStridedSlice S1x4096x24576 ![1, 0, 0] w slices_S2x4096x24576_S1x4096x24576_1_0_0) shapeCasts_S1x4096x24576_S4096x24576))
      (broadcastInDim S16x24576 ![0, 1] bcast_S1x24576_S16x24576_0_1 (broadcastInDim S1x24576 ![1] bcast_S24576_S1x24576_1
        (shapeCast _ (extractStridedSlice S1x24576 ![1, 0] b slices_S2x24576_S1x24576_1_0) shapeCasts_S1x24576_S24576))))

theorem gated_at (cc : FVec Ideal S16x4096 .f32) (i : Fin 16) (d : Fin 4096) : gated cc (ix2 i d) = silu (cc (ix2 i d)) := by
  unfold gated silu
  pointwise []

theorem modulation_at (cc : FVec Ideal S16x4096 .f32) (w : FVec Ideal S2x4096x24576 .f32) (b : FVec Ideal S2x24576 .f32) (l : Fin 2) (i : Fin 16)
    (q : Fin 24576) : modulation cc w b (ix3 l i q) = (∑ d : Fin 4096, gated cc (ix2 i d) * w (ix3 l d q)) + b (ix2 l q) := by
  simp only [gated_at]
  rfl

theorem first_at (cc : FVec Ideal S16x4096 .f32) (w : FVec Ideal S2x4096x24576 .f32) (b : FVec Ideal S2x24576 .f32) (i : Fin 16) (q : Fin 24576) :
    first cc w b (ix3 0 i q) = modulation cc w b (ix3 0 i q) := by
  rw [modulation_at]
  unfold first
  pointwise []
  all_goals rfl

theorem second_at (cc : FVec Ideal S16x4096 .f32) (w : FVec Ideal S2x4096x24576 .f32) (b : FVec Ideal S2x24576 .f32) (i : Fin 16) (q : Fin 24576) :
    second cc w b (ix3 0 i q) = modulation cc w b (ix3 1 i q) := by
  rw [modulation_at]
  unfold second
  pointwise []
  all_goals rfl

/-- The reference's result, as its run writes it. -/
def result (cc : FVec Ideal S16x4096 .f32) (w : FVec Ideal S2x4096x24576 .f32) (b : FVec Ideal S2x24576 .f32) : FVec Ideal S2x16x24576 .f32 :=
  concatenate S2x16x24576 0 [⟨S1x16x24576, first cc w b⟩, ⟨S1x16x24576, second cc w b⟩] concatenates_S1x16x24576_S1x16x24576_S2x16x24576_d0

theorem result_at (cc : FVec Ideal S16x4096 .f32) (w : FVec Ideal S2x4096x24576 .f32) (b : FVec Ideal S2x24576 .f32) (l : Fin 2) (i : Fin 16)
    (q : Fin 24576) : result cc w b (ix3 l i q) = modulation cc w b (ix3 l i q) := by
  unfold result
  obtain rfl | rfl : l = 0 ∨ l = 1 := by omega
  · rw [← first_at]
    pointwise []
    all_goals rfl
  · rw [← second_at]
    pointwise []
    all_goals rfl

/-- The reference's result is what the launch computes. -/
theorem result_eq (cc : FVec Ideal S16x4096 .f32) (w : FVec Ideal S2x4096x24576 .f32) (b : FVec Ideal S2x24576 .f32) :
    result cc w b = modulation cc w b := by
  funext y
  have hy : ix3 (n0 := 2) (n1 := 16) (n2 := 24576) (y 0) (y 1) (y 2) = y := funext fun a => by
    change Fin 3 at a; fin_cases a <;> rfl
  rw [← hy]
  exact result_at cc w b _ _ _

end Natten.Ada
-- ==== Proof.Norm.lean ====
module
/- The norm with its modulation, and the routing's logits. What the launch writes. -/
public import proofs.«01_k».proof.Proof.Gen.KernelNormIdeal
public import proofs.«01_k».proof.Proof.Gen.KernelNormIdeal.Frame
public import proofs.«01_k».proof.Proof.Gen.KernelNormIdeal.Value
public import Idealize.ShloMosaic.Lib.Pipeline.ValueKit
public import Idealize.ShloMosaic.Lib.Pipeline.Covers
@[expose] public section
set_option maxRecDepth 16384
noncomputable section
namespace Natten.Norm
open Cert.KernelNormIdeal Cert.KernelNormIdeal.Gen Cert.KernelNormIdeal.Value
open Idealize.ShloMosaic Idealize.ShloMosaic.TcCoe Idealize.SL.Sem

/-- Feature `v` of a token of features `f`, over the root of the features' mean square. -/
def normed (f : Fin 4096 → EReal) (v : EReal) : EReal :=
  v * Ideal.rsqrt (Ideal.div (∑ d : Fin 4096, f d * f d) (Ideal.ofBits .f32 0x45800000#32) + Ideal.ofBits .f32 0x358637BD#32)

/-- The modulation of token `r` of sample `b`: the context's for the first 256 tokens, the sample's for the others. -/
def part (mod : Vec Ideal S16x6x4096 .f32) (b : Fin 8) (r : Fin 2304) (k : Fin 6) (q : Fin 4096) : EReal :=
  if r.val < 256 then mod (ix3 8 k q) else mod (ix3 ⟨b.val, by omega⟩ k q)

/-- Feature `q` of token `r` of sample `b`, normed, weighted and modulated. -/
def modulated (x : Vec Ideal S8x2304x4096 .f32) (g : Vec Ideal S2x4096 .f32) (mod : Vec Ideal S16x6x4096 .f32)
    (b : Fin 8) (r : Fin 2304) (q : Fin 4096) : EReal :=
  normed (fun d => x (ix3 b r d)) (x (ix3 b r q)) * g (ix2 0 q) * (1 + part mod b r 4 q) + part mod b r 3 q

/-- The samples' modulated tokens, -/
def tokens (x : Vec Ideal S8x2304x4096 .f32) (g : Vec Ideal S2x4096 .f32) (mod : Vec Ideal S16x6x4096 .f32) :
    Vec Ideal S8x2304x4096 .bf16 := fun y => modulated x g mod (y 0) (y 1) (y 2)

/-- and their logits of each expert. -/
def logits (x : Vec Ideal S8x2304x4096 .f32) (g : Vec Ideal S2x4096 .f32) (mod : Vec Ideal S16x6x4096 .f32) (w : Vec Ideal S4096x16 .f32) :
    Vec Ideal S16x18432 .f32 := fun y =>
  ∑ d : Fin 4096, w (ix2 d (y 0)) * modulated x g mod ⟨(y 1).val / 2304, by have : (y 1).val < 18432 := (y 1).isLt; omega⟩
    ⟨(y 1).val % 2304, Nat.mod_lt _ (by decide)⟩ d

/-- One block of the modulated tokens, -/
theorem payload_at (x : Vec Ideal S1x256x4096 .f32) (g : Vec Ideal S1x4096 .f32) (mod : Vec Ideal S1x6x4096 .f32) (i : Fin 256) (q : Fin 4096) :
    k0_pay1 x g mod (ix2 i q) = normed (fun d => x (ix3 0 i d)) (x (ix3 0 i q)) * g (ix2 0 q) * (1 + mod (ix3 0 4 q)) + mod (ix3 0 3 q) := by
  unfold normed
  pointwise [k0_pay1]

theorem store_at (x : Vec Ideal S1x256x4096 .f32) (g : Vec Ideal S1x4096 .f32) (mod : Vec Ideal S1x6x4096 .f32) (i : Fin 256) (q : Fin 4096) :
    k0_pay2 x g mod (ix3 0 i q) = k0_pay1 x g mod (ix2 i q) := by
  unfold k0_pay2
  generalize k0_pay1 x g mod = p
  pointwise []

/-- and of the logits. -/
theorem logits_at (x : Vec Ideal S1x256x4096 .f32) (g : Vec Ideal S1x4096 .f32) (mod : Vec Ideal S1x6x4096 .f32) (w : Vec Ideal S16x4096 .f32)
    (e : Fin 16) (i : Fin 256) :
    k0_pay3 x g mod w (ix2 e i) = ∑ d : Fin 4096, w (ix2 e d) * k0_pay1 x g mod (ix2 i d) := by
  unfold k0_pay3
  generalize k0_pay1 x g mod = p
  pointwise []

variable (m : (ℓ : Loc nD τ sig) → Buf (Elt Ideal) ℓ) (c : Dev nD)

theorem index0 : ∀ t : Fin grid0.N, win0_0.index t = ![t.val / 9, t.val % 9, 0] := by decide +kernel
theorem index1 : ∀ t : Fin grid0.N, win0_1.index t = ![0, 0] := by decide +kernel
theorem index2 : ∀ t : Fin grid0.N, win0_2.index t = ![if t.val % 9 = 0 then 8 else t.val / 9, 0, 0] := by decide +kernel
theorem index3 : ∀ t : Fin grid0.N, win0_3.index t = ![0, 0] := by decide +kernel
theorem index4 : ∀ t : Fin grid0.N, win0_4.index t = ![t.val / 9, t.val % 9, 0] := by decide +kernel
theorem index5 : ∀ t : Fin grid0.N, win0_5.index t = ![0, t.val] := by decide +kernel

/-- The blocks of a grid point, in the arrays they are copied from. -/
theorem block0 (t : Fin cfg0.N) (i : Fin 256) (q : Fin 4096) (b : Fin 8) (r : Fin 2304) (hb : b.val = t.val / 9)
    (hr : r.val = t.val % 9 * 256 + i.val) : iblk m c 0 t (ix3 0 i q) = V m c main_arg0 (ix3 b r q) := by
  refine congrArg (V m c main_arg0) (funext fun a => Fin.ext ?_)
  blk_simp [index0]
  change Fin 3 at a
  fin_cases a
  · show t.val / 9 * 1 + 0 = b.val; omega
  · show t.val % 9 * 256 + i.val = r.val; omega
  · show 0 * 4096 + q.val = q.val; omega

theorem block1 (t : Fin cfg0.N) (q : Fin 4096) : iblk m c 1 t (ix2 0 q) = V m c main_v3 (ix2 0 q) := by
  refine congrArg (V m c main_v3) (funext fun a => Fin.ext ?_)
  blk_simp [index1]
  change Fin 2 at a
  fin_cases a
  · show 0 * 1 + 0 = 0; omega
  · show 0 * 4096 + q.val = q.val; omega

theorem block2 (t : Fin cfg0.N) (k : Fin 6) (q : Fin 4096) (s : Fin 16) (hs : s.val = if t.val % 9 = 0 then 8 else t.val / 9) :
    iblk m c 2 t (ix3 0 k q) = V m c main_arg2 (ix3 s k q) := by
  refine congrArg (V m c main_arg2) (funext fun a => Fin.ext ?_)
  blk_simp [index2]
  change Fin 3 at a
  fin_cases a
  · show (if t.val % 9 = 0 then 8 else t.val / 9) * 1 + 0 = s.val; omega
  · show 0 * 6 + k.val = k.val; omega
  · show 0 * 4096 + q.val = q.val; omega

theorem block3 (t : Fin cfg0.N) (e : Fin 16) (d : Fin 4096) : iblk m c 3 t (ix2 e d) = V m c main_v2 (ix2 e d) := by
  refine congrArg (V m c main_v2) (funext fun a => Fin.ext ?_)
  blk_simp [index3]
  change Fin 2 at a
  fin_cases a
  · show 0 * 16 + e.val = e.val; omega
  · show 0 * 4096 + d.val = d.val; omega

theorem flat_weight (g : FVec Ideal S2x4096 .f32) (q : Fin 4096) :
    shapeCast S1x4096 (shapeCast S4096 (extractStridedSlice S1x4096 ![0, 0] g slices_S2x4096_S1x4096_0_0) shapeCasts_S1x4096_S4096)
      shapeCasts_S4096_S1x4096 (ix2 0 q) = g (ix2 0 q) := by
  pointwise []

theorem turned (w : FVec Ideal S4096x16 .f32) (e : Fin 16) (d : Fin 4096) :
    transpose S16x4096 [1, 0] w transposes_S4096x16_S16x4096_1_0 (ix2 e d) = w (ix2 d e) := by
  pointwise []

/-- The host's arrays: the layer's weight, and the logits' weights transposed. -/
theorem host_g (q : Fin 4096) : (V m c main_v3 : Vec Ideal S1x4096 .f32) (ix2 0 q) = (V m c main_arg1 : Vec Ideal S2x4096 .f32) (ix2 0 q) := by
  have h : (V m c main_v3 : Vec Ideal S1x4096 .f32) = shapeCast S1x4096 (shapeCast S4096 (extractStridedSlice S1x4096 ![0, 0]
      (m ((c : Thread nD τ).loc main_arg1) : Vec Ideal S2x4096 .f32) slices_S2x4096_S1x4096_0_0) shapeCasts_S1x4096_S4096)
      shapeCasts_S4096_S1x4096 := by
    unfold_abbrev_sides
    simp only [hostOps0]
    after_results
    rfl
  rw [h, V_main_arg1]
  exact flat_weight _ q

theorem host_w (e : Fin 16) (d : Fin 4096) :
    (V m c main_v2 : Vec Ideal S16x4096 .f32) (ix2 e d) = (V m c main_arg3 : Vec Ideal S4096x16 .f32) (ix2 d e) := by
  have h : (V m c main_v2 : Vec Ideal S16x4096 .f32) = transpose S16x4096 [1, 0]
      (m ((c : Thread nD τ).loc main_arg3) : Vec Ideal S4096x16 .f32) transposes_S4096x16_S16x4096_1_0 := by
    unfold_abbrev_sides
    simp only [hostOps0]
    after_results
  rw [h, V_main_arg3]
  exact turned _ e d

/-- What a point computes of a token. -/
theorem token_at (t : Fin cfg0.N) (i : Fin 256) (q : Fin 4096) (b : Fin 8) (r : Fin 2304) (hb : b.val = t.val / 9)
    (hr : r.val = t.val % 9 * 256 + i.val) :
    k0_pay1 (iblk m c 0 t) (iblk m c 1 t) (iblk m c 2 t) (ix2 i q)
      = modulated (V m c main_arg0) (V m c main_arg1) (V m c main_arg2) b r q := by
  have hp : ∀ k : Fin 6, iblk m c 2 t (ix3 0 k q) = part (V m c main_arg2) b r k q := fun k => by
    unfold part
    by_cases h : r.val < 256
    · rw [if_pos h, block2 m c t k q 8 (by rw [if_pos (by omega)]; rfl)]
    · rw [if_neg h, block2 m c t k q ⟨b.val, by omega⟩ (by rw [if_neg (by omega)]; exact hb)]
  rw [payload_at, block1, host_g, hp, hp, block0 m c t i q b r hb hr,
    show (fun d => iblk m c 0 t (ix3 0 i d)) = fun d => V m c main_arg0 (ix3 b r d) from funext fun d => block0 m c t i d b r hb hr]
  rfl

/-- What a point leaves in the tokens' block, -/
theorem tokens_block_at (t : Fin cfg0.N) (i : Fin 256) (q : Fin 4096) (b : Fin 8) (r : Fin 2304) (hb : b.val = t.val / 9)
    (hr : r.val = t.val % 9 * 256 + i.val) :
    out0_4 (iblk m c 0 t) (iblk m c 1 t) (iblk m c 2 t) (iblk m c 3 t) (ix3 0 i q)
      = tokens (V m c main_arg0) (V m c main_arg1) (V m c main_arg2) (ix3 b r q) := by
  unfold out0_4
  rw [View.canon_cons_unit_lit _ _ _ (by decide), View.ld_unit_lit _ _ (by decide), View.ld_unit_lit _ _ (by decide),
    View.ld_unit_lit _ _ (by decide), store_at, token_at m c t i q b r hb hr]
  rfl

/-- and in the logits'. -/
theorem logits_block_at (t : Fin cfg0.N) (e : Fin 16) (i : Fin 256) (n : Fin 18432) (hn : n.val = t.val * 256 + i.val) :
    out0_5 (iblk m c 0 t) (iblk m c 1 t) (iblk m c 2 t) (iblk m c 3 t) (ix2 e i)
      = logits (V m c main_arg0) (V m c main_arg1) (V m c main_arg2) (V m c main_arg3) (ix2 e n) := by
  unfold out0_5
  rw [View.canon_cons_unit_lit _ _ _ (by decide), View.ld_unit_lit _ _ (by decide), View.ld_unit_lit _ _ (by decide),
    View.ld_unit_lit _ _ (by decide), View.ld_unit_lit _ _ (by decide), logits_at]
  unfold logits
  refine Finset.sum_congr rfl fun d _ => ?_
  rw [block3, host_w, token_at m c t i d ⟨n.val / 2304, by omega⟩ ⟨n.val % 2304, Nat.mod_lt _ (by decide)⟩
    (by show n.val / 2304 = _; omega) (by show n.val % 2304 = _; omega)]
  rfl

/-- THE TOKENS' ARRAY after the launch, -/
theorem tokens_array_eq : (dats m 0 c).arrAt 4 cfg0.N = tokens (V m c main_arg0) (V m c main_arg1) (V m c main_arg2) := by
  refine (dats m 0 c).arrAt_eq_of_covers 4 _
    ((cfg0.win 4).covers_of_indexMap_surj rfl (by decide) fun β => ?_) fun t hf y => ?_
  · refine ⟨fun a => match a with | 0 => β 0 | 1 => β 1, fun a => ?_⟩
    change Fin 3 at a
    have h0 : (β 0).val < 8 := (β 0).isLt
    have h1 : (β 1).val < 9 := (β 1).isLt
    have h2 : (β 2).val < 1 := (β 2).isLt
    fin_cases a
    · show (BitVec.ofNat 32 (β 0).val).toNat = _; rw [BitVec.toNat_ofNat]; exact Nat.mod_eq_of_lt (by omega)
    · show (BitVec.ofNat 32 (β 1).val).toNat = _; rw [BitVec.toNat_ofNat]; exact Nat.mod_eq_of_lt (by omega)
    · show (0#32).toNat = (β 2).val; exact (Nat.lt_one_iff.mp h2).symm
  · have e0 : ((((win0_4.blk t).view.emb y) 0 : Fin _) : ℕ) = t.val / 9 * 1 + (y 0).val := by
      blk_simp [index4]
    have e1 : ((((win0_4.blk t).view.emb y) 1 : Fin _) : ℕ) = t.val % 9 * 256 + (y 1).val := by
      blk_simp [index4]
    have e2 : ((((win0_4.blk t).view.emb y) 2 : Fin _) : ℕ) = 0 * 4096 + (y 2).val := by
      blk_simp [index4]
    have y0 : (y 0).val < 1 := (y 0).isLt
    blk_simp
    rw [after0_4]
    have hy : (fun a => y a : S1x256x4096.Idx) = ix3 (n0 := 1) (n1 := 256) (n2 := 4096) 0 (y 1) (y 2) := by
      funext a
      fin_cases a
      · exact Fin.ext (Nat.lt_one_iff.mp y0)
      · rfl
      · rfl
    refine (congrArg (out0_4 (iblk m c 0 t) (iblk m c 1 t) (iblk m c 2 t) (iblk m c 3 t)) hy).trans ?_
    rw [tokens_block_at m c t (y 1) (y 2) ((win0_4.blk t).view.emb y 0) ((win0_4.blk t).view.emb y 1) (by omega) e1]
    refine congrArg (tokens _ _ _) (funext fun a => ?_)
    change Fin 3 at a
    fin_cases a
    · rfl
    · rfl
    · exact Fin.ext (e2.trans (by omega : 0 * 4096 + (y 2).val = (y 2).val)).symm

/-- The grid point that writes block `n` of the logits. -/
theorem point_of : ∀ n : Fin 72, (Scalar.addi (Scalar.muli (BitVec.ofNat 32 (n.val / 9)) 9#32) (BitVec.ofNat 32 (n.val % 9))).toNat = n.val := by
  decide +kernel

/-- and THE LOGITS'. -/
theorem logits_array_eq : (dats m 0 c).arrAt 5 cfg0.N
    = logits (V m c main_arg0) (V m c main_arg1) (V m c main_arg2) (V m c main_arg3) := by
  refine (dats m 0 c).arrAt_eq_of_covers 5 _
    ((cfg0.win 5).covers_of_indexMap_surj rfl (by decide) fun β => ?_) fun t hf y => ?_
  · have h0 : (β 0).val < 1 := (β 0).isLt
    have h1 : (β 1).val < 72 := (β 1).isLt
    refine ⟨fun a => match a with
      | 0 => ⟨(β 1).val / 9, by show (β 1).val / 9 < 8; omega⟩ | 1 => ⟨(β 1).val % 9, by show (β 1).val % 9 < 9; omega⟩, fun a => ?_⟩
    change Fin 2 at a
    fin_cases a
    · show (0#32).toNat = (β 0).val; exact (Nat.lt_one_iff.mp h0).symm
    · exact point_of ⟨(β 1).val, h1⟩
  · have e0 : ((((win0_5.blk t).view.emb y) 0 : Fin _) : ℕ) = 0 * 16 + (y 0).val := by
      blk_simp [index5]
    have e1 : ((((win0_5.blk t).view.emb y) 1 : Fin _) : ℕ) = t.val * 256 + (y 1).val := by
      blk_simp [index5]
    blk_simp
    rw [after0_5]
    have hy : (fun a => y a : S16x256.Idx) = ix2 (n0 := 16) (n1 := 256) (y 0) (y 1) := by
      funext a
      fin_cases a <;> rfl
    refine (congrArg (out0_5 (iblk m c 0 t) (iblk m c 1 t) (iblk m c 2 t) (iblk m c 3 t)) hy).trans ?_
    rw [logits_block_at m c t (y 0) (y 1) ((win0_5.blk t).view.emb y 1) e1]
    refine congrArg (logits _ _ _ _) (funext fun a => ?_)
    change Fin 2 at a
    fin_cases a
    · exact Fin.ext (e0.trans (by omega : 0 * 16 + (y 0).val = (y 0).val)).symm
    · rfl

end Natten.Norm
-- ==== Proof.NormRead.lean ====
module
/- The norm, its modulation and the routing's logits as the reference writes them, read at one index. -/
public import proofs.«01_k».proof.Proof.Norm
public import proofs.«01_k».proof.Proof.Gen.ReferenceNormIdeal
public import proofs.«01_k».proof.Proof.Gen.ReferenceNormIdeal.Run
@[expose] public section
set_option maxRecDepth 16384
noncomputable section
namespace Natten.Norm
open Cert.ReferenceNormIdeal Cert.ReferenceNormIdeal.Gen
open Idealize.ShloMosaic Idealize.ShloMosaic.TcCoe

/-- The context's tokens over the roots of their mean squares, -/
def contextNormed (x : FVec Ideal S8x2304x4096 .f32) : FVec Ideal S8x256x4096 .f32 :=
  mulf (extractStridedSlice S8x256x4096 ![0, 0, 0] x slices_S8x2304x4096_S8x256x4096_0_0_0)
    (broadcastInDim S8x256x4096 ![0, 1, 2] bcast_S8x256x1_S8x256x4096_0_1_2 (Host.rsqrt (addf (Host.divf
      (broadcastInDim S8x256x1 ![0, 1] bcast_S8x256_S8x256x1_0_1 (Host.reduceAdd
        (mulf (extractStridedSlice S8x256x4096 ![0, 0, 0] x slices_S8x2304x4096_S8x256x4096_0_0_0)
          (extractStridedSlice S8x256x4096 ![0, 0, 0] x slices_S8x2304x4096_S8x256x4096_0_0_0))
        (constant S_ .f32 0x00000000#32) reducesTo_S8x256x4096_S8x256_d2 h_S_))
      (broadcastInDim S8x256x1 ![] bcast_S_S8x256x1 (constant S_ .f32 0x45800000#32)))
      (broadcastInDim S8x256x1 ![] bcast_S_S8x256x1 (constant S_ .f32 0x358637BD#32)))))

/-- and the latent ones. -/
def latentNormed (x : FVec Ideal S8x2304x4096 .f32) : FVec Ideal S8x2048x4096 .f32 :=
  mulf (extractStridedSlice S8x2048x4096 ![0, 256, 0] x slices_S8x2304x4096_S8x2048x4096_0_256_0)
    (broadcastInDim S8x2048x4096 ![0, 1, 2] bcast_S8x2048x1_S8x2048x4096_0_1_2 (Host.rsqrt (addf (Host.divf
      (broadcastInDim S8x2048x1 ![0, 1] bcast_S8x2048_S8x2048x1_0_1 (Host.reduceAdd
        (mulf (extractStridedSlice S8x2048x4096 ![0, 256, 0] x slices_S8x2304x4096_S8x2048x4096_0_256_0)
          (extractStridedSlice S8x2048x4096 ![0, 256, 0] x slices_S8x2304x4096_S8x2048x4096_0_256_0))
        (constant S_ .f32 0x00000000#32) reducesTo_S8x2048x4096_S8x2048_d2 h_S_))
      (broadcastInDim S8x2048x1 ![] bcast_S_S8x2048x1 (constant S_ .f32 0x45800000#32)))
      (broadcastInDim S8x2048x1 ![] bcast_S_S8x2048x1 (constant S_ .f32 0x358637BD#32)))))

theorem context_normed (x : FVec Ideal S8x2304x4096 .f32) (b : Fin 8) (k : Fin 256) (q : Fin 4096) :
    contextNormed x (ix3 b k q) = normed (fun d => x (ix3 b ⟨k.val, k.isLt.trans (by decide)⟩ d)) (x (ix3 b ⟨k.val, k.isLt.trans (by decide)⟩ q)) := by
  unfold contextNormed normed
  pointwise []
  all_goals rfl

theorem latent_normed (x : FVec Ideal S8x2304x4096 .f32) (b : Fin 8) (k : Fin 2048) (q : Fin 4096) :
    latentNormed x (ix3 b k q)
      = normed (fun d => x (ix3 b ⟨256 + k.val, Nat.add_lt_add_left k.isLt 256⟩ d)) (x (ix3 b ⟨256 + k.val, Nat.add_lt_add_left k.isLt 256⟩ q)) := by
  unfold latentNormed normed
  pointwise []
  all_goals rfl

/-- The context's tokens, weighted and modulated, from their normed values. -/
def context (v : FVec Ideal S8x256x4096 .f32) (g : FVec Ideal S2x4096 .f32) (mod : FVec Ideal S16x6x4096 .f32) : FVec Ideal S8x256x4096 .f32 :=
  addf (mulf (mulf v (broadcastInDim S8x256x4096 ![0, 1, 2] bcast_S1x1x4096_S8x256x4096_0_1_2 (broadcastInDim S1x1x4096 ![2] bcast_S4096_S1x1x4096_2
        (shapeCast _ (extractStridedSlice S1x4096 ![0, 0] g slices_S2x4096_S1x4096_0_0) shapeCasts_S1x4096_S4096))))
      (broadcastInDim S8x256x4096 ![0, 1, 2] bcast_S1x1x4096_S8x256x4096_0_1_2 (broadcastInDim S1x1x4096 ![2] bcast_S4096_S1x1x4096_2
        (addf (broadcastInDim S4096 ![] bcast_S_S4096 (constant S_ .f32 0x3F800000#32))
          (shapeCast _ (extractStridedSlice S1x1x4096 ![8, 4, 0] mod slices_S16x6x4096_S1x1x4096_8_4_0) shapeCasts_S1x1x4096_S4096)))))
    (broadcastInDim S8x256x4096 ![0, 1, 2] bcast_S1x1x4096_S8x256x4096_0_1_2 (broadcastInDim S1x1x4096 ![2] bcast_S4096_S1x1x4096_2
      (shapeCast _ (extractStridedSlice S1x1x4096 ![8, 3, 0] mod slices_S16x6x4096_S1x1x4096_8_3_0) shapeCasts_S1x1x4096_S4096)))

/-- The latent ones likewise. -/
def latent (v : FVec Ideal S8x2048x4096 .f32) (g : FVec Ideal S2x4096 .f32) (mod : FVec Ideal S16x6x4096 .f32) : FVec Ideal S8x2048x4096 .f32 :=
  addf (mulf (mulf v (broadcastInDim S8x2048x4096 ![0, 1, 2] bcast_S1x1x4096_S8x2048x4096_0_1_2 (broadcastInDim S1x1x4096 ![2] bcast_S4096_S1x1x4096_2
        (shapeCast _ (extractStridedSlice S1x4096 ![0, 0] g slices_S2x4096_S1x4096_0_0) shapeCasts_S1x4096_S4096))))
      (broadcastInDim S8x2048x4096 ![0, 1, 2] bcast_S8x1x4096_S8x2048x4096_0_1_2
        (addf (broadcastInDim S8x1x4096 ![] bcast_S_S8x1x4096 (constant S_ .f32 0x3F800000#32))
          (broadcastInDim S8x1x4096 ![0, 2] bcast_S8x4096_S8x1x4096_0_2
            (shapeCast _ (extractStridedSlice S8x1x4096 ![0, 4, 0] mod slices_S16x6x4096_S8x1x4096_0_4_0) shapeCasts_S8x1x4096_S8x4096)))))
    (broadcastInDim S8x2048x4096 ![0, 1, 2] bcast_S8x1x4096_S8x2048x4096_0_1_2 (broadcastInDim S8x1x4096 ![0, 2] bcast_S8x4096_S8x1x4096_0_2
      (shapeCast _ (extractStridedSlice S8x1x4096 ![0, 3, 0] mod slices_S16x6x4096_S8x1x4096_0_3_0) shapeCasts_S8x1x4096_S8x4096)))

theorem context_row (x : FVec Ideal S8x2304x4096 .f32) (g : FVec Ideal S2x4096 .f32) (mod : FVec Ideal S16x6x4096 .f32) (b : Fin 8) (k : Fin 256)
    (q : Fin 4096) (r : Fin 2304) (hr : r.val = k.val) : context (contextNormed x) g mod (ix3 b k q) = modulated x g mod b r q := by
  obtain rfl : r = ⟨k.val, k.isLt.trans (by decide)⟩ := Fin.ext hr
  unfold modulated part
  rw [if_pos k.isLt, if_pos k.isLt, ← context_normed]
  generalize contextNormed x = v
  unfold context
  pointwise []
  all_goals rfl

theorem latent_row (x : FVec Ideal S8x2304x4096 .f32) (g : FVec Ideal S2x4096 .f32) (mod : FVec Ideal S16x6x4096 .f32) (b : Fin 8) (k : Fin 2048)
    (q : Fin 4096) (r : Fin 2304) (hr : r.val = 256 + k.val) : latent (latentNormed x) g mod (ix3 b k q) = modulated x g mod b r q := by
  obtain rfl : r = ⟨256 + k.val, Nat.add_lt_add_left k.isLt 256⟩ := Fin.ext hr
  have h : ¬(256 + k.val < 256) := by omega
  unfold modulated part
  rw [if_neg h, if_neg h, ← latent_normed]
  generalize latentNormed x = v
  unfold latent
  pointwise []
  all_goals rfl

/-- The reference's modulated tokens, as its run writes them, -/
def joined (x : FVec Ideal S8x2304x4096 .f32) (g : FVec Ideal S2x4096 .f32) (mod : FVec Ideal S16x6x4096 .f32) : FVec Ideal S8x2304x4096 .f32 :=
  concatenate S8x2304x4096 1 [⟨S8x256x4096, context (contextNormed x) g mod⟩, ⟨S8x2048x4096, latent (latentNormed x) g mod⟩]
    concatenates_S8x256x4096_S8x2048x4096_S8x2304x4096_d1

theorem joined_at (x : FVec Ideal S8x2304x4096 .f32) (g : FVec Ideal S2x4096 .f32) (mod : FVec Ideal S16x6x4096 .f32) (b : Fin 8) (r : Fin 2304)
    (q : Fin 4096) : joined x g mod (ix3 b r q) = modulated x g mod b r q := by
  unfold joined
  pointwise []
  by_cases h : r.val < 256
  · rw [dif_pos h]
    exact context_row x g mod b _ q r rfl
  · rw [dif_neg h]
    exact latent_row x g mod b _ q r (by show r.val = 256 + (r.val - 256); omega)

/-- which are those of the launch, -/
theorem tokens_eq (x : FVec Ideal S8x2304x4096 .f32) (g : FVec Ideal S2x4096 .f32) (mod : FVec Ideal S16x6x4096 .f32) :
    truncf (F := Ideal) .bf16 (joined x g mod) bitsLt_bf16_f32 = tokens x g mod := by
  funext y
  have hy : ix3 (n0 := 8) (n1 := 2304) (n2 := 4096) (y 0) (y 1) (y 2) = y := funext fun a => by
    change Fin 3 at a; fin_cases a <;> rfl
  rw [← hy]
  exact joined_at x g mod _ _ _

/-- and its logits. -/
def scores (v : FVec Ideal S8x2304x4096 .f32) (w : FVec Ideal S4096x16 .f32) : FVec Ideal S16x18432 .f32 :=
  transpose S16x18432 [1, 0] (Host.dotGeneral (φ₁ := .f32) (φ₂ := .f32) dot_S18432x4096_S4096x16_S18432x16_1_0_0_1_n_n none
    (shapeCast _ v shapeCasts_S8x2304x4096_S18432x4096) w) transposes_S18432x16_S16x18432_1_0

theorem scores_at (v : FVec Ideal S8x2304x4096 .f32) (w : FVec Ideal S4096x16 .f32) (e : Fin 16) (n : Fin 18432) :
    scores v w (ix2 e n) = ∑ d : Fin 4096, v (ix3 ⟨n.val / 2304, by omega⟩ ⟨n.val % 2304, Nat.mod_lt _ (by decide)⟩ d) * w (ix2 d e) := by
  unfold scores
  pointwise []
  all_goals rfl

theorem logits_row (x : FVec Ideal S8x2304x4096 .f32) (g : FVec Ideal S2x4096 .f32) (mod : FVec Ideal S16x6x4096 .f32) (w : FVec Ideal S4096x16 .f32)
    (e : Fin 16) (n : Fin 18432) : scores (joined x g mod) w (ix2 e n) = logits x g mod w (ix2 e n) := by
  rw [scores_at]
  unfold logits
  refine Finset.sum_congr rfl fun d _ => ?_
  rw [joined_at, mul_comm]
  rfl

theorem logits_eq (x : FVec Ideal S8x2304x4096 .f32) (g : FVec Ideal S2x4096 .f32) (mod : FVec Ideal S16x6x4096 .f32) (w : FVec Ideal S4096x16 .f32) :
    scores (joined x g mod) w = logits x g mod w := by
  funext y
  have hy : ix2 (n0 := 16) (n1 := 18432) (y 0) (y 1) = y := funext fun a => by
    change Fin 2 at a; fin_cases a <;> rfl
  rw [← hy]
  exact logits_row x g mod w _ _

end Natten.Norm
-- ==== Proof.Comb.lean ====
module
/- The last sum of the layer: the tokens plus the gated, weighted outputs of their two experts. What its launch writes. -/
public import proofs.«01_k».proof.Proof.Gen.KernelCombIdeal
public import proofs.«01_k».proof.Proof.Gen.KernelCombIdeal.Frame
public import proofs.«01_k».proof.Proof.Gen.KernelCombIdeal.Value
public import Idealize.ShloMosaic.Lib.Pipeline.ValueKit
public import Idealize.ShloMosaic.Lib.Pipeline.Covers
@[expose] public section
set_option maxRecDepth 16384
noncomputable section
namespace Natten.Comb
open Cert.KernelCombIdeal Cert.KernelCombIdeal.Gen Cert.KernelCombIdeal.Value
open Idealize.ShloMosaic Idealize.ShloMosaic.TcCoe Idealize.SL.Sem

/-- A latent token plus its gated sum of the two experts' outputs. -/
def summed (x : Vec Ideal S8x2304x4096 .f32) (yh yc : Vec Ideal S8x2048x4096 .bf16) (wt : Vec Ideal S8x2048x2 .f32)
    (mod : Vec Ideal S16x6x4096 .f32) : Vec Ideal S8x2048x4096 .f32 := fun y =>
  x (ix3 (y 0) ⟨256 + (y 1).val, by have : (y 1).val < 2048 := (y 1).isLt; omega⟩ (y 2))
    + mod (ix3 ⟨(y 0).val, by have : (y 0).val < 8 := (y 0).isLt; omega⟩ 5 (y 2))
      * (yh (ix3 (y 0) (y 1) (y 2)) * wt (ix3 (y 0) (y 1) 0) + yc (ix3 (y 0) (y 1) (y 2)) * wt (ix3 (y 0) (y 1) 1))

/-- One block of the result. -/
theorem payload_at (yh : Vec Ideal S1x256x4096 .bf16) (w0 : Vec Ideal S1x256x1 .f32) (yc : Vec Ideal S1x256x4096 .bf16)
    (w1 : Vec Ideal S1x256x1 .f32) (x : Vec Ideal S1x256x4096 .f32) (g : Vec Ideal S1x1x4096 .f32) (i : Fin 256) (q : Fin 4096) :
    k0_pay1 yh w0 yc w1 x g (ix3 0 i q)
      = x (ix3 0 i q) + g (ix3 0 0 q) * (yh (ix3 0 i q) * w0 (ix3 0 i 0) + yc (ix3 0 i q) * w1 (ix3 0 i 0)) := by
  pointwise [k0_pay1]

variable (m : (ℓ : Loc nD τ sig) → Buf (Elt Ideal) ℓ) (c : Dev nD)

theorem index0 : ∀ t : Fin grid0.N, win0_0.index t = ![t.val / 8, 1 + t.val % 8, 0] := by decide +kernel
theorem index1 : ∀ t : Fin grid0.N, win0_1.index t = ![t.val / 8, t.val % 8, 0] := by decide +kernel
theorem index2 : ∀ t : Fin grid0.N, win0_2.index t = ![t.val / 8, t.val % 8, 0] := by decide +kernel
theorem index3 : ∀ t : Fin grid0.N, win0_3.index t = ![t.val / 8, t.val % 8, 0] := by decide +kernel
theorem index4 : ∀ t : Fin grid0.N, win0_4.index t = ![t.val / 8, 0, 0] := by decide +kernel
theorem index5 : ∀ t : Fin grid0.N, win0_5.index t = ![t.val / 8, t.val % 8, 0] := by decide +kernel

/-- The blocks of a grid point, in the arrays they are copied from. -/
theorem block0 (t : Fin cfg0.N) (i : Fin 256) (q : Fin 4096) (b : Fin 8) (r : Fin 2304) (hb : b.val = t.val / 8)
    (hr : r.val = 256 + (t.val % 8 * 256 + i.val)) : iblk m c 0 t (ix3 0 i q) = V m c main_arg0 (ix3 b r q) := by
  refine congrArg (V m c main_arg0) (funext fun a => Fin.ext ?_)
  blk_simp [index0]
  change Fin 3 at a
  fin_cases a
  · show t.val / 8 * 1 + 0 = b.val; omega
  · show (1 + t.val % 8) * 256 + i.val = r.val; omega
  · show 0 * 4096 + q.val = q.val; omega

theorem block1 (t : Fin cfg0.N) (i : Fin 256) (q : Fin 4096) (b : Fin 8) (r : Fin 2048) (hb : b.val = t.val / 8)
    (hr : r.val = t.val % 8 * 256 + i.val) : iblk m c 1 t (ix3 0 i q) = V m c main_arg1 (ix3 b r q) := by
  refine congrArg (V m c main_arg1) (funext fun a => Fin.ext ?_)
  blk_simp [index1]
  change Fin 3 at a
  fin_cases a
  · show t.val / 8 * 1 + 0 = b.val; omega
  · show t.val % 8 * 256 + i.val = r.val; omega
  · show 0 * 4096 + q.val = q.val; omega

theorem block2 (t : Fin cfg0.N) (i : Fin 256) (q : Fin 4096) (b : Fin 8) (r : Fin 2048) (hb : b.val = t.val / 8)
    (hr : r.val = t.val % 8 * 256 + i.val) : iblk m c 2 t (ix3 0 i q) = V m c main_arg2 (ix3 b r q) := by
  refine congrArg (V m c main_arg2) (funext fun a => Fin.ext ?_)
  blk_simp [index2]
  change Fin 3 at a
  fin_cases a
  · show t.val / 8 * 1 + 0 = b.val; omega
  · show t.val % 8 * 256 + i.val = r.val; omega
  · show 0 * 4096 + q.val = q.val; omega

theorem block3 (t : Fin cfg0.N) (i : Fin 256) (k : Fin 2) (b : Fin 8) (r : Fin 2048) (hb : b.val = t.val / 8)
    (hr : r.val = t.val % 8 * 256 + i.val) : iblk m c 3 t (ix3 0 i k) = V m c main_arg3 (ix3 b r k) := by
  refine congrArg (V m c main_arg3) (funext fun a => Fin.ext ?_)
  blk_simp [index3]
  change Fin 3 at a
  fin_cases a
  · show t.val / 8 * 1 + 0 = b.val; omega
  · show t.val % 8 * 256 + i.val = r.val; omega
  · show 0 * 2 + k.val = k.val; omega

theorem block4 (t : Fin cfg0.N) (q : Fin 4096) (b : Fin 16) (hb : b.val = t.val / 8) :
    iblk m c 4 t (ix3 0 5 q) = V m c main_arg4 (ix3 b 5 q) := by
  refine congrArg (V m c main_arg4) (funext fun a => Fin.ext ?_)
  blk_simp [index4]
  change Fin 3 at a
  fin_cases a
  · show t.val / 8 * 1 + 0 = b.val; omega
  · show 0 * 6 + 5 = 5; omega
  · show 0 * 4096 + q.val = q.val; omega

/-- What a point leaves in the result's block. -/
theorem block_at (t : Fin cfg0.N) (i : Fin 256) (q : Fin 4096) (b : Fin 8) (r : Fin 2048) (hb : b.val = t.val / 8)
    (hr : r.val = t.val % 8 * 256 + i.val) :
    out0_5 (iblk m c 0 t) (iblk m c 1 t) (iblk m c 2 t) (iblk m c 3 t) (iblk m c 4 t) (ix3 0 i q)
      = summed (V m c main_arg0) (V m c main_arg1) (V m c main_arg2) (V m c main_arg3) (V m c main_arg4) (ix3 b r q) := by
  have l0 : ∀ X : Vec Ideal S1x256x2 .f32, View.ld (Val := Elt Ideal) X r0_1 (ix3 0 i 0) = X (ix3 0 i 0) := fun X =>
    View.ld_unit_apply_of _ _ _ _ _ _ fun a => by fin_cases a <;> simp
  have l1 : ∀ X : Vec Ideal S1x256x2 .f32, View.ld (Val := Elt Ideal) X r0_2 (ix3 0 i 0) = X (ix3 0 i 1) := fun X =>
    View.ld_unit_apply_of _ _ _ _ _ _ fun a => by fin_cases a <;> simp
  have l2 : ∀ X : Vec Ideal S1x6x4096 .f32, View.ld (Val := Elt Ideal) X r0_3 (ix3 0 0 q) = X (ix3 0 5 q) := fun X =>
    View.ld_unit_apply_of _ _ _ _ _ _ fun a => by fin_cases a <;> simp
  unfold out0_5
  rw [View.canon_cons_unit_lit _ _ _ (by decide), payload_at, l0, l1, l2, View.ld_unit_lit _ _ (by decide), View.ld_unit_lit _ _ (by decide),
    View.ld_unit_lit _ _ (by decide), block0 m c t i q b ⟨256 + r.val, by omega⟩ hb (by show 256 + r.val = _; omega),
    block1 m c t i q b r hb hr, block2 m c t i q b r hb hr, block3 m c t i 0 b r hb hr, block3 m c t i 1 b r hb hr,
    block4 m c t q ⟨b.val, by omega⟩ hb]
  rfl

/-- THE RESULT ARRAY after the launch. -/
theorem array_eq : (dats m 0 c).arrAt 5 cfg0.N
    = summed (V m c main_arg0) (V m c main_arg1) (V m c main_arg2) (V m c main_arg3) (V m c main_arg4) := by
  refine (dats m 0 c).arrAt_eq_of_covers 5 _
    ((cfg0.win 5).covers_of_indexMap_surj rfl (by decide) fun β => ?_) fun t hf y => ?_
  · refine ⟨fun a => match a with | 0 => β 0 | 1 => β 1, fun a => ?_⟩
    change Fin 3 at a
    have h0 : (β 0).val < 8 := (β 0).isLt
    have h1 : (β 1).val < 8 := (β 1).isLt
    have h2 : (β 2).val < 1 := (β 2).isLt
    fin_cases a
    · show (BitVec.ofNat 32 (β 0).val).toNat = _; rw [BitVec.toNat_ofNat]; exact Nat.mod_eq_of_lt (by omega)
    · show (BitVec.ofNat 32 (β 1).val).toNat = _; rw [BitVec.toNat_ofNat]; exact Nat.mod_eq_of_lt (by omega)
    · show (0#32).toNat = (β 2).val; exact (Nat.lt_one_iff.mp h2).symm
  · have e0 : ((((win0_5.blk t).view.emb y) 0 : Fin _) : ℕ) = t.val / 8 * 1 + (y 0).val := by
      blk_simp [index5]
    have e1 : ((((win0_5.blk t).view.emb y) 1 : Fin _) : ℕ) = t.val % 8 * 256 + (y 1).val := by
      blk_simp [index5]
    have e2 : ((((win0_5.blk t).view.emb y) 2 : Fin _) : ℕ) = 0 * 4096 + (y 2).val := by
      blk_simp [index5]
    have y0 : (y 0).val < 1 := (y 0).isLt
    blk_simp
    rw [after0_5]
    have hy : (fun a => y a : S1x256x4096.Idx) = ix3 (n0 := 1) (n1 := 256) (n2 := 4096) 0 (y 1) (y 2) := by
      funext a
      fin_cases a
      · exact Fin.ext (Nat.lt_one_iff.mp y0)
      · rfl
      · rfl
    refine (congrArg (out0_5 (iblk m c 0 t) (iblk m c 1 t) (iblk m c 2 t) (iblk m c 3 t) (iblk m c 4 t)) hy).trans ?_
    rw [block_at m c t (y 1) (y 2) ((win0_5.blk t).view.emb y 0) ((win0_5.blk t).view.emb y 1) (by omega) e1]
    refine congrArg (summed _ _ _ _ _) (funext fun a => ?_)
    change Fin 3 at a
    fin_cases a
    · rfl
    · rfl
    · exact Fin.ext (e2.trans (by omega : 0 * 4096 + (y 2).val = (y 2).val)).symm

end Natten.Comb
-- ==== Proof.CombRead.lean ====
module
/- The last sum of the layer as the reference writes it, read at one index. -/
public import proofs.«01_k».proof.Proof.Comb
public import proofs.«01_k».proof.Proof.Gen.ReferenceCombIdeal
public import proofs.«01_k».proof.Proof.Gen.ReferenceCombIdeal.Run
@[expose] public section
set_option maxRecDepth 16384
noncomputable section
namespace Natten.Comb
open Cert.ReferenceCombIdeal Cert.ReferenceCombIdeal.Gen
open Idealize.ShloMosaic Idealize.ShloMosaic.TcCoe

/-- The reference's result, as its run writes it. -/
def result (x : FVec Ideal S8x2304x4096 .f32) (yh yc : FVec Ideal S8x2048x4096 .bf16) (wt : FVec Ideal S8x2048x2 .f32)
    (mod : FVec Ideal S16x6x4096 .f32) : FVec Ideal S8x2048x4096 .f32 :=
  addf (extractStridedSlice S8x2048x4096 ![0, 256, 0] x slices_S8x2304x4096_S8x2048x4096_0_256_0)
    (mulf (broadcastInDim S8x2048x4096 ![0, 1, 2] bcast_S8x1x4096_S8x2048x4096_0_1_2 (broadcastInDim S8x1x4096 ![0, 2] bcast_S8x4096_S8x1x4096_0_2
        (shapeCast _ (extractStridedSlice S8x1x4096 ![0, 5, 0] mod slices_S16x6x4096_S8x1x4096_0_5_0) shapeCasts_S8x1x4096_S8x4096)))
      (addf (mulf (broadcastInDim S8x2048x4096 ![0, 1, 2] bcast_S8x2048x1_S8x2048x4096_0_1_2
            (extractStridedSlice S8x2048x1 ![0, 0, 0] wt slices_S8x2048x2_S8x2048x1_0_0_0)) (extf .f32 yh bitsLt_bf16_f32))
        (mulf (broadcastInDim S8x2048x4096 ![0, 1, 2] bcast_S8x2048x1_S8x2048x4096_0_1_2
            (extractStridedSlice S8x2048x1 ![0, 0, 1] wt slices_S8x2048x2_S8x2048x1_0_0_1)) (extf .f32 yc bitsLt_bf16_f32))))

theorem result_at (x : FVec Ideal S8x2304x4096 .f32) (yh yc : FVec Ideal S8x2048x4096 .bf16) (wt : FVec Ideal S8x2048x2 .f32)
    (mod : FVec Ideal S16x6x4096 .f32) (b : Fin 8) (r : Fin 2048) (q : Fin 4096) :
    result x yh yc wt mod (ix3 b r q) = summed x yh yc wt mod (ix3 b r q) := by
  have h : result x yh yc wt mod (ix3 b r q) = x (ix3 b ⟨256 + r.val, by omega⟩ q) + mod (ix3 ⟨b.val, by omega⟩ 5 q)
      * (wt (ix3 b r 0) * yh (ix3 b r q) + wt (ix3 b r 1) * yc (ix3 b r q)) := by
    unfold result
    pointwise []
    all_goals rfl
  rw [h, mul_comm (wt (ix3 b r 0)), mul_comm (wt (ix3 b r 1))]
  rfl

/-- The reference's result is what the launch computes. -/
theorem result_eq (x : FVec Ideal S8x2304x4096 .f32) (yh yc : FVec Ideal S8x2048x4096 .bf16) (wt : FVec Ideal S8x2048x2 .f32)
    (mod : FVec Ideal S16x6x4096 .f32) : result x yh yc wt mod = summed x yh yc wt mod := by
  funext y
  have hy : ix3 (n0 := 8) (n1 := 2048) (n2 := 4096) (y 0) (y 1) (y 2) = y := funext fun a => by
    change Fin 3 at a; fin_cases a <;> rfl
  rw [← hy]
  exact result_at x yh yc wt mod _ _ _

end Natten.Comb
-- ==== Proof.lean ====
/- The proof of the claims of this certificate: the programs run and leave their arguments and semaphores as they
   found them, the kernel's attention is the reference's (Proof/Array.lean: what the kernel writes; Proof/Stages.lean:
   what the reference writes; Proof/Equation.lean: that they are equal), and so are its two matrix products of the input
   projection (Proof/ProjA.lean, Proof/ProjB.lean), its output projection (Proof/Out.lean: what the kernel writes;
   Proof/OutRead.lean: that the reference writes the same), its gate columns, its modulation, the norm before the experts
   with the routing's logits and the last sum (Proof/Gates.lean, Proof/GatesRead.lean and so on, likewise), the experts'
   gated up product (Proof/UpRun.lean, Proof/UpFrame.lean: the launch; Proof/UpRead.lean: what the reference writes;
   Proof/UpValue.lean: that they are equal; Proof/UpPre.lean: what the precondition says) and their down product
   (Proof/DownRun.lean and so on, likewise). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.KernelProjA
public import proofs.«01_k».proof.Proof.Gen.KernelProjA.Skeleton
public import proofs.«01_k».proof.Proof.Gen.KernelProjA.Launch
public import proofs.«01_k».proof.Proof.Gen.KernelProjA.Frame
public import proofs.«01_k».proof.Proof.Gen.KernelProjAIdeal
public import proofs.«01_k».proof.Proof.Gen.KernelProjAIdeal.Skeleton
public import proofs.«01_k».proof.Proof.Gen.KernelProjAIdeal.Launch
public import proofs.«01_k».proof.Proof.Gen.KernelProjAIdeal.Frame
public import proofs.«01_k».proof.Proof.Gen.KernelProjB
public import proofs.«01_k».proof.Proof.Gen.KernelProjB.Skeleton
public import proofs.«01_k».proof.Proof.Gen.KernelProjB.Launch
public import proofs.«01_k».proof.Proof.Gen.KernelProjB.Frame
public import proofs.«01_k».proof.Proof.Gen.KernelProjBIdeal
public import proofs.«01_k».proof.Proof.Gen.KernelProjBIdeal.Skeleton
public import proofs.«01_k».proof.Proof.Gen.KernelProjBIdeal.Launch
public import proofs.«01_k».proof.Proof.Gen.KernelProjBIdeal.Frame
public import proofs.«01_k».proof.Proof.Gen.KernelUp
public import proofs.«01_k».proof.Proof.Gen.KernelUp.Skeleton
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.ReferenceUpIdeal
public import proofs.«01_k».proof.Proof.Gen.ReferenceUpIdeal.Run
public import proofs.«01_k».proof.Proof.Gen.Pre_experts
public import proofs.«01_k».proof.Proof.Gen.KernelDown
public import proofs.«01_k».proof.Proof.Gen.KernelDown.Skeleton
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.ReferenceDownIdeal
public import proofs.«01_k».proof.Proof.Gen.ReferenceDownIdeal.Run
public import proofs.«01_k».proof.Proof.Gen.Pre_all_experts
public import proofs.«01_k».proof.Proof.Gen.ReferenceProjAIdeal
public import proofs.«01_k».proof.Proof.Gen.ReferenceProjBIdeal
public import proofs.«01_k».proof.Proof.Gen.ReferenceProjAIdeal.Run
public import proofs.«01_k».proof.Proof.Gen.ReferenceProjBIdeal.Run
public import proofs.«01_k».proof.Proof.Gen.KernelProjAIdeal.Value
public import proofs.«01_k».proof.Proof.Gen.KernelProjBIdeal.Value
public import proofs.«01_k».proof.Proof.Gen.KernelOut
public import proofs.«01_k».proof.Proof.Gen.KernelOut.Skeleton
public import proofs.«01_k».proof.Proof.Gen.KernelOut.Launch
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelGates
public import proofs.«01_k».proof.Proof.Gen.KernelGates.Skeleton
public import proofs.«01_k».proof.Proof.Gen.KernelGates.Launch
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Frame
public import proofs.«01_k».proof.Proof.Gen.KernelGatesIdeal.Value
public import proofs.«01_k».proof.Proof.Gen.ReferenceGatesIdeal
public import proofs.«01_k».proof.Proof.Gen.ReferenceGatesIdeal.Run
public import proofs.«01_k».proof.Proof.Gen.KernelAda
public import proofs.«01_k».proof.Proof.Gen.KernelAda.Skeleton
public import proofs.«01_k».proof.Proof.Gen.KernelAda.Launch
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Frame
public import proofs.«01_k».proof.Proof.Gen.KernelAdaIdeal.Value
public import proofs.«01_k».proof.Proof.Gen.ReferenceAdaIdeal
public import proofs.«01_k».proof.Proof.Gen.ReferenceAdaIdeal.Run
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelComb
public import proofs.«01_k».proof.Proof.Gen.KernelComb.Skeleton
public import proofs.«01_k».proof.Proof.Gen.KernelComb.Launch
public import proofs.«01_k».proof.Proof.Gen.KernelComb.Frame
public import proofs.«01_k».proof.Proof.Gen.KernelCombIdeal
public import proofs.«01_k».proof.Proof.Gen.KernelCombIdeal.Skeleton
public import proofs.«01_k».proof.Proof.Gen.KernelCombIdeal.Launch
public import proofs.«01_k».proof.Proof.Gen.KernelCombIdeal.Frame
public import proofs.«01_k».proof.Proof.Gen.KernelCombIdeal.Value
public import proofs.«01_k».proof.Proof.Gen.ReferenceCombIdeal
public import proofs.«01_k».proof.Proof.Gen.ReferenceCombIdeal.Run
public import proofs.«01_k».proof.Proof.Equation
public import proofs.«01_k».proof.Proof.Finite
public import proofs.«01_k».proof.Proof.ProjA
public import proofs.«01_k».proof.Proof.ProjB
public import proofs.«01_k».proof.Proof.UpPre
public import proofs.«01_k».proof.Proof.DownPre
public import proofs.«01_k».proof.Proof.DownRead
public import proofs.«01_k».proof.Proof.OutRead
public import proofs.«01_k».proof.Proof.GatesRead
public import proofs.«01_k».proof.Proof.AdaRead
public import proofs.«01_k».proof.Proof.NormRead
public import proofs.«01_k».proof.Proof.CombRead
public import Idealize.ShloMosaic.Adequacy
public import Idealize.ShloMosaic.Init

@[expose] public section

noncomputable section

namespace Cert.Proof

open Idealize.ShloMosaic Idealize.SL.Sem Cert.Kernel

/-- The reference runs and leaves its arguments and semaphores as they were. -/
theorem reference_frame : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's attention and the reference's are equal where the biases and the norm weights are finite. -/
theorem values : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Natten.Ref.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨(h c).1.trans ?_, (h c).2⟩) (Cert.KernelIdeal.Value.run_blocks m ρ),
    (θ_run Cert.ReferenceIdeal.defs _ _).mono (fun _ h c => ⟨(h c).1.trans ?_, (h c).2⟩)
      (Cert.ReferenceIdeal.Value.run m' ρ')⟩
  · obtain ⟨hu, hw⟩ := Natten.Finite.both _ _ _ (hpre c)
    rw [Natten.Launch.array_eq, Natten.Launch.table_eq]
    exact (congrArg₂ (fun a b => Natten.Launch.attention a _ b) (Cert.KernelIdeal.Gen.V_main_arg0 m c)
      (Cert.KernelIdeal.Gen.V_main_arg2 m c)).trans (Natten.Ref.attention_eq _ _ _ hw hu)
  · obtain ⟨h0, h1, h2⟩ := hagree c
    rw [Natten.Ref.result_eq, h0, h1, h2]

/-- The reference of product A runs and leaves its arguments and semaphores as they were. -/
theorem reference_frame_A : quiescent_ReferenceProjAIdeal (hReferenceProjAIdeal := Cert.ReferenceProjAIdeal.Gen.facts) := fun m ρ _ =>
  (θ_run Cert.ReferenceProjAIdeal.defs _ _).mono
    (fun r h => ⟨fun c => (h c).2, sem_eq_zero_of_no_sems (by decide) r.2⟩)
    (Cert.ReferenceProjAIdeal.Value.run (F := Ideal) m ρ)

/-- The kernel's product A and the reference's are equal. -/
theorem values_A : algebraic_KernelProjAIdeal_ReferenceProjAIdeal (hKernelProjAIdeal := Cert.KernelProjAIdeal.Gen.facts)
    (hReferenceProjAIdeal := Cert.ReferenceProjAIdeal.Gen.facts) := by
  intro m ρ m' ρ' _ hagree
  refine ⟨fun c => Natten.ProjA.product (m ((c.tc : Thread Cert.KernelProjAIdeal.nD Cert.KernelProjAIdeal.τ).loc Cert.KernelProjAIdeal.main_arg0))
      (m ((c.tc : Thread Cert.KernelProjAIdeal.nD Cert.KernelProjAIdeal.τ).loc Cert.KernelProjAIdeal.main_arg1)),
    (θ_run Cert.KernelProjAIdeal.defs _ _).mono (fun _ h c => ⟨(h c).1.trans ?_, (h c).2⟩) (Cert.KernelProjAIdeal.Value.run_blocks m ρ),
    (θ_run Cert.ReferenceProjAIdeal.defs _ _).mono (fun _ h c => ⟨(h c).1.trans ?_, (h c).2⟩)
      (Cert.ReferenceProjAIdeal.Value.run m' ρ')⟩
  · exact (Natten.ProjA.array_eq m c).trans (congrArg₂ Natten.ProjA.product (Cert.KernelProjAIdeal.Gen.V_main_arg0 m c)
      (Cert.KernelProjAIdeal.Gen.V_main_arg1 m c))
  · obtain ⟨h0, h1⟩ := hagree c
    rw [h0, h1]
    exact Natten.ProjA.columns_eq _ _

/-- The reference of product B runs and leaves its arguments and semaphores as they were. -/
theorem reference_frame_B : quiescent_ReferenceProjBIdeal (hReferenceProjBIdeal := Cert.ReferenceProjBIdeal.Gen.facts) := fun m ρ _ =>
  (θ_run Cert.ReferenceProjBIdeal.defs _ _).mono
    (fun r h => ⟨fun c => (h c).2, sem_eq_zero_of_no_sems (by decide) r.2⟩)
    (Cert.ReferenceProjBIdeal.Value.run (F := Ideal) m ρ)

/-- The kernel's product B and the reference's are equal. -/
theorem values_B : algebraic_KernelProjBIdeal_ReferenceProjBIdeal (hKernelProjBIdeal := Cert.KernelProjBIdeal.Gen.facts)
    (hReferenceProjBIdeal := Cert.ReferenceProjBIdeal.Gen.facts) := by
  intro m ρ m' ρ' _ hagree
  refine ⟨fun c => Natten.ProjB.product (m ((c.tc : Thread Cert.KernelProjBIdeal.nD Cert.KernelProjBIdeal.τ).loc Cert.KernelProjBIdeal.main_arg0))
      (m ((c.tc : Thread Cert.KernelProjBIdeal.nD Cert.KernelProjBIdeal.τ).loc Cert.KernelProjBIdeal.main_arg1)),
    (θ_run Cert.KernelProjBIdeal.defs _ _).mono (fun _ h c => ⟨(h c).1.trans ?_, (h c).2⟩) (Cert.KernelProjBIdeal.Value.run_blocks m ρ),
    (θ_run Cert.ReferenceProjBIdeal.defs _ _).mono (fun _ h c => ⟨(h c).1.trans ?_, (h c).2⟩)
      (Cert.ReferenceProjBIdeal.Value.run m' ρ')⟩
  · exact (Natten.ProjB.array_eq m c).trans (congrArg₂ Natten.ProjB.product (Cert.KernelProjBIdeal.Gen.V_main_arg0 m c)
      (Cert.KernelProjBIdeal.Gen.V_main_arg1 m c))
  · obtain ⟨h0, h1⟩ := hagree c
    rw [h0, h1]
    exact Natten.ProjB.columns_eq _ _

/-- The experts of a launch's table are in range, where the precondition holds. -/
theorem experts_in_range (m : (ℓ : Loc Cert.KernelUpIdeal.nD Cert.KernelUpIdeal.τ Cert.KernelUpIdeal.sig) → Buf (Elt Ideal) ℓ)
    (h : Pre_KernelUpIdeal (hPre_experts := Cert.Pre_experts.Gen.facts) m) : Natten.Routed.InRange (Natten.Up.words m) :=
  Natten.Up.inRange_of _ _ _ _ (h 0)

/-- The experts' launch runs and leaves its arguments and semaphores as they were, -/
theorem frame_up_ideal : quiescent_KernelUpIdeal (hKernelUpIdeal := Cert.KernelUpIdeal.Gen.facts)
    (hPre_experts := Cert.Pre_experts.Gen.facts) := fun m ρ h => Natten.Up.frame m ρ (experts_in_range m h)

/-- at machine numbers too: the two programs are one text. -/
theorem frame_up : quiescent_KernelUp (hKernelUp := Cert.KernelUp.Gen.facts) (hPre_experts := Cert.Pre_experts.Gen.facts) := fun m ρ h => by
  rw [Natten.Up.text_defs, Natten.Up.text_main]
  exact Natten.Up.frame (F := Bits) m ρ (Natten.Up.inRange_of _ _ _ _ (h 0))

/-- The reference of the experts' product runs and leaves its arguments and semaphores as they were. -/
theorem reference_frame_up : quiescent_ReferenceUpIdeal (hReferenceUpIdeal := Cert.ReferenceUpIdeal.Gen.facts)
    (hPre_experts := Cert.Pre_experts.Gen.facts) := fun m ρ _ =>
  (θ_run Cert.ReferenceUpIdeal.defs _ _).mono
    (fun r h => ⟨fun c => (h c).2, sem_eq_zero_of_no_sems (by decide) r.2⟩)
    (Cert.ReferenceUpIdeal.Value.run (F := Ideal) m ρ)

/-- The experts' launch and the reference are equal where every expert exists. -/
theorem values_up : algebraic_KernelUpIdeal_ReferenceUpIdeal (hKernelUpIdeal := Cert.KernelUpIdeal.Gen.facts)
    (hReferenceUpIdeal := Cert.ReferenceUpIdeal.Gen.facts) (hPre_experts := Cert.Pre_experts.Gen.facts) := by
  intro m ρ m' ρ' hpre hagree
  have hr := experts_in_range m hpre
  refine ⟨fun c => Natten.Up.hidden (Natten.Up.words m) (m ((c.tc : Thread Cert.KernelUpIdeal.nD Cert.KernelUpIdeal.τ).loc Cert.KernelUpIdeal.main_arg1))
      (m ((c.tc : Thread Cert.KernelUpIdeal.nD Cert.KernelUpIdeal.τ).loc Cert.KernelUpIdeal.main_arg2))
      (m ((c.tc : Thread Cert.KernelUpIdeal.nD Cert.KernelUpIdeal.τ).loc Cert.KernelUpIdeal.main_arg3)),
    Natten.Up.run_blocks m ρ hr,
    (θ_run Cert.ReferenceUpIdeal.defs _ _).mono (fun _ h c => ⟨(h c).1.trans ?_, (h c).2⟩)
      (Cert.ReferenceUpIdeal.Value.run m' ρ')⟩
  obtain ⟨h0, h1, h2, h3⟩ := hagree c
  obtain rfl : c = 0 := Subsingleton.elim _ _
  rw [h0, h1, h2, h3]
  exact Natten.Up.grouped_eq hr _ _ _

/-- The experts of the second launch's table are in range, where the precondition holds. -/
theorem all_experts_in_range (m : (ℓ : Loc Cert.KernelDownIdeal.nD Cert.KernelDownIdeal.τ Cert.KernelDownIdeal.sig) → Buf (Elt Ideal) ℓ)
    (h : Pre_KernelDownIdeal (hPre_all_experts := Cert.Pre_all_experts.Gen.facts) m) : Natten.Routed.InRange (Natten.Down.words m) :=
  Natten.Down.inRange_of _ _ _ _ _ _ (h 0)

/-- The experts' second launch runs and leaves its arguments and semaphores as they were, -/
theorem frame_down_ideal : quiescent_KernelDownIdeal (hKernelDownIdeal := Cert.KernelDownIdeal.Gen.facts)
    (hPre_all_experts := Cert.Pre_all_experts.Gen.facts) := fun m ρ h => Natten.Down.frame m ρ (all_experts_in_range m h)

/-- at machine numbers too: the two programs are one text. -/
theorem frame_down : quiescent_KernelDown (hKernelDown := Cert.KernelDown.Gen.facts) (hPre_all_experts := Cert.Pre_all_experts.Gen.facts) := fun m ρ h => by
  rw [Natten.Down.text_defs, Natten.Down.text_main]
  exact Natten.Down.frame (F := Bits) m ρ (Natten.Down.inRange_of _ _ _ _ _ _ (h 0))

/-- The reference of the experts' second product runs and leaves its arguments and semaphores as they were. -/
theorem reference_frame_down : quiescent_ReferenceDownIdeal (hReferenceDownIdeal := Cert.ReferenceDownIdeal.Gen.facts)
    (hPre_all_experts := Cert.Pre_all_experts.Gen.facts) := fun m ρ _ =>
  (θ_run Cert.ReferenceDownIdeal.defs _ _).mono
    (fun r h => ⟨fun c => (h c).2, sem_eq_zero_of_no_sems (by decide) r.2⟩)
    (Cert.ReferenceDownIdeal.Value.run (F := Ideal) m ρ)

/-- The experts' second launch and the reference are equal where every expert exists. -/
theorem values_down : algebraic_KernelDownIdeal_ReferenceDownIdeal (hKernelDownIdeal := Cert.KernelDownIdeal.Gen.facts)
    (hReferenceDownIdeal := Cert.ReferenceDownIdeal.Gen.facts) (hPre_all_experts := Cert.Pre_all_experts.Gen.facts) := by
  intro m ρ m' ρ' hpre hagree
  have hr := all_experts_in_range m hpre
  refine ⟨fun c => Natten.Down.projected (Natten.Down.words m) (m ((c.tc : Thread Cert.KernelDownIdeal.nD Cert.KernelDownIdeal.τ).loc Cert.KernelDownIdeal.main_arg1))
      (m ((c.tc : Thread Cert.KernelDownIdeal.nD Cert.KernelDownIdeal.τ).loc Cert.KernelDownIdeal.main_arg2))
      (m ((c.tc : Thread Cert.KernelDownIdeal.nD Cert.KernelDownIdeal.τ).loc Cert.KernelDownIdeal.main_arg3))
      (m ((c.tc : Thread Cert.KernelDownIdeal.nD Cert.KernelDownIdeal.τ).loc Cert.KernelDownIdeal.main_arg4))
      (m ((c.tc : Thread Cert.KernelDownIdeal.nD Cert.KernelDownIdeal.τ).loc Cert.KernelDownIdeal.main_arg5)),
    Natten.Down.run_blocks m ρ hr,
    (θ_run Cert.ReferenceDownIdeal.defs _ _).mono (fun _ h c => ⟨(h c).1.trans ?_, (h c).2⟩)
      (Cert.ReferenceDownIdeal.Value.run m' ρ')⟩
  obtain ⟨h0, h1, h2, h3, h4, h5⟩ := hagree c
  obtain rfl : c = 0 := Subsingleton.elim _ _
  rw [h0, h1, h2, h3, h4, h5]
  exact Natten.Down.grouped_eq hr _ _ _ _ _

/-- The reference of the output projection runs and leaves its arguments and semaphores as they were. -/
theorem reference_frame_out : quiescent_ReferenceOutIdeal (hReferenceOutIdeal := Cert.ReferenceOutIdeal.Gen.facts) := fun m ρ _ =>
  (θ_run Cert.ReferenceOutIdeal.defs _ _).mono
    (fun r h => ⟨fun c => (h c).2, sem_eq_zero_of_no_sems (by decide) r.2⟩)
    (Cert.ReferenceOutIdeal.Value.run (F := Ideal) m ρ)

/-- The kernel's output projection and the reference's are equal. -/
theorem values_out : algebraic_KernelOutIdeal_ReferenceOutIdeal (hKernelOutIdeal := Cert.KernelOutIdeal.Gen.facts)
    (hReferenceOutIdeal := Cert.ReferenceOutIdeal.Gen.facts) := by
  intro m ρ m' ρ' _ hagree
  refine ⟨fun c => Natten.Out.rows (m ((c.tc : Thread Cert.KernelOutIdeal.nD Cert.KernelOutIdeal.τ).loc Cert.KernelOutIdeal.main_arg0))
      (m ((c.tc : Thread Cert.KernelOutIdeal.nD Cert.KernelOutIdeal.τ).loc Cert.KernelOutIdeal.main_arg1))
      (m ((c.tc : Thread Cert.KernelOutIdeal.nD Cert.KernelOutIdeal.τ).loc Cert.KernelOutIdeal.main_arg2))
      (m ((c.tc : Thread Cert.KernelOutIdeal.nD Cert.KernelOutIdeal.τ).loc Cert.KernelOutIdeal.main_arg3))
      (m ((c.tc : Thread Cert.KernelOutIdeal.nD Cert.KernelOutIdeal.τ).loc Cert.KernelOutIdeal.main_arg4)),
    (θ_run Cert.KernelOutIdeal.defs _ _).mono (fun _ h c => ⟨(h c).1.trans ?_, (h c).2⟩) (Cert.KernelOutIdeal.Value.run_blocks m ρ),
    (θ_run Cert.ReferenceOutIdeal.defs _ _).mono (fun _ h c => ⟨(h c).1.trans ?_, (h c).2⟩)
      (Cert.ReferenceOutIdeal.Value.run m' ρ')⟩
  · rw [Natten.Out.array_eq, Cert.KernelOutIdeal.Gen.V_main_arg0, Cert.KernelOutIdeal.Gen.V_main_arg1, Cert.KernelOutIdeal.Gen.V_main_arg2,
      Cert.KernelOutIdeal.Gen.V_main_arg3, Cert.KernelOutIdeal.Gen.V_main_arg4]
  · obtain ⟨h0, h1, h2, h3, h4⟩ := hagree c
    rw [h0, h1, h2, h3, h4]
    exact Natten.Out.result_eq _ _ _ _ _

/-- The reference of the gate columns runs and leaves its arguments and semaphores as they were. -/
theorem reference_frame_gates : quiescent_ReferenceGatesIdeal (hReferenceGatesIdeal := Cert.ReferenceGatesIdeal.Gen.facts) := fun m ρ _ =>
  (θ_run Cert.ReferenceGatesIdeal.defs _ _).mono
    (fun r h => ⟨fun c => (h c).2, sem_eq_zero_of_no_sems (by decide) r.2⟩)
    (Cert.ReferenceGatesIdeal.Value.run (F := Ideal) m ρ)

/-- The kernel's gate columns and the reference's are equal. -/
theorem values_gates : algebraic_KernelGatesIdeal_ReferenceGatesIdeal (hKernelGatesIdeal := Cert.KernelGatesIdeal.Gen.facts)
    (hReferenceGatesIdeal := Cert.ReferenceGatesIdeal.Gen.facts) := by
  intro m ρ m' ρ' _ hagree
  refine ⟨fun c => Natten.Gates.product (m ((c.tc : Thread Cert.KernelGatesIdeal.nD Cert.KernelGatesIdeal.τ).loc Cert.KernelGatesIdeal.main_arg0))
      (m ((c.tc : Thread Cert.KernelGatesIdeal.nD Cert.KernelGatesIdeal.τ).loc Cert.KernelGatesIdeal.main_arg1)),
    (θ_run Cert.KernelGatesIdeal.defs _ _).mono (fun _ h c => ⟨(h c).1.trans ?_, (h c).2⟩) (Cert.KernelGatesIdeal.Value.run_blocks m ρ),
    (θ_run Cert.ReferenceGatesIdeal.defs _ _).mono (fun _ h c => ⟨(h c).1.trans ?_, (h c).2⟩) (Cert.ReferenceGatesIdeal.Value.run m' ρ')⟩
  · rw [Natten.Gates.array_eq, Cert.KernelGatesIdeal.Gen.V_main_arg0, Cert.KernelGatesIdeal.Gen.V_main_arg1]
  · obtain ⟨h0, h1⟩ := hagree c
    rw [h0, h1]
    exact Natten.Gates.columns_eq _ _

/-- The reference of the modulation runs and leaves its arguments and semaphores as they were. -/
theorem reference_frame_ada : quiescent_ReferenceAdaIdeal (hReferenceAdaIdeal := Cert.ReferenceAdaIdeal.Gen.facts) := fun m ρ _ =>
  (θ_run Cert.ReferenceAdaIdeal.defs _ _).mono
    (fun r h => ⟨fun c => (h c).2, sem_eq_zero_of_no_sems (by decide) r.2⟩)
    (Cert.ReferenceAdaIdeal.Value.run (F := Ideal) m ρ)

/-- The kernel's modulation and the reference's are equal. -/
theorem values_ada : algebraic_KernelAdaIdeal_ReferenceAdaIdeal (hKernelAdaIdeal := Cert.KernelAdaIdeal.Gen.facts)
    (hReferenceAdaIdeal := Cert.ReferenceAdaIdeal.Gen.facts) := by
  intro m ρ m' ρ' _ hagree
  refine ⟨fun c => Natten.Ada.modulation (m ((c.tc : Thread Cert.KernelAdaIdeal.nD Cert.KernelAdaIdeal.τ).loc Cert.KernelAdaIdeal.main_arg0))
      (m ((c.tc : Thread Cert.KernelAdaIdeal.nD Cert.KernelAdaIdeal.τ).loc Cert.KernelAdaIdeal.main_arg1))
      (m ((c.tc : Thread Cert.KernelAdaIdeal.nD Cert.KernelAdaIdeal.τ).loc Cert.KernelAdaIdeal.main_arg2)),
    (θ_run Cert.KernelAdaIdeal.defs _ _).mono (fun _ h c => ⟨(h c).1.trans ?_, (h c).2⟩) (Cert.KernelAdaIdeal.Value.run_blocks m ρ),
    (θ_run Cert.ReferenceAdaIdeal.defs _ _).mono (fun _ h c => ⟨(h c).1.trans ?_, (h c).2⟩) (Cert.ReferenceAdaIdeal.Value.run m' ρ')⟩
  · rw [Natten.Ada.array_eq, Cert.KernelAdaIdeal.Gen.V_main_arg0, Cert.KernelAdaIdeal.Gen.V_main_arg1, Cert.KernelAdaIdeal.Gen.V_main_arg2]
  · obtain ⟨h0, h1, h2⟩ := hagree c
    rw [h0, h1, h2]
    exact Natten.Ada.result_eq _ _ _

/-- The reference of the norm runs and leaves its arguments and semaphores as they were. -/
theorem reference_frame_norm : quiescent_ReferenceNormIdeal (hReferenceNormIdeal := Cert.ReferenceNormIdeal.Gen.facts) := fun m ρ _ =>
  (θ_run Cert.ReferenceNormIdeal.defs _ _).mono
    (fun r h => ⟨fun c => (h c).2.2, sem_eq_zero_of_no_sems (by decide) r.2⟩)
    (Cert.ReferenceNormIdeal.Value.run (F := Ideal) m ρ)

/-- The kernel's normed tokens and their logits and the reference's are equal. -/
theorem values_norm : algebraic_KernelNormIdeal_ReferenceNormIdeal (hKernelNormIdeal := Cert.KernelNormIdeal.Gen.facts)
    (hReferenceNormIdeal := Cert.ReferenceNormIdeal.Gen.facts) := by
  intro m ρ m' ρ' _ hagree
  refine ⟨fun c => Natten.Norm.tokens (m ((c.tc : Thread Cert.KernelNormIdeal.nD Cert.KernelNormIdeal.τ).loc Cert.KernelNormIdeal.main_arg0))
      (m ((c.tc : Thread Cert.KernelNormIdeal.nD Cert.KernelNormIdeal.τ).loc Cert.KernelNormIdeal.main_arg1))
      (m ((c.tc : Thread Cert.KernelNormIdeal.nD Cert.KernelNormIdeal.τ).loc Cert.KernelNormIdeal.main_arg2)),
    fun c => Natten.Norm.logits (m ((c.tc : Thread Cert.KernelNormIdeal.nD Cert.KernelNormIdeal.τ).loc Cert.KernelNormIdeal.main_arg0))
      (m ((c.tc : Thread Cert.KernelNormIdeal.nD Cert.KernelNormIdeal.τ).loc Cert.KernelNormIdeal.main_arg1))
      (m ((c.tc : Thread Cert.KernelNormIdeal.nD Cert.KernelNormIdeal.τ).loc Cert.KernelNormIdeal.main_arg2))
      (m ((c.tc : Thread Cert.KernelNormIdeal.nD Cert.KernelNormIdeal.τ).loc Cert.KernelNormIdeal.main_arg3)),
    (θ_run Cert.KernelNormIdeal.defs _ _).mono (fun _ h c => ⟨(h c).1.trans ?_, (h c).2.1.trans ?_, (h c).2.2⟩) (Cert.KernelNormIdeal.Value.run_blocks m ρ),
    (θ_run Cert.ReferenceNormIdeal.defs _ _).mono (fun _ h c => ⟨(h c).1.trans ?_, (h c).2.1.trans ?_, (h c).2.2⟩) (Cert.ReferenceNormIdeal.Value.run m' ρ')⟩
  · rw [Natten.Norm.tokens_array_eq, Cert.KernelNormIdeal.Gen.V_main_arg0, Cert.KernelNormIdeal.Gen.V_main_arg1, Cert.KernelNormIdeal.Gen.V_main_arg2]
  · rw [Natten.Norm.logits_array_eq, Cert.KernelNormIdeal.Gen.V_main_arg0, Cert.KernelNormIdeal.Gen.V_main_arg1, Cert.KernelNormIdeal.Gen.V_main_arg2, Cert.KernelNormIdeal.Gen.V_main_arg3]
  · obtain ⟨h0, h1, h2, h3⟩ := hagree c
    rw [h0, h1, h2]
    exact Natten.Norm.tokens_eq _ _ _
  · obtain ⟨h0, h1, h2, h3⟩ := hagree c
    rw [h0, h1, h2, h3]
    exact Natten.Norm.logits_eq _ _ _ _

/-- The reference of the last sum runs and leaves its arguments and semaphores as they were. -/
theorem reference_frame_comb : quiescent_ReferenceCombIdeal (hReferenceCombIdeal := Cert.ReferenceCombIdeal.Gen.facts) := fun m ρ _ =>
  (θ_run Cert.ReferenceCombIdeal.defs _ _).mono
    (fun r h => ⟨fun c => (h c).2, sem_eq_zero_of_no_sems (by decide) r.2⟩)
    (Cert.ReferenceCombIdeal.Value.run (F := Ideal) m ρ)

/-- The kernel's last sum and the reference's are equal. -/
theorem values_comb : algebraic_KernelCombIdeal_ReferenceCombIdeal (hKernelCombIdeal := Cert.KernelCombIdeal.Gen.facts)
    (hReferenceCombIdeal := Cert.ReferenceCombIdeal.Gen.facts) := by
  intro m ρ m' ρ' _ hagree
  refine ⟨fun c => Natten.Comb.summed (m ((c.tc : Thread Cert.KernelCombIdeal.nD Cert.KernelCombIdeal.τ).loc Cert.KernelCombIdeal.main_arg0))
      (m ((c.tc : Thread Cert.KernelCombIdeal.nD Cert.KernelCombIdeal.τ).loc Cert.KernelCombIdeal.main_arg1))
      (m ((c.tc : Thread Cert.KernelCombIdeal.nD Cert.KernelCombIdeal.τ).loc Cert.KernelCombIdeal.main_arg2))
      (m ((c.tc : Thread Cert.KernelCombIdeal.nD Cert.KernelCombIdeal.τ).loc Cert.KernelCombIdeal.main_arg3))
      (m ((c.tc : Thread Cert.KernelCombIdeal.nD Cert.KernelCombIdeal.τ).loc Cert.KernelCombIdeal.main_arg4)),
    (θ_run Cert.KernelCombIdeal.defs _ _).mono (fun _ h c => ⟨(h c).1.trans ?_, (h c).2⟩) (Cert.KernelCombIdeal.Value.run_blocks m ρ),
    (θ_run Cert.ReferenceCombIdeal.defs _ _).mono (fun _ h c => ⟨(h c).1.trans ?_, (h c).2⟩) (Cert.ReferenceCombIdeal.Value.run m' ρ')⟩
  · rw [Natten.Comb.array_eq, Cert.KernelCombIdeal.Gen.V_main_arg0, Cert.KernelCombIdeal.Gen.V_main_arg1, Cert.KernelCombIdeal.Gen.V_main_arg2, Cert.KernelCombIdeal.Gen.V_main_arg3, Cert.KernelCombIdeal.Gen.V_main_arg4]
  · obtain ⟨h0, h1, h2, h3, h4⟩ := hagree c
    rw [h0, h1, h2, h3, h4]
    exact Natten.Comb.result_eq _ _ _ _ _

/-- Everything claimed. -/
theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelProjA.Gen.facts, Cert.KernelProjAIdeal.Gen.facts, Cert.ReferenceProjAIdeal.Gen.facts,
  Cert.KernelProjB.Gen.facts, Cert.KernelProjBIdeal.Gen.facts, Cert.ReferenceProjBIdeal.Gen.facts,
  Cert.KernelOut.Gen.facts, Cert.KernelOutIdeal.Gen.facts, Cert.ReferenceOutIdeal.Gen.facts,
  Cert.KernelGates.Gen.facts, Cert.KernelGatesIdeal.Gen.facts, Cert.ReferenceGatesIdeal.Gen.facts,
  Cert.KernelAda.Gen.facts, Cert.KernelAdaIdeal.Gen.facts, Cert.ReferenceAdaIdeal.Gen.facts,
  Cert.KernelNorm.Gen.facts, Cert.KernelNormIdeal.Gen.facts, Cert.ReferenceNormIdeal.Gen.facts,
  Cert.KernelComb.Gen.facts, Cert.KernelCombIdeal.Gen.facts, Cert.ReferenceCombIdeal.Gen.facts,
  Cert.Pre_finite.Gen.facts,
  Cert.Pre_experts.Gen.facts, Cert.Pre_all_experts.Gen.facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  frame_up, frame_up_ideal, reference_frame_up,
  frame_down, frame_down_ideal, reference_frame_down,
  fun m ρ _ => Cert.KernelProjA.Gen.frame m ρ, fun m ρ _ => Cert.KernelProjAIdeal.Gen.frame m ρ, reference_frame_A,
  fun m ρ _ => Cert.KernelProjB.Gen.frame m ρ, fun m ρ _ => Cert.KernelProjBIdeal.Gen.frame m ρ, reference_frame_B,
  fun m ρ _ => Cert.KernelOut.Gen.frame m ρ, fun m ρ _ => Cert.KernelOutIdeal.Gen.frame m ρ, reference_frame_out,
  fun m ρ _ => Cert.KernelGates.Gen.frame m ρ, fun m ρ _ => Cert.KernelGatesIdeal.Gen.frame m ρ, reference_frame_gates,
  fun m ρ _ => Cert.KernelAda.Gen.frame m ρ, fun m ρ _ => Cert.KernelAdaIdeal.Gen.frame m ρ, reference_frame_ada,
  fun m ρ _ => Cert.KernelNorm.Gen.frame m ρ, fun m ρ _ => Cert.KernelNormIdeal.Gen.frame m ρ, reference_frame_norm,
  fun m ρ _ => Cert.KernelComb.Gen.frame m ρ, fun m ρ _ => Cert.KernelCombIdeal.Gen.frame m ρ, reference_frame_comb,
  trivial, values, trivial, values_up, trivial, values_down, trivial, values_A, trivial, values_B, trivial, values_out,
  trivial, values_gates, trivial, values_ada, trivial, values_norm, trivial, values_comb⟩

end Cert.Proof

end
